-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 4, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .bf16) (main_arg1 : FVec F S1024x8192 .bf16) : IVec S512x1024 1 × IVec S1024x8192 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x32768 : Shape := ⟨2, ![1024, 32768]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)

variable [Facts]

def fn {F : FTy → Type} [FloatOps F] (main_arg0 : FVec F S512x1024 .bf16) (main_arg1 : FVec F S1024x32768 .bf16) : IVec S512x1024 1 × IVec S1024x32768 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x32768 .bf16 := Host.absf main_arg1
  let main_cst_0 : FVec F S_ .bf16 := constant S_ .bf16 0x7F80#16
  let main_v4 : FVec F S1024x32768 .bf16 := broadcastInDim S1024x32768 ![] bcast_S_S1024x32768 main_cst_0
  let main_v5 : IVec S1024x32768 1 := cmpf .olt main_v3 main_v4
  (main_v2, main_v5)
-- ==== Kernel.lean ====
abbrev S512x1024 : Shape := ⟨2, ![512, 1024]⟩
abbrev S1024x8192 : Shape := ⟨2, ![1024, 8192]⟩
abbrev S512x32768 : Shape := ⟨2, ![512, 32768]⟩
abbrev S32x512x1024 : Shape := ⟨3, ![32, 512, 1024]⟩
abbrev S2x1024x1024 : Shape := ⟨3, ![2, 1024, 1024]⟩
abbrev S2x512x1024 : Shape := ⟨3, ![2, 512, 1024]⟩
abbrev S4x512x1 : Shape := ⟨3, ![4, 512, 1]⟩
abbrev S3x4 : Shape := ⟨2, ![3, 4]⟩
abbrev S3 : Shape := ⟨1, ![3]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S512x1 : Shape := ⟨2, ![512, 1]⟩
abbrev S1x512x1024 : Shape := ⟨3, ![1, 512, 1024]⟩
abbrev S512 : Shape := ⟨1, ![512]⟩
abbrev S1x1 : Shape := ⟨2, ![1, 1]⟩
abbrev S1x512x1 : Shape := ⟨3, ![1, 512, 1]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1024x8192, .bf16⟩
  | .hbm, ⟨2, _⟩ => ⟨S512x32768, .f32⟩
  | .local _ .vmem, ⟨0, _⟩ => ⟨S512x1024, .bf16⟩
  | .local _ .vmem, ⟨1, _⟩ => ⟨S32x512x1024, .bf16⟩
  | .local _ .vmem, ⟨2, _⟩ => ⟨S2x1024x1024, .bf16⟩
  | .local _ .vmem, ⟨3, _⟩ => ⟨S2x512x1024, .f32⟩
  | .local _ .vmem, ⟨4, _⟩ => ⟨S4x512x1, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_18 : BitVec 32 := 4#32
  let v34 : BitVec 32 := Scalar.muli v19 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v36 : BitVec 32 := Scalar.muli v8 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_23 : BitVec 32 := 4#32
  let v40 : BitVec 32 := Scalar.muli v30 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_off1 (c0_i32_26 : BitVec 32) : Fin 1 → Nat :=
  let c2_i32_27 : BitVec 32 := 2#32
  let v44 : BitVec 32 := Scalar.remsi c0_i32_26 c2_i32_27
  ![v44.toNat]
def k0_off1_at (r : Fin 4) : BitVec 32 :=
  if r.val < 2 then
    if r.val < 1 then
      0#32
    else
      1#32
  else
    if r.val < 3 then
      6#32
    else
      7#32
def k0_off2 (c0_i32_26 : BitVec 32) : Fin 3 → Nat :=
  let c2_i32_27 : BitVec 32 := 2#32
  let v44 : BitVec 32 := Scalar.remsi c0_i32_26 c2_i32_27
  let c0_i32_28 : BitVec 32 := 0#32
  let c0_i32_29 : BitVec 32 := 0#32
  ![v44.toNat, 0, 0]
@[reducible] def k0_t1_loop : Scf.Loop 32 :=
  let c0_i32_37 : BitVec 32 := 0#32
  let c8_i32 : BitVec 32 := 8#32
  let v57 : BitVec 32 := Scalar.addi c0_i32_37 c8_i32
  let c1_i32_38 : BitVec 32 := 1#32
  ⟨c0_i32_37, v57, c1_i32_38⟩
def k0_off3 (k0_t1 : Fin k0_t1_loop.trips) : Fin 1 → Nat :=
  let c0_i32_37 : BitVec 32 := 0#32
  let c1_i32_38 : BitVec 32 := 1#32
  let arg13 : BitVec 32 := Scf.iv c0_i32_37 c1_i32_38 k0_t1
  let c2_i32_931 : BitVec 32 := 2#32
  let v1029 : BitVec 32 := Scalar.remsi arg13 c2_i32_931
  ![v1029.toNat]
def k0_off4 (k0_t1 : Fin k0_t1_loop.trips) : Fin 3 → Nat :=
  let c0_i32_37 : BitVec 32 := 0#32
  let c1_i32_38 : BitVec 32 := 1#32
  let arg13 : BitVec 32 := Scf.iv c0_i32_37 c1_i32_38 k0_t1
  let c2_i32_931 : BitVec 32 := 2#32
  let v1029 : BitVec 32 := Scalar.remsi arg13 c2_i32_931
  let c0_i32_933 : BitVec 32 := 0#32
  let c0_i32_934 : BitVec 32 := 0#32
  ![v1029.toNat, 0, 0]
def k0_off5 (k0_t1 : Fin k0_t1_loop.trips) : Fin 2 → Nat :=
  let c0_i32_935 : BitVec 32 := 0#32
  let c0_i32_37 : BitVec 32 := 0#32
  let c1_i32_38 : BitVec 32 := 1#32
  let arg13 : BitVec 32 := Scf.iv c0_i32_37 c1_i32_38 k0_t1
  let c1024_i32_932 : BitVec 32 := 1024#32
  let v1030 : BitVec 32 := Scalar.muli arg13 c1024_i32_932
  ![0, v1030.toNat]
def k0_off6 (k0_t1 : Fin k0_t1_loop.trips) : Fin 3 → Nat :=
  let c0_i32_37 : BitVec 32 := 0#32
  let c1_i32_38 : BitVec 32 := 1#32
  let arg13 : BitVec 32 := Scf.iv c0_i32_37 c1_i32_38 k0_t1
  let c2_i32_930 : BitVec 32 := 2#32
  let v1028 : BitVec 32 := Scalar.remsi arg13 c2_i32_930
  let v1038 : Index := Scalar.indexCast v1028
  let c0_938 : Index := 0#32
  let c0_939 : Index := 0#32
  ![v1038.toNat, 0, 0]
def k0_off7 (d0 : Dev nD) (k0_t1 : Fin k0_t1_loop.trips) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_942 : BitVec 32 := 8#32
  let v1047 : BitVec 32 := Scalar.muli v5 c8_i32_942
  let c0_i32_37 : BitVec 32 := 0#32
  let c1_i32_38 : BitVec 32 := 1#32
  let arg13 : BitVec 32 := Scf.iv c0_i32_37 c1_i32_38 k0_t1
  let v1048 : BitVec 32 := Scalar.addi v1047 arg13
  let v1049 : Index := Scalar.indexCast v1048
  let c0_943 : Index := 0#32
  let c0_944 : Index := 0#32
  ![v1049.toNat, 0, 0]
def k0_cond1 (k0_t1 : Fin k0_t1_loop.trips) : BitVec 1 :=
  let c0_i32_37 : BitVec 32 := 0#32
  let c1_i32_38 : BitVec 32 := 1#32
  let arg13 : BitVec 32 := Scf.iv c0_i32_37 c1_i32_38 k0_t1
  let c2_i32_946 : BitVec 32 := 2#32
  let v1056 : BitVec 32 := Scalar.addi arg13 c2_i32_946
  let c8_i32_947 : BitVec 32 := 8#32
  let v1057 : BitVec 1 := Scalar.cmpi .slt v1056 c8_i32_947
  let v1058 : BitVec 32 := Scalar.extui v1057
  let c0_i32_948 : BitVec 32 := 0#32
  let v1059 : BitVec 1 := Scalar.cmpi .ne v1058 c0_i32_948
  v1059

def k0_off8 (k0_t1 : Fin k0_t1_loop.trips) : Fin 1 → Nat :=
  let c0_i32_37 : BitVec 32 := 0#32
  let c1_i32_38 : BitVec 32 := 1#32
  let arg13 : BitVec 32 := Scf.iv c0_i32_37 c1_i32_38 k0_t1
  let c2_i32_952 : BitVec 32 := 2#32
  let v1064 : BitVec 32 := Scalar.addi arg13 c2_i32_952
  let c2_i32_953 : BitVec 32 := 2#32
  let v1065 : BitVec 32 := Scalar.remsi v1064 c2_i32_953
  ![v1065.toNat]
def k0_off9 (k0_t1 : Fin k0_t1_loop.trips) : Fin 3 → Nat :=
  let c0_i32_37 : BitVec 32 := 0#32
  let c1_i32_38 : BitVec 32 := 1#32
  let arg13 : BitVec 32 := Scf.iv c0_i32_37 c1_i32_38 k0_t1
  let c2_i32_952 : BitVec 32 := 2#32
  let v1064 : BitVec 32 := Scalar.addi arg13 c2_i32_952
  let c2_i32_953 : BitVec 32 := 2#32
  let v1065 : BitVec 32 := Scalar.remsi v1064 c2_i32_953
  let c0_i32_955 : BitVec 32 := 0#32
  let c0_i32_956 : BitVec 32 := 0#32
  ![v1065.toNat, 0, 0]
def k0_off10 (k0_t1 : Fin k0_t1_loop.trips) : Fin 2 → Nat :=
  let c0_i32_957 : BitVec 32 := 0#32
  let c0_i32_37 : BitVec 32 := 0#32
  let c1_i32_38 : BitVec 32 := 1#32
  let arg13 : BitVec 32 := Scf.iv c0_i32_37 c1_i32_38 k0_t1
  let c2_i32_952 : BitVec 32 := 2#32
  let v1064 : BitVec 32 := Scalar.addi arg13 c2_i32_952
  let c1024_i32_954 : BitVec 32 := 1024#32
  let v1066 : BitVec 32 := Scalar.muli v1064 c1024_i32_954
  ![0, v1066.toNat]
def k0_cond2 (k0_t1 : Fin k0_t1_loop.trips) : BitVec 1 :=
  let c0_i32_37 : BitVec 32 := 0#32
  let c1_i32_38 : BitVec 32 := 1#32
  let arg13 : BitVec 32 := Scf.iv c0_i32_37 c1_i32_38 k0_t1
  let c2_i32_949 : BitVec 32 := 2#32
  let v1060 : BitVec 32 := Scalar.remsi arg13 c2_i32_949
  let c1_i32_950 : BitVec 32 := 1#32
  let v1061 : BitVec 1 := Scalar.cmpi .eq v1060 c1_i32_950
  let v1062 : BitVec 32 := Scalar.extui v1061
  let c0_i32_951 : BitVec 32 := 0#32
  let v1063 : BitVec 1 := Scalar.cmpi .ne v1062 c0_i32_951
  v1063

def k0_off11 (k0_t1 : Fin k0_t1_loop.trips) : Fin 2 → Nat :=
  let c0_i32_970 : BitVec 32 := 0#32
  let c0_i32_37 : BitVec 32 := 0#32
  let c1_i32_38 : BitVec 32 := 1#32
  let arg13 : BitVec 32 := Scf.iv c0_i32_37 c1_i32_38 k0_t1
  let c0_i32_953 : BitVec 32 := 0#32
  let v1065 : BitVec 1 := Scalar.cmpi .sgt arg13 c0_i32_953
  let v1066 : BitVec 32 := Scalar.extui v1065
  let c0_i32_954 : BitVec 32 := 0#32
  let v1067 : BitVec 1 := Scalar.cmpi .slt arg13 c0_i32_954
  let v1068 : BitVec 32 := Scalar.extui v1067
  let v1069 : BitVec 32 := Scalar.subi v1066 v1068
  let c2_i32_952 : BitVec 32 := 2#32
  let c0_i32_955 : BitVec 32 := 0#32
  let v1070 : BitVec 1 := Scalar.cmpi .sgt c2_i32_952 c0_i32_955
  let v1071 : BitVec 32 := Scalar.extui v1070
  let c0_i32_956 : BitVec 32 := 0#32
  let v1072 : BitVec 1 := Scalar.cmpi .slt c2_i32_952 c0_i32_956
  let v1073 : BitVec 32 := Scalar.extui v1072
  let v1074 : BitVec 32 := Scalar.subi v1071 v1073
  let v1075 : BitVec 1 := Scalar.cmpi .ne v1069 v1074
  let v1076 : BitVec 32 := Scalar.remsi arg13 c2_i32_952
  let c0_i32_957 : BitVec 32 := 0#32
  let v1077 : BitVec 1 := Scalar.cmpi .ne v1076 c0_i32_957
  let v1078 : BitVec 1 := Scalar.andi v1075 v1077
  let v1064 : BitVec 32 := Scalar.divsi arg13 c2_i32_952
  let c1_i32_958 : BitVec 32 := 1#32
  let v1079 : BitVec 32 := Scalar.subi v1064 c1_i32_958
  let v1080 : BitVec 32 := Scalar.select v1078 v1079 v1064
  ![0, v1080.toNat]
def k0_off12 (d0 : Dev nD) (k0_t1 : Fin k0_t1_loop.trips) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_959 : BitVec 32 := 0#32
  let v1081 : BitVec 32 := Scalar.subi v5 c0_i32_959
  let c4_i32_960 : BitVec 32 := 4#32
  let c0_i32_961 : BitVec 32 := 0#32
  let v1082 : BitVec 1 := Scalar.cmpi .eq c4_i32_960 c0_i32_961
  let c1_i32_962 : BitVec 32 := 1#32
  let v1083 : BitVec 32 := Scalar.select v1082 c1_i32_962 c4_i32_960
  let v1084 : BitVec 32 := Scalar.remsi v1081 v1083
  let c0_i32_964 : BitVec 32 := 0#32
  let v1086 : BitVec 1 := Scalar.cmpi .slt v1084 c0_i32_964
  let c0_i32_965 : BitVec 32 := 0#32
  let v1087 : BitVec 1 := Scalar.cmpi .slt v1083 c0_i32_965
  let v1088 : BitVec 1 := Scalar.xori v1086 v1087
  let c0_i32_963 : BitVec 32 := 0#32
  let v1085 : BitVec 1 := Scalar.cmpi .ne v1084 c0_i32_963
  let v1089 : BitVec 1 := Scalar.andi v1088 v1085
  let v1090 : BitVec 32 := Scalar.addi v1084 v1083
  let v1091 : BitVec 32 := Scalar.select v1089 v1090 v1084
  let c8_i32_966 : BitVec 32 := 8#32
  let v1092 : BitVec 32 := Scalar.muli v1091 c8_i32_966
  let c0_i32_37 : BitVec 32 := 0#32
  let c1_i32_38 : BitVec 32 := 1#32
  let arg13 : BitVec 32 := Scf.iv c0_i32_37 c1_i32_38 k0_t1
  let c0_i32_953 : BitVec 32 := 0#32
  let v1065 : BitVec 1 := Scalar.cmpi .sgt arg13 c0_i32_953
  let v1066 : BitVec 32 := Scalar.extui v1065
  let c0_i32_954 : BitVec 32 := 0#32
  let v1067 : BitVec 1 := Scalar.cmpi .slt arg13 c0_i32_954
  let v1068 : BitVec 32 := Scalar.extui v1067
  let v1069 : BitVec 32 := Scalar.subi v1066 v1068
  let c2_i32_952 : BitVec 32 := 2#32
  let c0_i32_955 : BitVec 32 := 0#32
  let v1070 : BitVec 1 := Scalar.cmpi .sgt c2_i32_952 c0_i32_955
  let v1071 : BitVec 32 := Scalar.extui v1070
  let c0_i32_956 : BitVec 32 := 0#32
  let v1072 : BitVec 1 := Scalar.cmpi .slt c2_i32_952 c0_i32_956
  let v1073 : BitVec 32 := Scalar.extui v1072
  let v1074 : BitVec 32 := Scalar.subi v1071 v1073
  let v1075 : BitVec 1 := Scalar.cmpi .ne v1069 v1074
  let v1076 : BitVec 32 := Scalar.remsi arg13 c2_i32_952
  let c0_i32_957 : BitVec 32 := 0#32
  let v1077 : BitVec 1 := Scalar.cmpi .ne v1076 c0_i32_957
  let v1078 : BitVec 1 := Scalar.andi v1075 v1077
  let v1064 : BitVec 32 := Scalar.divsi arg13 c2_i32_952
  let c1_i32_958 : BitVec 32 := 1#32
  let v1079 : BitVec 32 := Scalar.subi v1064 c1_i32_958
  let v1080 : BitVec 32 := Scalar.select v1078 v1079 v1064
  let c2_i32_968 : BitVec 32 := 2#32
  let v1095 : BitVec 32 := Scalar.muli v1080 c2_i32_968
  let v1096 : BitVec 32 := Scalar.addi v1092 v1095
  let c0_i32_975 : BitVec 32 := 0#32
  let c0_i32_976 : BitVec 32 := 0#32
  ![v1096.toNat, 0, 0]
def k0_dev3 (d0 : Dev nD) : Nat :=
  let c0_i32_972 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_971 : BitVec 32 := 16#32
  let v1097 : BitVec 32 := Scalar.muli v2 c16_i32_971
  let v1098 : BitVec 32 := Scalar.addi c0_i32_972 v1097
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_973 : BitVec 32 := 4#32
  let v1099 : BitVec 32 := Scalar.muli v30 c4_i32_973
  let v1100 : BitVec 32 := Scalar.addi v1098 v1099
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_974 : BitVec 32 := 1#32
  let v1101 : BitVec 32 := Scalar.muli v8 c1_i32_974
  let v1102 : BitVec 32 := Scalar.addi v1100 v1101
  v1102.toNat
def k0_off13 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v60 : Index := Scalar.indexCast v5
  let c0 : Index := 0#32
  let c0_40 : Index := 0#32
  ![v60.toNat, 0, 0]
def k0_off14 (d0 : Dev nD) (c0_i32_41 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v64 : BitVec 32 := Scalar.subi v5 c0_i32_41
  let c4_i32_42 : BitVec 32 := 4#32
  let c0_i32_43 : BitVec 32 := 0#32
  let v65 : BitVec 1 := Scalar.cmpi .eq c4_i32_42 c0_i32_43
  let c1_i32_44 : BitVec 32 := 1#32
  let v66 : BitVec 32 := Scalar.select v65 c1_i32_44 c4_i32_42
  let v67 : BitVec 32 := Scalar.remsi v64 v66
  let c0_i32_46 : BitVec 32 := 0#32
  let v69 : BitVec 1 := Scalar.cmpi .slt v67 c0_i32_46
  let c0_i32_47 : BitVec 32 := 0#32
  let v70 : BitVec 1 := Scalar.cmpi .slt v66 c0_i32_47
  let v71 : BitVec 1 := Scalar.xori v69 v70
  let c0_i32_45 : BitVec 32 := 0#32
  let v68 : BitVec 1 := Scalar.cmpi .ne v67 c0_i32_45
  let v72 : BitVec 1 := Scalar.andi v71 v68
  let v73 : BitVec 32 := Scalar.addi v67 v66
  let v74 : BitVec 32 := Scalar.select v72 v73 v67
  let c0_i32_54 : BitVec 32 := 0#32
  let c0_i32_55 : BitVec 32 := 0#32
  ![v74.toNat, 0, 0]
def k0_dev4 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v75 : BitVec 32 := Scalar.muli v2 c16_i32_50
  let v76 : BitVec 32 := Scalar.addi c0_i32_51 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_52 : BitVec 32 := 4#32
  let v77 : BitVec 32 := Scalar.muli v30 c4_i32_52
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v79 : BitVec 32 := Scalar.muli v8 c1_i32_53
  let v80 : BitVec 32 := Scalar.addi v78 v79
  v80.toNat
def k0_dev5 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v112 : BitVec 32 := Scalar.muli v2 c16_i32_84
  let v113 : BitVec 32 := Scalar.addi c0_i32_85 v112
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_86 : BitVec 32 := 4#32
  let v114 : BitVec 32 := Scalar.muli v30 c4_i32_86
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v116 : BitVec 32 := Scalar.muli v8 c1_i32_87
  let v117 : BitVec 32 := Scalar.addi v115 v116
  v117.toNat
def k0_dev6 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_118 : BitVec 32 := 16#32
  let v149 : BitVec 32 := Scalar.muli v2 c16_i32_118
  let v150 : BitVec 32 := Scalar.addi c0_i32_119 v149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_120 : BitVec 32 := 4#32
  let v151 : BitVec 32 := Scalar.muli v30 c4_i32_120
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v153 : BitVec 32 := Scalar.muli v8 c1_i32_121
  let v154 : BitVec 32 := Scalar.addi v152 v153
  v154.toNat
def k0_off15 (d0 : Dev nD) (c0_i32_156 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_155 : BitVec 32 := 8#32
  let v189 : BitVec 32 := Scalar.muli v5 c8_i32_155
  let v190 : BitVec 32 := Scalar.addi v189 c0_i32_156
  let v191 : Index := Scalar.indexCast v190
  let c0_157 : Index := 0#32
  let c0_158 : Index := 0#32
  ![v191.toNat, 0, 0]
def k0_off16 (c0_i32_153 : BitVec 32) : Fin 3 → Nat :=
  let c2_i32_154 : BitVec 32 := 2#32
  let v188 : BitVec 32 := Scalar.remsi c0_i32_153 c2_i32_154
  let v198 : Index := Scalar.indexCast v188
  let c0_159 : Index := 0#32
  let c0_160 : Index := 0#32
  ![v198.toNat, 0, 0]
def k0_off17 (d0 : Dev nD) (c0_i32_164 : BitVec 32) : Fin 2 → Nat :=
  let c0_i32_166 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_163 : BitVec 32 := 8#32
  let v203 : BitVec 32 := Scalar.muli v5 c8_i32_163
  let v204 : BitVec 32 := Scalar.addi v203 c0_i32_164
  let c1024_i32_165 : BitVec 32 := 1024#32
  let v205 : BitVec 32 := Scalar.muli v204 c1024_i32_165
  ![0, v205.toNat]
def k0_off17_at (r : Fin 4) : BitVec 32 :=
  if r.val < 2 then
    if r.val < 1 then
      0#32
    else
      1#32
  else
    if r.val < 3 then
      6#32
    else
      7#32
def k0_off18 (c0_i32_161 : BitVec 32) : Fin 3 → Nat :=
  let c2_i32_162 : BitVec 32 := 2#32
  let v202 : BitVec 32 := Scalar.remsi c0_i32_161 c2_i32_162
  let c0_i32_167 : BitVec 32 := 0#32
  let c0_i32_168 : BitVec 32 := 0#32
  ![v202.toNat, 0, 0]
def k0_off18_at (r : Fin 4) : BitVec 32 :=
  if r.val < 2 then
    if r.val < 1 then
      0#32
    else
      1#32
  else
    if r.val < 3 then
      6#32
    else
      7#32
@[reducible] def k0_t2_loop : Scf.Loop 32 :=
  let c2_i32_185 : BitVec 32 := 2#32
  let c6_i32 : BitVec 32 := 6#32
  let v234 : BitVec 32 := Scalar.addi c2_i32_185 c6_i32
  let c1_i32_186 : BitVec 32 := 1#32
  ⟨c2_i32_185, v234, c1_i32_186⟩
def k0_off19 (k0_t2 : Fin k0_t2_loop.trips) : Fin 1 → Nat :=
  let c2_i32_185 : BitVec 32 := 2#32
  let c1_i32_186 : BitVec 32 := 1#32
  let arg13 : BitVec 32 := Scf.iv c2_i32_185 c1_i32_186 k0_t2
  let c2_i32_930 : BitVec 32 := 2#32
  let v1028 : BitVec 32 := Scalar.subi arg13 c2_i32_930
  let c2_i32_931 : BitVec 32 := 2#32
  let v1029 : BitVec 32 := Scalar.remsi v1028 c2_i32_931
  ![v1029.toNat]
def k0_off20 (d0 : Dev nD) (k0_t2 : Fin k0_t2_loop.trips) : Fin 2 → Nat :=
  let c0_i32_934 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_932 : BitVec 32 := 8#32
  let v1030 : BitVec 32 := Scalar.muli v5 c8_i32_932
  let c2_i32_185 : BitVec 32 := 2#32
  let c1_i32_186 : BitVec 32 := 1#32
  let arg13 : BitVec 32 := Scf.iv c2_i32_185 c1_i32_186 k0_t2
  let c2_i32_930 : BitVec 32 := 2#32
  let v1028 : BitVec 32 := Scalar.subi arg13 c2_i32_930
  let v1031 : BitVec 32 := Scalar.addi v1030 v1028
  let c1024_i32_933 : BitVec 32 := 1024#32
  let v1032 : BitVec 32 := Scalar.muli v1031 c1024_i32_933
  ![0, v1032.toNat]
def k0_off21 (k0_t2 : Fin k0_t2_loop.trips) : Fin 3 → Nat :=
  let c2_i32_185 : BitVec 32 := 2#32
  let c1_i32_186 : BitVec 32 := 1#32
  let arg13 : BitVec 32 := Scf.iv c2_i32_185 c1_i32_186 k0_t2
  let c2_i32_930 : BitVec 32 := 2#32
  let v1028 : BitVec 32 := Scalar.subi arg13 c2_i32_930
  let c2_i32_931 : BitVec 32 := 2#32
  let v1029 : BitVec 32 := Scalar.remsi v1028 c2_i32_931
  let c0_i32_935 : BitVec 32 := 0#32
  let c0_i32_936 : BitVec 32 := 0#32
  ![v1029.toNat, 0, 0]
def k0_off22 (d0 : Dev nD) (k0_t2 : Fin k0_t2_loop.trips) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_938 : BitVec 32 := 8#32
  let v1039 : BitVec 32 := Scalar.muli v5 c8_i32_938
  let c2_i32_185 : BitVec 32 := 2#32
  let c1_i32_186 : BitVec 32 := 1#32
  let arg13 : BitVec 32 := Scf.iv c2_i32_185 c1_i32_186 k0_t2
  let v1040 : BitVec 32 := Scalar.addi v1039 arg13
  let v1041 : Index := Scalar.indexCast v1040
  let c0_939 : Index := 0#32
  let c0_940 : Index := 0#32
  ![v1041.toNat, 0, 0]
def k0_off23 (k0_t2 : Fin k0_t2_loop.trips) : Fin 3 → Nat :=
  let c2_i32_185 : BitVec 32 := 2#32
  let c1_i32_186 : BitVec 32 := 1#32
  let arg13 : BitVec 32 := Scf.iv c2_i32_185 c1_i32_186 k0_t2
  let c2_i32_937 : BitVec 32 := 2#32
  let v1038 : BitVec 32 := Scalar.remsi arg13 c2_i32_937
  let v1048 : Index := Scalar.indexCast v1038
  let c0_941 : Index := 0#32
  let c0_942 : Index := 0#32
  ![v1048.toNat, 0, 0]
def k0_off24 (k0_t2 : Fin k0_t2_loop.trips) : Fin 1 → Nat :=
  let c2_i32_185 : BitVec 32 := 2#32
  let c1_i32_186 : BitVec 32 := 1#32
  let arg13 : BitVec 32 := Scf.iv c2_i32_185 c1_i32_186 k0_t2
  let c2_i32_943 : BitVec 32 := 2#32
  let v1052 : BitVec 32 := Scalar.remsi arg13 c2_i32_943
  ![v1052.toNat]
def k0_off25 (d0 : Dev nD) (k0_t2 : Fin k0_t2_loop.trips) : Fin 2 → Nat :=
  let c0_i32_946 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_944 : BitVec 32 := 8#32
  let v1053 : BitVec 32 := Scalar.muli v5 c8_i32_944
  let c2_i32_185 : BitVec 32 := 2#32
  let c1_i32_186 : BitVec 32 := 1#32
  let arg13 : BitVec 32 := Scf.iv c2_i32_185 c1_i32_186 k0_t2
  let v1054 : BitVec 32 := Scalar.addi v1053 arg13
  let c1024_i32_945 : BitVec 32 := 1024#32
  let v1055 : BitVec 32 := Scalar.muli v1054 c1024_i32_945
  ![0, v1055.toNat]
def k0_off26 (k0_t2 : Fin k0_t2_loop.trips) : Fin 3 → Nat :=
  let c2_i32_185 : BitVec 32 := 2#32
  let c1_i32_186 : BitVec 32 := 1#32
  let arg13 : BitVec 32 := Scf.iv c2_i32_185 c1_i32_186 k0_t2
  let c2_i32_943 : BitVec 32 := 2#32
  let v1052 : BitVec 32 := Scalar.remsi arg13 c2_i32_943
  let c0_i32_947 : BitVec 32 := 0#32
  let c0_i32_948 : BitVec 32 := 0#32
  ![v1052.toNat, 0, 0]
def k0_off27 (d0 : Dev nD) (c0_i32_203 : BitVec 32) (c0_i32_211 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v253 : BitVec 32 := Scalar.subi v5 c0_i32_203
  let c4_i32_204 : BitVec 32 := 4#32
  let c0_i32_205 : BitVec 32 := 0#32
  let v254 : BitVec 1 := Scalar.cmpi .eq c4_i32_204 c0_i32_205
  let c1_i32_206 : BitVec 32 := 1#32
  let v255 : BitVec 32 := Scalar.select v254 c1_i32_206 c4_i32_204
  let v256 : BitVec 32 := Scalar.remsi v253 v255
  let c0_i32_208 : BitVec 32 := 0#32
  let v258 : BitVec 1 := Scalar.cmpi .slt v256 c0_i32_208
  let c0_i32_209 : BitVec 32 := 0#32
  let v259 : BitVec 1 := Scalar.cmpi .slt v255 c0_i32_209
  let v260 : BitVec 1 := Scalar.xori v258 v259
  let c0_i32_207 : BitVec 32 := 0#32
  let v257 : BitVec 1 := Scalar.cmpi .ne v256 c0_i32_207
  let v261 : BitVec 1 := Scalar.andi v260 v257
  let v262 : BitVec 32 := Scalar.addi v256 v255
  let v263 : BitVec 32 := Scalar.select v261 v262 v256
  let c8_i32_210 : BitVec 32 := 8#32
  let v264 : BitVec 32 := Scalar.muli v263 c8_i32_210
  let v265 : BitVec 32 := Scalar.addi v264 c0_i32_211
  let c0_i32_218 : BitVec 32 := 0#32
  let c0_i32_219 : BitVec 32 := 0#32
  ![v265.toNat, 0, 0]
def k0_dev7 (d0 : Dev nD) : Nat :=
  let c0_i32_249 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_248 : BitVec 32 := 16#32
  let v295 : BitVec 32 := Scalar.muli v2 c16_i32_248
  let v296 : BitVec 32 := Scalar.addi c0_i32_249 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_250 : BitVec 32 := 4#32
  let v297 : BitVec 32 := Scalar.muli v30 c4_i32_250
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v299 : BitVec 32 := Scalar.muli v8 c1_i32_251
  let v300 : BitVec 32 := Scalar.addi v298 v299
  v300.toNat
def k0_dev8 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v349 : BitVec 32 := Scalar.muli v2 c16_i32_301
  let v350 : BitVec 32 := Scalar.addi c0_i32_302 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_303 : BitVec 32 := 4#32
  let v351 : BitVec 32 := Scalar.muli v30 c4_i32_303
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v353 : BitVec 32 := Scalar.muli v8 c1_i32_304
  let v354 : BitVec 32 := Scalar.addi v352 v353
  v354.toNat
def k0_dev9 (d0 : Dev nD) : Nat :=
  let c0_i32_355 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_354 : BitVec 32 := 16#32
  let v403 : BitVec 32 := Scalar.muli v2 c16_i32_354
  let v404 : BitVec 32 := Scalar.addi c0_i32_355 v403
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_356 : BitVec 32 := 4#32
  let v405 : BitVec 32 := Scalar.muli v30 c4_i32_356
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v407 : BitVec 32 := Scalar.muli v8 c1_i32_357
  let v408 : BitVec 32 := Scalar.addi v406 v407
  v408.toNat
def k0_dev10 (d0 : Dev nD) : Nat :=
  let c0_i32_407 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_406 : BitVec 32 := 16#32
  let v457 : BitVec 32 := Scalar.muli v2 c16_i32_406
  let v458 : BitVec 32 := Scalar.addi c0_i32_407 v457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_408 : BitVec 32 := 4#32
  let v459 : BitVec 32 := Scalar.muli v30 c4_i32_408
  let v460 : BitVec 32 := Scalar.addi v458 v459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v461 : BitVec 32 := Scalar.muli v8 c1_i32_409
  let v462 : BitVec 32 := Scalar.addi v460 v461
  v462.toNat
def k0_off28 (d0 : Dev nD) (c0_i32_414 : BitVec 32) (c0_i32_425 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v469 : BitVec 32 := Scalar.subi v5 c0_i32_414
  let c1_i32_415 : BitVec 32 := 1#32
  let v470 : BitVec 32 := Scalar.subi v469 c1_i32_415
  let c4_i32_416 : BitVec 32 := 4#32
  let c0_i32_417 : BitVec 32 := 0#32
  let v471 : BitVec 1 := Scalar.cmpi .eq c4_i32_416 c0_i32_417
  let c1_i32_418 : BitVec 32 := 1#32
  let v472 : BitVec 32 := Scalar.select v471 c1_i32_418 c4_i32_416
  let v473 : BitVec 32 := Scalar.remsi v470 v472
  let c0_i32_420 : BitVec 32 := 0#32
  let v475 : BitVec 1 := Scalar.cmpi .slt v473 c0_i32_420
  let c0_i32_421 : BitVec 32 := 0#32
  let v476 : BitVec 1 := Scalar.cmpi .slt v472 c0_i32_421
  let v477 : BitVec 1 := Scalar.xori v475 v476
  let c0_i32_419 : BitVec 32 := 0#32
  let v474 : BitVec 1 := Scalar.cmpi .ne v473 c0_i32_419
  let v478 : BitVec 1 := Scalar.andi v477 v474
  let v479 : BitVec 32 := Scalar.addi v473 v472
  let v480 : BitVec 32 := Scalar.select v478 v479 v473
  let c8_i32_424 : BitVec 32 := 8#32
  let v482 : BitVec 32 := Scalar.muli v480 c8_i32_424
  let v483 : BitVec 32 := Scalar.addi v482 c0_i32_425
  let v484 : Index := Scalar.indexCast v483
  let c0_426 : Index := 0#32
  let c0_427 : Index := 0#32
  ![v484.toNat, 0, 0]
def k0_off29 (d0 : Dev nD) (c0_i32_414 : BitVec 32) (c0_i32_433 : BitVec 32) : Fin 2 → Nat :=
  let c0_i32_435 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v469 : BitVec 32 := Scalar.subi v5 c0_i32_414
  let c1_i32_415 : BitVec 32 := 1#32
  let v470 : BitVec 32 := Scalar.subi v469 c1_i32_415
  let c4_i32_416 : BitVec 32 := 4#32
  let c0_i32_417 : BitVec 32 := 0#32
  let v471 : BitVec 1 := Scalar.cmpi .eq c4_i32_416 c0_i32_417
  let c1_i32_418 : BitVec 32 := 1#32
  let v472 : BitVec 32 := Scalar.select v471 c1_i32_418 c4_i32_416
  let v473 : BitVec 32 := Scalar.remsi v470 v472
  let c0_i32_420 : BitVec 32 := 0#32
  let v475 : BitVec 1 := Scalar.cmpi .slt v473 c0_i32_420
  let c0_i32_421 : BitVec 32 := 0#32
  let v476 : BitVec 1 := Scalar.cmpi .slt v472 c0_i32_421
  let v477 : BitVec 1 := Scalar.xori v475 v476
  let c0_i32_419 : BitVec 32 := 0#32
  let v474 : BitVec 1 := Scalar.cmpi .ne v473 c0_i32_419
  let v478 : BitVec 1 := Scalar.andi v477 v474
  let v479 : BitVec 32 := Scalar.addi v473 v472
  let v480 : BitVec 32 := Scalar.select v478 v479 v473
  let c8_i32_432 : BitVec 32 := 8#32
  let v496 : BitVec 32 := Scalar.muli v480 c8_i32_432
  let v497 : BitVec 32 := Scalar.addi v496 c0_i32_433
  let c1024_i32_434 : BitVec 32 := 1024#32
  let v498 : BitVec 32 := Scalar.muli v497 c1024_i32_434
  ![0, v498.toNat]
def k0_off29_at (r : Fin 12) : BitVec 32 × BitVec 32 :=
  if r.val < 6 then
    if r.val < 3 then
      if r.val < 1 then
        (0#32, 0#32)
      else
        if r.val < 2 then
          (0#32, 1#32)
        else
          (0#32, 6#32)
    else
      if r.val < 4 then
        (0#32, 7#32)
      else
        if r.val < 5 then
          (1#32, 0#32)
        else
          (1#32, 1#32)
  else
    if r.val < 9 then
      if r.val < 7 then
        (1#32, 6#32)
      else
        if r.val < 8 then
          (1#32, 7#32)
        else
          (2#32, 0#32)
    else
      if r.val < 10 then
        (2#32, 1#32)
      else
        if r.val < 11 then
          (2#32, 6#32)
        else
          (2#32, 7#32)
@[reducible] def k0_t3_loop : Scf.Loop 32 :=
  let c2_i32_454 : BitVec 32 := 2#32
  let c6_i32_455 : BitVec 32 := 6#32
  let v527 : BitVec 32 := Scalar.addi c2_i32_454 c6_i32_455
  let c1_i32_456 : BitVec 32 := 1#32
  ⟨c2_i32_454, v527, c1_i32_456⟩
def k0_off30 (k0_t3 : Fin k0_t3_loop.trips) : Fin 1 → Nat :=
  let c2_i32_454 : BitVec 32 := 2#32
  let c1_i32_456 : BitVec 32 := 1#32
  let arg13 : BitVec 32 := Scf.iv c2_i32_454 c1_i32_456 k0_t3
  let c2_i32_930 : BitVec 32 := 2#32
  let v1028 : BitVec 32 := Scalar.subi arg13 c2_i32_930
  let c2_i32_931 : BitVec 32 := 2#32
  let v1029 : BitVec 32 := Scalar.remsi v1028 c2_i32_931
  ![v1029.toNat]
def k0_off31 (d0 : Dev nD) (k0_t3 : Fin k0_t3_loop.trips) : Fin 2 → Nat :=
  let c0_i32_934 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_414 : BitVec 32 := 0#32
  let v469 : BitVec 32 := Scalar.subi v5 c0_i32_414
  let c1_i32_415 : BitVec 32 := 1#32
  let v470 : BitVec 32 := Scalar.subi v469 c1_i32_415
  let c4_i32_416 : BitVec 32 := 4#32
  let c0_i32_417 : BitVec 32 := 0#32
  let v471 : BitVec 1 := Scalar.cmpi .eq c4_i32_416 c0_i32_417
  let c1_i32_418 : BitVec 32 := 1#32
  let v472 : BitVec 32 := Scalar.select v471 c1_i32_418 c4_i32_416
  let v473 : BitVec 32 := Scalar.remsi v470 v472
  let c0_i32_420 : BitVec 32 := 0#32
  let v475 : BitVec 1 := Scalar.cmpi .slt v473 c0_i32_420
  let c0_i32_421 : BitVec 32 := 0#32
  let v476 : BitVec 1 := Scalar.cmpi .slt v472 c0_i32_421
  let v477 : BitVec 1 := Scalar.xori v475 v476
  let c0_i32_419 : BitVec 32 := 0#32
  let v474 : BitVec 1 := Scalar.cmpi .ne v473 c0_i32_419
  let v478 : BitVec 1 := Scalar.andi v477 v474
  let v479 : BitVec 32 := Scalar.addi v473 v472
  let v480 : BitVec 32 := Scalar.select v478 v479 v473
  let c8_i32_932 : BitVec 32 := 8#32
  let v1030 : BitVec 32 := Scalar.muli v480 c8_i32_932
  let c2_i32_454 : BitVec 32 := 2#32
  let c1_i32_456 : BitVec 32 := 1#32
  let arg13 : BitVec 32 := Scf.iv c2_i32_454 c1_i32_456 k0_t3
  let c2_i32_930 : BitVec 32 := 2#32
  let v1028 : BitVec 32 := Scalar.subi arg13 c2_i32_930
  let v1031 : BitVec 32 := Scalar.addi v1030 v1028
  let c1024_i32_933 : BitVec 32 := 1024#32
  let v1032 : BitVec 32 := Scalar.muli v1031 c1024_i32_933
  ![0, v1032.toNat]
def k0_off32 (k0_t3 : Fin k0_t3_loop.trips) : Fin 3 → Nat :=
  let c2_i32_454 : BitVec 32 := 2#32
  let c1_i32_456 : BitVec 32 := 1#32
  let arg13 : BitVec 32 := Scf.iv c2_i32_454 c1_i32_456 k0_t3
  let c2_i32_930 : BitVec 32 := 2#32
  let v1028 : BitVec 32 := Scalar.subi arg13 c2_i32_930
  let c2_i32_931 : BitVec 32 := 2#32
  let v1029 : BitVec 32 := Scalar.remsi v1028 c2_i32_931
  let c0_i32_935 : BitVec 32 := 0#32
  let c0_i32_936 : BitVec 32 := 0#32
  ![v1029.toNat, 0, 0]
def k0_off33 (d0 : Dev nD) (k0_t3 : Fin k0_t3_loop.trips) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_414 : BitVec 32 := 0#32
  let v469 : BitVec 32 := Scalar.subi v5 c0_i32_414
  let c1_i32_415 : BitVec 32 := 1#32
  let v470 : BitVec 32 := Scalar.subi v469 c1_i32_415
  let c4_i32_416 : BitVec 32 := 4#32
  let c0_i32_417 : BitVec 32 := 0#32
  let v471 : BitVec 1 := Scalar.cmpi .eq c4_i32_416 c0_i32_417
  let c1_i32_418 : BitVec 32 := 1#32
  let v472 : BitVec 32 := Scalar.select v471 c1_i32_418 c4_i32_416
  let v473 : BitVec 32 := Scalar.remsi v470 v472
  let c0_i32_420 : BitVec 32 := 0#32
  let v475 : BitVec 1 := Scalar.cmpi .slt v473 c0_i32_420
  let c0_i32_421 : BitVec 32 := 0#32
  let v476 : BitVec 1 := Scalar.cmpi .slt v472 c0_i32_421
  let v477 : BitVec 1 := Scalar.xori v475 v476
  let c0_i32_419 : BitVec 32 := 0#32
  let v474 : BitVec 1 := Scalar.cmpi .ne v473 c0_i32_419
  let v478 : BitVec 1 := Scalar.andi v477 v474
  let v479 : BitVec 32 := Scalar.addi v473 v472
  let v480 : BitVec 32 := Scalar.select v478 v479 v473
  let c8_i32_938 : BitVec 32 := 8#32
  let v1039 : BitVec 32 := Scalar.muli v480 c8_i32_938
  let c2_i32_454 : BitVec 32 := 2#32
  let c1_i32_456 : BitVec 32 := 1#32
  let arg13 : BitVec 32 := Scf.iv c2_i32_454 c1_i32_456 k0_t3
  let v1040 : BitVec 32 := Scalar.addi v1039 arg13
  let v1041 : Index := Scalar.indexCast v1040
  let c0_939 : Index := 0#32
  let c0_940 : Index := 0#32
  ![v1041.toNat, 0, 0]
def k0_off34 (k0_t3 : Fin k0_t3_loop.trips) : Fin 3 → Nat :=
  let c2_i32_454 : BitVec 32 := 2#32
  let c1_i32_456 : BitVec 32 := 1#32
  let arg13 : BitVec 32 := Scf.iv c2_i32_454 c1_i32_456 k0_t3
  let c2_i32_937 : BitVec 32 := 2#32
  let v1038 : BitVec 32 := Scalar.remsi arg13 c2_i32_937
  let v1048 : Index := Scalar.indexCast v1038
  let c0_941 : Index := 0#32
  let c0_942 : Index := 0#32
  ![v1048.toNat, 0, 0]
def k0_off35 (k0_t3 : Fin k0_t3_loop.trips) : Fin 1 → Nat :=
  let c2_i32_454 : BitVec 32 := 2#32
  let c1_i32_456 : BitVec 32 := 1#32
  let arg13 : BitVec 32 := Scf.iv c2_i32_454 c1_i32_456 k0_t3
  let c2_i32_943 : BitVec 32 := 2#32
  let v1052 : BitVec 32 := Scalar.remsi arg13 c2_i32_943
  ![v1052.toNat]
def k0_off36 (d0 : Dev nD) (k0_t3 : Fin k0_t3_loop.trips) : Fin 2 → Nat :=
  let c0_i32_946 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_414 : BitVec 32 := 0#32
  let v469 : BitVec 32 := Scalar.subi v5 c0_i32_414
  let c1_i32_415 : BitVec 32 := 1#32
  let v470 : BitVec 32 := Scalar.subi v469 c1_i32_415
  let c4_i32_416 : BitVec 32 := 4#32
  let c0_i32_417 : BitVec 32 := 0#32
  let v471 : BitVec 1 := Scalar.cmpi .eq c4_i32_416 c0_i32_417
  let c1_i32_418 : BitVec 32 := 1#32
  let v472 : BitVec 32 := Scalar.select v471 c1_i32_418 c4_i32_416
  let v473 : BitVec 32 := Scalar.remsi v470 v472
  let c0_i32_420 : BitVec 32 := 0#32
  let v475 : BitVec 1 := Scalar.cmpi .slt v473 c0_i32_420
  let c0_i32_421 : BitVec 32 := 0#32
  let v476 : BitVec 1 := Scalar.cmpi .slt v472 c0_i32_421
  let v477 : BitVec 1 := Scalar.xori v475 v476
  let c0_i32_419 : BitVec 32 := 0#32
  let v474 : BitVec 1 := Scalar.cmpi .ne v473 c0_i32_419
  let v478 : BitVec 1 := Scalar.andi v477 v474
  let v479 : BitVec 32 := Scalar.addi v473 v472
  let v480 : BitVec 32 := Scalar.select v478 v479 v473
  let c8_i32_944 : BitVec 32 := 8#32
  let v1053 : BitVec 32 := Scalar.muli v480 c8_i32_944
  let c2_i32_454 : BitVec 32 := 2#32
  let c1_i32_456 : BitVec 32 := 1#32
  let arg13 : BitVec 32 := Scf.iv c2_i32_454 c1_i32_456 k0_t3
  let v1054 : BitVec 32 := Scalar.addi v1053 arg13
  let c1024_i32_945 : BitVec 32 := 1024#32
  let v1055 : BitVec 32 := Scalar.muli v1054 c1024_i32_945
  ![0, v1055.toNat]
def k0_off37 (k0_t3 : Fin k0_t3_loop.trips) : Fin 3 → Nat :=
  let c2_i32_454 : BitVec 32 := 2#32
  let c1_i32_456 : BitVec 32 := 1#32
  let arg13 : BitVec 32 := Scf.iv c2_i32_454 c1_i32_456 k0_t3
  let c2_i32_943 : BitVec 32 := 2#32
  let v1052 : BitVec 32 := Scalar.remsi arg13 c2_i32_943
  let c0_i32_947 : BitVec 32 := 0#32
  let c0_i32_948 : BitVec 32 := 0#32
  ![v1052.toNat, 0, 0]
def k0_dev11 (d0 : Dev nD) : Nat :=
  let c0_i32_520 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_519 : BitVec 32 := 16#32
  let v588 : BitVec 32 := Scalar.muli v2 c16_i32_519
  let v589 : BitVec 32 := Scalar.addi c0_i32_520 v588
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_521 : BitVec 32 := 4#32
  let v590 : BitVec 32 := Scalar.muli v30 c4_i32_521
  let v591 : BitVec 32 := Scalar.addi v589 v590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_522 : BitVec 32 := 1#32
  let v592 : BitVec 32 := Scalar.muli v8 c1_i32_522
  let v593 : BitVec 32 := Scalar.addi v591 v592
  v593.toNat
def k0_dev12 (d0 : Dev nD) : Nat :=
  let c0_i32_573 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_572 : BitVec 32 := 16#32
  let v642 : BitVec 32 := Scalar.muli v2 c16_i32_572
  let v643 : BitVec 32 := Scalar.addi c0_i32_573 v642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_574 : BitVec 32 := 4#32
  let v644 : BitVec 32 := Scalar.muli v30 c4_i32_574
  let v645 : BitVec 32 := Scalar.addi v643 v644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v646 : BitVec 32 := Scalar.muli v8 c1_i32_575
  let v647 : BitVec 32 := Scalar.addi v645 v646
  v647.toNat
def k0_dev13 (d0 : Dev nD) : Nat :=
  let c0_i32_626 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_625 : BitVec 32 := 16#32
  let v696 : BitVec 32 := Scalar.muli v2 c16_i32_625
  let v697 : BitVec 32 := Scalar.addi c0_i32_626 v696
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_627 : BitVec 32 := 4#32
  let v698 : BitVec 32 := Scalar.muli v30 c4_i32_627
  let v699 : BitVec 32 := Scalar.addi v697 v698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_628 : BitVec 32 := 1#32
  let v700 : BitVec 32 := Scalar.muli v8 c1_i32_628
  let v701 : BitVec 32 := Scalar.addi v699 v700
  v701.toNat
def k0_dev14 (d0 : Dev nD) : Nat :=
  let c0_i32_679 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_678 : BitVec 32 := 16#32
  let v750 : BitVec 32 := Scalar.muli v2 c16_i32_678
  let v751 : BitVec 32 := Scalar.addi c0_i32_679 v750
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_680 : BitVec 32 := 4#32
  let v752 : BitVec 32 := Scalar.muli v30 c4_i32_680
  let v753 : BitVec 32 := Scalar.addi v751 v752
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_681 : BitVec 32 := 1#32
  let v754 : BitVec 32 := Scalar.muli v8 c1_i32_681
  let v755 : BitVec 32 := Scalar.addi v753 v754
  v755.toNat
@[reducible] def k0_t4_loop : Scf.Loop 32 :=
  let c2_i32_726 : BitVec 32 := 2#32
  let c6_i32_727 : BitVec 32 := 6#32
  let v820 : BitVec 32 := Scalar.addi c2_i32_726 c6_i32_727
  let c1_i32_728 : BitVec 32 := 1#32
  ⟨c2_i32_726, v820, c1_i32_728⟩
def k0_off38 (k0_t4 : Fin k0_t4_loop.trips) : Fin 1 → Nat :=
  let c2_i32_726 : BitVec 32 := 2#32
  let c1_i32_728 : BitVec 32 := 1#32
  let arg13 : BitVec 32 := Scf.iv c2_i32_726 c1_i32_728 k0_t4
  let c2_i32_930 : BitVec 32 := 2#32
  let v1028 : BitVec 32 := Scalar.subi arg13 c2_i32_930
  let c2_i32_931 : BitVec 32 := 2#32
  let v1029 : BitVec 32 := Scalar.remsi v1028 c2_i32_931
  ![v1029.toNat]
def k0_off39 (d0 : Dev nD) (k0_t4 : Fin k0_t4_loop.trips) : Fin 2 → Nat :=
  let c0_i32_934 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_686 : BitVec 32 := 1#32
  let v762 : BitVec 32 := Scalar.subi v5 c1_i32_686
  let c1_i32_687 : BitVec 32 := 1#32
  let v763 : BitVec 32 := Scalar.subi v762 c1_i32_687
  let c4_i32_688 : BitVec 32 := 4#32
  let c0_i32_689 : BitVec 32 := 0#32
  let v764 : BitVec 1 := Scalar.cmpi .eq c4_i32_688 c0_i32_689
  let c1_i32_690 : BitVec 32 := 1#32
  let v765 : BitVec 32 := Scalar.select v764 c1_i32_690 c4_i32_688
  let v766 : BitVec 32 := Scalar.remsi v763 v765
  let c0_i32_692 : BitVec 32 := 0#32
  let v768 : BitVec 1 := Scalar.cmpi .slt v766 c0_i32_692
  let c0_i32_693 : BitVec 32 := 0#32
  let v769 : BitVec 1 := Scalar.cmpi .slt v765 c0_i32_693
  let v770 : BitVec 1 := Scalar.xori v768 v769
  let c0_i32_691 : BitVec 32 := 0#32
  let v767 : BitVec 1 := Scalar.cmpi .ne v766 c0_i32_691
  let v771 : BitVec 1 := Scalar.andi v770 v767
  let v772 : BitVec 32 := Scalar.addi v766 v765
  let v773 : BitVec 32 := Scalar.select v771 v772 v766
  let c8_i32_932 : BitVec 32 := 8#32
  let v1030 : BitVec 32 := Scalar.muli v773 c8_i32_932
  let c2_i32_726 : BitVec 32 := 2#32
  let c1_i32_728 : BitVec 32 := 1#32
  let arg13 : BitVec 32 := Scf.iv c2_i32_726 c1_i32_728 k0_t4
  let c2_i32_930 : BitVec 32 := 2#32
  let v1028 : BitVec 32 := Scalar.subi arg13 c2_i32_930
  let v1031 : BitVec 32 := Scalar.addi v1030 v1028
  let c1024_i32_933 : BitVec 32 := 1024#32
  let v1032 : BitVec 32 := Scalar.muli v1031 c1024_i32_933
  ![0, v1032.toNat]
def k0_off40 (k0_t4 : Fin k0_t4_loop.trips) : Fin 3 → Nat :=
  let c2_i32_726 : BitVec 32 := 2#32
  let c1_i32_728 : BitVec 32 := 1#32
  let arg13 : BitVec 32 := Scf.iv c2_i32_726 c1_i32_728 k0_t4
  let c2_i32_930 : BitVec 32 := 2#32
  let v1028 : BitVec 32 := Scalar.subi arg13 c2_i32_930
  let c2_i32_931 : BitVec 32 := 2#32
  let v1029 : BitVec 32 := Scalar.remsi v1028 c2_i32_931
  let c0_i32_935 : BitVec 32 := 0#32
  let c0_i32_936 : BitVec 32 := 0#32
  ![v1029.toNat, 0, 0]
def k0_off41 (d0 : Dev nD) (k0_t4 : Fin k0_t4_loop.trips) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_686 : BitVec 32 := 1#32
  let v762 : BitVec 32 := Scalar.subi v5 c1_i32_686
  let c1_i32_687 : BitVec 32 := 1#32
  let v763 : BitVec 32 := Scalar.subi v762 c1_i32_687
  let c4_i32_688 : BitVec 32 := 4#32
  let c0_i32_689 : BitVec 32 := 0#32
  let v764 : BitVec 1 := Scalar.cmpi .eq c4_i32_688 c0_i32_689
  let c1_i32_690 : BitVec 32 := 1#32
  let v765 : BitVec 32 := Scalar.select v764 c1_i32_690 c4_i32_688
  let v766 : BitVec 32 := Scalar.remsi v763 v765
  let c0_i32_692 : BitVec 32 := 0#32
  let v768 : BitVec 1 := Scalar.cmpi .slt v766 c0_i32_692
  let c0_i32_693 : BitVec 32 := 0#32
  let v769 : BitVec 1 := Scalar.cmpi .slt v765 c0_i32_693
  let v770 : BitVec 1 := Scalar.xori v768 v769
  let c0_i32_691 : BitVec 32 := 0#32
  let v767 : BitVec 1 := Scalar.cmpi .ne v766 c0_i32_691
  let v771 : BitVec 1 := Scalar.andi v770 v767
  let v772 : BitVec 32 := Scalar.addi v766 v765
  let v773 : BitVec 32 := Scalar.select v771 v772 v766
  let c8_i32_938 : BitVec 32 := 8#32
  let v1039 : BitVec 32 := Scalar.muli v773 c8_i32_938
  let c2_i32_726 : BitVec 32 := 2#32
  let c1_i32_728 : BitVec 32 := 1#32
  let arg13 : BitVec 32 := Scf.iv c2_i32_726 c1_i32_728 k0_t4
  let v1040 : BitVec 32 := Scalar.addi v1039 arg13
  let v1041 : Index := Scalar.indexCast v1040
  let c0_939 : Index := 0#32
  let c0_940 : Index := 0#32
  ![v1041.toNat, 0, 0]
def k0_off42 (k0_t4 : Fin k0_t4_loop.trips) : Fin 3 → Nat :=
  let c2_i32_726 : BitVec 32 := 2#32
  let c1_i32_728 : BitVec 32 := 1#32
  let arg13 : BitVec 32 := Scf.iv c2_i32_726 c1_i32_728 k0_t4
  let c2_i32_937 : BitVec 32 := 2#32
  let v1038 : BitVec 32 := Scalar.remsi arg13 c2_i32_937
  let v1048 : Index := Scalar.indexCast v1038
  let c0_941 : Index := 0#32
  let c0_942 : Index := 0#32
  ![v1048.toNat, 0, 0]
def k0_off43 (k0_t4 : Fin k0_t4_loop.trips) : Fin 1 → Nat :=
  let c2_i32_726 : BitVec 32 := 2#32
  let c1_i32_728 : BitVec 32 := 1#32
  let arg13 : BitVec 32 := Scf.iv c2_i32_726 c1_i32_728 k0_t4
  let c2_i32_943 : BitVec 32 := 2#32
  let v1052 : BitVec 32 := Scalar.remsi arg13 c2_i32_943
  ![v1052.toNat]
def k0_off44 (d0 : Dev nD) (k0_t4 : Fin k0_t4_loop.trips) : Fin 2 → Nat :=
  let c0_i32_946 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_686 : BitVec 32 := 1#32
  let v762 : BitVec 32 := Scalar.subi v5 c1_i32_686
  let c1_i32_687 : BitVec 32 := 1#32
  let v763 : BitVec 32 := Scalar.subi v762 c1_i32_687
  let c4_i32_688 : BitVec 32 := 4#32
  let c0_i32_689 : BitVec 32 := 0#32
  let v764 : BitVec 1 := Scalar.cmpi .eq c4_i32_688 c0_i32_689
  let c1_i32_690 : BitVec 32 := 1#32
  let v765 : BitVec 32 := Scalar.select v764 c1_i32_690 c4_i32_688
  let v766 : BitVec 32 := Scalar.remsi v763 v765
  let c0_i32_692 : BitVec 32 := 0#32
  let v768 : BitVec 1 := Scalar.cmpi .slt v766 c0_i32_692
  let c0_i32_693 : BitVec 32 := 0#32
  let v769 : BitVec 1 := Scalar.cmpi .slt v765 c0_i32_693
  let v770 : BitVec 1 := Scalar.xori v768 v769
  let c0_i32_691 : BitVec 32 := 0#32
  let v767 : BitVec 1 := Scalar.cmpi .ne v766 c0_i32_691
  let v771 : BitVec 1 := Scalar.andi v770 v767
  let v772 : BitVec 32 := Scalar.addi v766 v765
  let v773 : BitVec 32 := Scalar.select v771 v772 v766
  let c8_i32_944 : BitVec 32 := 8#32
  let v1053 : BitVec 32 := Scalar.muli v773 c8_i32_944
  let c2_i32_726 : BitVec 32 := 2#32
  let c1_i32_728 : BitVec 32 := 1#32
  let arg13 : BitVec 32 := Scf.iv c2_i32_726 c1_i32_728 k0_t4
  let v1054 : BitVec 32 := Scalar.addi v1053 arg13
  let c1024_i32_945 : BitVec 32 := 1024#32
  let v1055 : BitVec 32 := Scalar.muli v1054 c1024_i32_945
  ![0, v1055.toNat]
def k0_off45 (k0_t4 : Fin k0_t4_loop.trips) : Fin 3 → Nat :=
  let c2_i32_726 : BitVec 32 := 2#32
  let c1_i32_728 : BitVec 32 := 1#32
  let arg13 : BitVec 32 := Scf.iv c2_i32_726 c1_i32_728 k0_t4
  let c2_i32_943 : BitVec 32 := 2#32
  let v1052 : BitVec 32 := Scalar.remsi arg13 c2_i32_943
  let c0_i32_947 : BitVec 32 := 0#32
  let c0_i32_948 : BitVec 32 := 0#32
  ![v1052.toNat, 0, 0]
@[reducible] def k0_t5_loop : Scf.Loop 32 :=
  let c2_i32_910 : BitVec 32 := 2#32
  let c6_i32_911 : BitVec 32 := 6#32
  let v1009 : BitVec 32 := Scalar.addi c2_i32_910 c6_i32_911
  let c1_i32_912 : BitVec 32 := 1#32
  ⟨c2_i32_910, v1009, c1_i32_912⟩
def k0_off46 (k0_t5 : Fin k0_t5_loop.trips) : Fin 1 → Nat :=
  let c2_i32_910 : BitVec 32 := 2#32
  let c1_i32_912 : BitVec 32 := 1#32
  let arg13 : BitVec 32 := Scf.iv c2_i32_910 c1_i32_912 k0_t5
  let c2_i32_930 : BitVec 32 := 2#32
  let v1028 : BitVec 32 := Scalar.subi arg13 c2_i32_930
  let c2_i32_931 : BitVec 32 := 2#32
  let v1029 : BitVec 32 := Scalar.remsi v1028 c2_i32_931
  ![v1029.toNat]
def k0_off47 (d0 : Dev nD) (k0_t5 : Fin k0_t5_loop.trips) : Fin 2 → Nat :=
  let c0_i32_934 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_870 : BitVec 32 := 2#32
  let v951 : BitVec 32 := Scalar.subi v5 c2_i32_870
  let c1_i32_871 : BitVec 32 := 1#32
  let v952 : BitVec 32 := Scalar.subi v951 c1_i32_871
  let c4_i32_872 : BitVec 32 := 4#32
  let c0_i32_873 : BitVec 32 := 0#32
  let v953 : BitVec 1 := Scalar.cmpi .eq c4_i32_872 c0_i32_873
  let c1_i32_874 : BitVec 32 := 1#32
  let v954 : BitVec 32 := Scalar.select v953 c1_i32_874 c4_i32_872
  let v955 : BitVec 32 := Scalar.remsi v952 v954
  let c0_i32_876 : BitVec 32 := 0#32
  let v957 : BitVec 1 := Scalar.cmpi .slt v955 c0_i32_876
  let c0_i32_877 : BitVec 32 := 0#32
  let v958 : BitVec 1 := Scalar.cmpi .slt v954 c0_i32_877
  let v959 : BitVec 1 := Scalar.xori v957 v958
  let c0_i32_875 : BitVec 32 := 0#32
  let v956 : BitVec 1 := Scalar.cmpi .ne v955 c0_i32_875
  let v960 : BitVec 1 := Scalar.andi v959 v956
  let v961 : BitVec 32 := Scalar.addi v955 v954
  let v962 : BitVec 32 := Scalar.select v960 v961 v955
  let c8_i32_932 : BitVec 32 := 8#32
  let v1030 : BitVec 32 := Scalar.muli v962 c8_i32_932
  let c2_i32_910 : BitVec 32 := 2#32
  let c1_i32_912 : BitVec 32 := 1#32
  let arg13 : BitVec 32 := Scf.iv c2_i32_910 c1_i32_912 k0_t5
  let c2_i32_930 : BitVec 32 := 2#32
  let v1028 : BitVec 32 := Scalar.subi arg13 c2_i32_930
  let v1031 : BitVec 32 := Scalar.addi v1030 v1028
  let c1024_i32_933 : BitVec 32 := 1024#32
  let v1032 : BitVec 32 := Scalar.muli v1031 c1024_i32_933
  ![0, v1032.toNat]
def k0_off48 (k0_t5 : Fin k0_t5_loop.trips) : Fin 3 → Nat :=
  let c2_i32_910 : BitVec 32 := 2#32
  let c1_i32_912 : BitVec 32 := 1#32
  let arg13 : BitVec 32 := Scf.iv c2_i32_910 c1_i32_912 k0_t5
  let c2_i32_930 : BitVec 32 := 2#32
  let v1028 : BitVec 32 := Scalar.subi arg13 c2_i32_930
  let c2_i32_931 : BitVec 32 := 2#32
  let v1029 : BitVec 32 := Scalar.remsi v1028 c2_i32_931
  let c0_i32_935 : BitVec 32 := 0#32
  let c0_i32_936 : BitVec 32 := 0#32
  ![v1029.toNat, 0, 0]
def k0_off49 (d0 : Dev nD) (k0_t5 : Fin k0_t5_loop.trips) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_870 : BitVec 32 := 2#32
  let v951 : BitVec 32 := Scalar.subi v5 c2_i32_870
  let c1_i32_871 : BitVec 32 := 1#32
  let v952 : BitVec 32 := Scalar.subi v951 c1_i32_871
  let c4_i32_872 : BitVec 32 := 4#32
  let c0_i32_873 : BitVec 32 := 0#32
  let v953 : BitVec 1 := Scalar.cmpi .eq c4_i32_872 c0_i32_873
  let c1_i32_874 : BitVec 32 := 1#32
  let v954 : BitVec 32 := Scalar.select v953 c1_i32_874 c4_i32_872
  let v955 : BitVec 32 := Scalar.remsi v952 v954
  let c0_i32_876 : BitVec 32 := 0#32
  let v957 : BitVec 1 := Scalar.cmpi .slt v955 c0_i32_876
  let c0_i32_877 : BitVec 32 := 0#32
  let v958 : BitVec 1 := Scalar.cmpi .slt v954 c0_i32_877
  let v959 : BitVec 1 := Scalar.xori v957 v958
  let c0_i32_875 : BitVec 32 := 0#32
  let v956 : BitVec 1 := Scalar.cmpi .ne v955 c0_i32_875
  let v960 : BitVec 1 := Scalar.andi v959 v956
  let v961 : BitVec 32 := Scalar.addi v955 v954
  let v962 : BitVec 32 := Scalar.select v960 v961 v955
  let c8_i32_938 : BitVec 32 := 8#32
  let v1039 : BitVec 32 := Scalar.muli v962 c8_i32_938
  let c2_i32_910 : BitVec 32 := 2#32
  let c1_i32_912 : BitVec 32 := 1#32
  let arg13 : BitVec 32 := Scf.iv c2_i32_910 c1_i32_912 k0_t5
  let v1040 : BitVec 32 := Scalar.addi v1039 arg13
  let v1041 : Index := Scalar.indexCast v1040
  let c0_939 : Index := 0#32
  let c0_940 : Index := 0#32
  ![v1041.toNat, 0, 0]
def k0_off50 (k0_t5 : Fin k0_t5_loop.trips) : Fin 3 → Nat :=
  let c2_i32_910 : BitVec 32 := 2#32
  let c1_i32_912 : BitVec 32 := 1#32
  let arg13 : BitVec 32 := Scf.iv c2_i32_910 c1_i32_912 k0_t5
  let c2_i32_937 : BitVec 32 := 2#32
  let v1038 : BitVec 32 := Scalar.remsi arg13 c2_i32_937
  let v1048 : Index := Scalar.indexCast v1038
  let c0_941 : Index := 0#32
  let c0_942 : Index := 0#32
  ![v1048.toNat, 0, 0]
def k0_off51 (k0_t5 : Fin k0_t5_loop.trips) : Fin 1 → Nat :=
  let c2_i32_910 : BitVec 32 := 2#32
  let c1_i32_912 : BitVec 32 := 1#32
  let arg13 : BitVec 32 := Scf.iv c2_i32_910 c1_i32_912 k0_t5
  let c2_i32_943 : BitVec 32 := 2#32
  let v1052 : BitVec 32 := Scalar.remsi arg13 c2_i32_943
  ![v1052.toNat]
def k0_off52 (d0 : Dev nD) (k0_t5 : Fin k0_t5_loop.trips) : Fin 2 → Nat :=
  let c0_i32_946 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_870 : BitVec 32 := 2#32
  let v951 : BitVec 32 := Scalar.subi v5 c2_i32_870
  let c1_i32_871 : BitVec 32 := 1#32
  let v952 : BitVec 32 := Scalar.subi v951 c1_i32_871
  let c4_i32_872 : BitVec 32 := 4#32
  let c0_i32_873 : BitVec 32 := 0#32
  let v953 : BitVec 1 := Scalar.cmpi .eq c4_i32_872 c0_i32_873
  let c1_i32_874 : BitVec 32 := 1#32
  let v954 : BitVec 32 := Scalar.select v953 c1_i32_874 c4_i32_872
  let v955 : BitVec 32 := Scalar.remsi v952 v954
  let c0_i32_876 : BitVec 32 := 0#32
  let v957 : BitVec 1 := Scalar.cmpi .slt v955 c0_i32_876
  let c0_i32_877 : BitVec 32 := 0#32
  let v958 : BitVec 1 := Scalar.cmpi .slt v954 c0_i32_877
  let v959 : BitVec 1 := Scalar.xori v957 v958
  let c0_i32_875 : BitVec 32 := 0#32
  let v956 : BitVec 1 := Scalar.cmpi .ne v955 c0_i32_875
  let v960 : BitVec 1 := Scalar.andi v959 v956
  let v961 : BitVec 32 := Scalar.addi v955 v954
  let v962 : BitVec 32 := Scalar.select v960 v961 v955
  let c8_i32_944 : BitVec 32 := 8#32
  let v1053 : BitVec 32 := Scalar.muli v962 c8_i32_944
  let c2_i32_910 : BitVec 32 := 2#32
  let c1_i32_912 : BitVec 32 := 1#32
  let arg13 : BitVec 32 := Scf.iv c2_i32_910 c1_i32_912 k0_t5
  let v1054 : BitVec 32 := Scalar.addi v1053 arg13
  let c1024_i32_945 : BitVec 32 := 1024#32
  let v1055 : BitVec 32 := Scalar.muli v1054 c1024_i32_945
  ![0, v1055.toNat]
def k0_off53 (k0_t5 : Fin k0_t5_loop.trips) : Fin 3 → Nat :=
  let c2_i32_910 : BitVec 32 := 2#32
  let c1_i32_912 : BitVec 32 := 1#32
  let arg13 : BitVec 32 := Scf.iv c2_i32_910 c1_i32_912 k0_t5
  let c2_i32_943 : BitVec 32 := 2#32
  let v1052 : BitVec 32 := Scalar.remsi arg13 c2_i32_943
  let c0_i32_947 : BitVec 32 := 0#32
  let c0_i32_948 : BitVec 32 := 0#32
  ![v1052.toNat, 0, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x32768 : Shape := ⟨2, ![1024, 32768]⟩
abbrev S512x32768 : Shape := ⟨2, ![512, 32768]⟩
abbrev S_ : Shape := ⟨0, ![]⟩
abbrev S512 : Shape := ⟨1, ![512]⟩
abbrev S512x1 : Shape := ⟨2, ![512, 1]⟩

abbrev nBuf : Space → Nat
  | .hbm => 16
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x32768, .bf16⟩
  | .hbm, ⟨2, _⟩ => ⟨S512x1024, .f32⟩
  | .hbm, ⟨3, _⟩ => ⟨S1024x32768, .f32⟩
  | .hbm, ⟨4, _⟩ => ⟨S512x32768, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x32768, .f32⟩
  | .hbm, ⟨9, _⟩ => ⟨S512x32768, .f32⟩
  | .hbm, ⟨10, _⟩ => ⟨S512x32768, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x32768, .f32⟩
  | .hbm, ⟨15, _⟩ => ⟨S512x32768, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Setup.lean ====
/-
# The setting: the ring of four devices, and what each buffer holds when the run is over

Thirty-two devices in a 2 × 4 × 4 mesh; a device exchanges with the four devices that differ from it in the middle
coordinate only, its ring. Every buffer the ring shares has ONE final contents, stated here as a function of the
inputs: the exponentials (`LG`), the four row sums (`ST`) and the result (`OUT`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The logic's user algebra -/

/-- The ring's own rounds: duties are named by a boolean. -/
abbrev UB : Type := Rounds.URounds (GSem nD τ sig) Bool
/-- Three components: the staging cells' rounds, the ring's rounds, the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER embR; infer_instance
example : (EC (F := F)).LandsIn (upEmb : UEmb _ 𝕄) := inferInstance

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The ring -/

/-- Device `c`'s place in its ring. -/
def yOf (c : Dev nD) : ℕ := c.val / 4 % 4
/-- The device of `c`'s ring at place `k` (modulo 4). -/
def devAt (c : Dev nD) (k : ℕ) : Dev nD := ⟨c.val / 16 * 16 + k % 4 * 4 + c.val % 4, by have := c.isLt; simp only [nD] at *; omega⟩
/-- The next device of the ring, and the one before. -/
def rt (c : Dev nD) : Dev nD := devAt c (yOf c + 1)
def lt (c : Dev nD) : Dev nD := devAt c (yOf c + 3)

theorem yOf_lt (c : Dev nD) : yOf c < 4 := Nat.mod_lt _ (by decide)
theorem yOf_devAt (c : Dev nD) (k : ℕ) : yOf (devAt c k) = k % 4 := by
  simp only [yOf, devAt]; omega
theorem devAt_devAt (c : Dev nD) (k j : ℕ) : devAt (devAt c k) j = devAt c j := by
  apply Fin.ext; simp only [devAt]; omega
theorem devAt_yOf (c : Dev nD) : devAt c (yOf c) = c := by
  apply Fin.ext; have := c.isLt; simp only [devAt, yOf, nD] at *; omega
theorem devAt_mod (c : Dev nD) (k : ℕ) : devAt c (k % 4) = devAt c k := by
  apply Fin.ext; simp only [devAt]; omega
theorem yOf_rt (c : Dev nD) : yOf (rt c) = (yOf c + 1) % 4 := yOf_devAt _ _
theorem yOf_lt' (c : Dev nD) : yOf (lt c) = (yOf c + 3) % 4 := yOf_devAt _ _
theorem devAt_rt (c : Dev nD) (k : ℕ) : devAt (rt c) k = devAt c k := devAt_devAt _ _ _
theorem rt_lt (c : Dev nD) : rt (lt c) = c := by
  rw [rt, yOf_lt']; rw [lt, devAt_devAt, ← devAt_mod, show ((yOf c + 3) % 4 + 1) % 4 = yOf c by have := yOf_lt c; omega, devAt_yOf]
theorem lt_rt (c : Dev nD) : lt (rt c) = c := by
  rw [lt, yOf_rt]; rw [rt, devAt_devAt, ← devAt_mod, show ((yOf c + 1) % 4 + 3) % 4 = yOf c by have := yOf_lt c; omega, devAt_yOf]
/-- The step around the ring as a permutation of the devices. -/
def ring : Dev nD ≃ Dev nD := ⟨rt, lt, lt_rt, rt_lt⟩

/-! ## Indices -/

/-- A rank-2 and a rank-3 index from its coordinates. -/
def ix2 {a b : ℕ} (i : Fin a) (j : Fin b) : (⟨2, ![a, b]⟩ : Shape).Idx :=
  fun | 0 => i | 1 => j
def ix3 {a b d : ℕ} (i : Fin a) (j : Fin b) (k : Fin d) : (⟨3, ![a, b, d]⟩ : Shape).Idx :=
  fun | 0 => i | 1 => j | 2 => k

theorem ix2_eta {a b : ℕ} (x : (⟨2, ![a, b]⟩ : Shape).Idx) : ix2 (x 0) (x 1) = x := by
  funext q; match q with | 0 => rfl | 1 => rfl
theorem ix3_eta {a b d : ℕ} (x : (⟨3, ![a, b, d]⟩ : Shape).Idx) : ix3 (x 0) (x 1) (x 2) = x := by
  funext q; match q with | 0 => rfl | 1 => rfl | 2 => rfl

/-! ## The memrefs -/

abbrev xM : Memref sig .tc .vmem S512x1024 .bf16 := Memref.whole cc0_stg0_0
abbrev wM : Memref sig .tc .hbm S1024x8192 .bf16 := Memref.whole main_arg1
abbrev oM : Memref sig .tc .hbm S512x32768 .f32 := Memref.whole main_v1
abbrev lM : Memref sig .tc .vmem S32x512x1024 .bf16 := Memref.whole cc0_scratch0
abbrev bM : Memref sig .tc .vmem S2x1024x1024 .bf16 := Memref.whole cc0_scratch1
abbrev gM : Memref sig .tc .vmem S2x512x1024 .f32 := Memref.whole cc0_scratch2
abbrev sM : Memref sig .tc .vmem S4x512x1 .f32 := Memref.whole cc0_scratch3

/-! ## Contents -/

/-- Device `c`'s `x`, as staged. -/
def xv (c : Dev nD) : Vec F S512x1024 .bf16 :=
  (win0_0.blk (0 : Fin 1)).view.read (Elt F) ((s₀ m ρ).mem ((c : Thread nD τ).loc main_arg0))
/-- Device `c`'s block of `W`. -/
def wv (c : Dev nD) : Vec F S1024x8192 .bf16 := m ((c : Thread nD τ).loc main_arg1)
/-- Column tile `t` (modulo 8) of it. -/
def wT (c : Dev nD) (t : ℕ) : Vec F S1x1024x1024 .bf16 :=
  fun i => wv m c (ix2 (i 1) ⟨1024 * (t % 8) + (i 2).val, by have : (i 2).val < 1024 := (i 2).isLt; omega⟩)
/-- The exponentials of tile `t` of device `c`. -/
def eT (c : Dev nD) (t : ℕ) : Vec F S1x512x1024 .bf16 := k0_pay2 (xv m ρ c) (wT m c t)
/-- The row sums over the first `n` tiles. -/
def rowSum (c : Dev nD) : ℕ → FVec F S512x1 .f32
  | 0 => k0_pay4
  | n + 1 => k0_pay3 (rowSum c n) (xv m ρ c) (wT m c n)
/-- Device `c`'s row sums over its whole block. -/
def stat (c : Dev nD) : Vec F S1x512x1 .f32 := k0_pay6 (k0_pay5 (rowSum m ρ c 8))
/-- One over the row sums over the ring. -/
def recip (c : Dev nD) : FVec F S512x1 .f32 :=
  k0_pay9 (k0_pay7 (stat m ρ (devAt c 0)) (stat m ρ (devAt c 1))) (k0_pay8 (stat m ρ (devAt c 2))) (stat m ρ (devAt c 3))
/-- Tile `t` of the exponentials over the whole ring (tile `t` belongs to the device at place `t / 8`). -/
def lT (c : Dev nD) (t : ℕ) : Vec F S1x512x1024 .bf16 := eT m ρ (devAt c (t / 8)) (t % 8)
/-- Tile `t` of the result. -/
def oT (c : Dev nD) (t : ℕ) : Vec F S1x512x1024 .f32 := k0_pay12 (recip m ρ c) (lT m ρ c t)

/-- The exponentials' buffer when every tile is in. -/
def LG (c : Dev nD) : Vec F S32x512x1024 .bf16 := fun i => lT m ρ c (i 0).val (ix3 0 (i 1) (i 2))
/-- The row sums' buffer when all four are in. -/
def ST (c : Dev nD) : Vec F S4x512x1 .f32 := fun i => stat m ρ (devAt c (i 0).val) (ix3 0 (i 1) (i 2))
/-- A slot of the `W` buffer holding tile `t`. -/
def WB (c : Dev nD) (t : ℕ) : Vec F S2x1024x1024 .bf16 := fun i => wT m c t (ix3 0 (i 1) (i 2))
/-- A slot of the result's buffer holding tile `t`. -/
def SG (c : Dev nD) (t : ℕ) : Vec F S2x512x1024 .f32 := fun i => oT m ρ c t (ix3 0 (i 1) (i 2))
/-- The result. -/
def OUT (c : Dev nD) : Vec F S512x32768 .f32 := fun i =>
  oT m ρ c ((i 1).val / 1024) (ix3 0 (i 0) ⟨(i 1).val % 1024, Nat.mod_lt _ (by decide)⟩)

theorem lT_rt (c : Dev nD) (t : ℕ) : lT m ρ (rt c) t = lT m ρ c t := by unfold lT; rw [devAt_rt]
theorem LG_rt (c : Dev nD) : LG m ρ (rt c) = LG m ρ c := by unfold LG; simp only [lT_rt]
theorem ST_rt (c : Dev nD) : ST m ρ (rt c) = ST m ρ c := by unfold ST; simp only [devAt_rt]
theorem lT_own (c : Dev nD) {t : ℕ} (ht : t < 8) : lT m ρ c (8 * yOf c + t) = eT m ρ c t := by
  unfold lT; rw [show (8 * yOf c + t) / 8 = yOf c by omega, show (8 * yOf c + t) % 8 = t by omega, devAt_yOf]

end Cert.Softmax
-- ==== Proof.Regions.lean ====
/-
# The regions the kernel moves, one tile at a time

The element sets of a tile of each buffer, that a printed slice at a tile's offset has exactly these elements, and what
is read or written there, in terms of the final contents of `Setup`.
-/
module

public import proofs.«01_k».proof.Proof.Setup

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Element sets -/

/-- The elements of a rank-3 buffer whose first coordinate is `t`. -/
def row3 (a b d : ℕ) (t : ℕ) : Finset (⟨3, ![a, b, d]⟩ : Shape).Idx := Finset.univ.filter fun i => (i 0).val = t
/-- The elements of a rank-2 buffer in column tile `t`. -/
def col2 (a b : ℕ) (t : ℕ) : Finset (⟨2, ![a, b]⟩ : Shape).Idx := Finset.univ.filter fun i => (i 1).val / 1024 = t

theorem mem_row3 {a b d t : ℕ} {i : (⟨3, ![a, b, d]⟩ : Shape).Idx} : i ∈ row3 a b d t ↔ (i 0).val = t := by simp [row3]
theorem mem_col2 {a b t : ℕ} {i : (⟨2, ![a, b]⟩ : Shape).Idx} : i ∈ col2 a b t ↔ (i 1).val / 1024 = t := by simp [col2]

theorem row3_disjoint {a b d t t' : ℕ} (h : t ≠ t') : Disjoint (row3 a b d t) (row3 a b d t') :=
  Finset.disjoint_left.mpr fun i hi hj => h (by rw [mem_row3] at hi hj; omega)
theorem col2_disjoint {a b t t' : ℕ} (h : t ≠ t') : Disjoint (col2 a b t) (col2 a b t') :=
  Finset.disjoint_left.mpr fun i hi hj => h (by rw [mem_col2] at hi hj; omega)

/-- The rectangle of first coordinate `t`. -/
theorem set_row3 {a b d t : ℕ} {inb : ∀ q, (![t, 0, 0] : Fin 3 → ℕ) q + (⟨3, ![1, b, d]⟩ : Shape).size q ≤ (⟨3, ![a, b, d]⟩ : Shape).size q} :
    (Rect.unit (s := ⟨3, ![a, b, d]⟩) ![t, 0, 0] (⟨3, ![1, b, d]⟩ : Shape).size inb).set = row3 a b d t := by
  ext i
  rw [Rect.mem_set_unit, mem_row3, Fin.forall_fin_succ, Fin.forall_fin_succ, Fin.forall_fin_succ]
  have h1 : (i 1).val < b := (i 1).isLt
  have h2 : (i 2).val < d := (i 2).isLt
  simp only [Matrix.cons_val_zero, Matrix.cons_val_succ, Fin.succ_zero_eq_one, Fin.succ_one_eq_two, Matrix.cons_val_one, Matrix.cons_val]
  constructor
  · rintro ⟨h, -⟩; omega
  · intro h; exact ⟨by omega, ⟨by omega, by simpa using h1⟩, ⟨by omega, by simpa using h2⟩, fun q => q.elim0⟩

/-- The rectangle of the first coordinates `t` and `t + 1`. -/
theorem set_row3_two {a b d t : ℕ} {inb : ∀ q, (![t, 0, 0] : Fin 3 → ℕ) q + (⟨3, ![2, b, d]⟩ : Shape).size q ≤ (⟨3, ![a, b, d]⟩ : Shape).size q} :
    (Rect.unit (s := ⟨3, ![a, b, d]⟩) ![t, 0, 0] (⟨3, ![2, b, d]⟩ : Shape).size inb).set = row3 a b d t ∪ row3 a b d (t + 1) := by
  ext i
  rw [Rect.mem_set_unit, Finset.mem_union, mem_row3, mem_row3, Fin.forall_fin_succ, Fin.forall_fin_succ, Fin.forall_fin_succ]
  have h1 : (i 1).val < b := (i 1).isLt
  have h2 : (i 2).val < d := (i 2).isLt
  simp only [Matrix.cons_val_zero, Matrix.cons_val_succ, Fin.succ_zero_eq_one, Fin.succ_one_eq_two, Matrix.cons_val_one, Matrix.cons_val]
  constructor
  · rintro ⟨h, -⟩; omega
  · intro h; exact ⟨by omega, ⟨by omega, by simpa using h1⟩, ⟨by omega, by simpa using h2⟩, fun q => q.elim0⟩

/-- The rectangle of column tile `t`. -/
theorem set_col2 {a b t : ℕ} {inb : ∀ q, (![0, 1024 * t] : Fin 2 → ℕ) q + (⟨2, ![a, 1024]⟩ : Shape).size q ≤ (⟨2, ![a, b]⟩ : Shape).size q} :
    (Rect.unit (s := ⟨2, ![a, b]⟩) ![0, 1024 * t] (⟨2, ![a, 1024]⟩ : Shape).size inb).set = col2 a b t := by
  ext i
  rw [Rect.mem_set_unit, mem_col2, Fin.forall_fin_succ, Fin.forall_fin_succ]
  have h0 : (i 0).val < a := (i 0).isLt
  simp only [Matrix.cons_val_zero, Matrix.cons_val_succ, Fin.succ_zero_eq_one, Matrix.cons_val_one, Matrix.cons_val]
  constructor
  · rintro ⟨-, h, -⟩; omega
  · intro h; exact ⟨⟨by omega, by simpa using h0⟩, by omega, fun q => q.elim0⟩

/-! ## Writing through a view what the final contents read there -/

/-- Contents written through a view, on the elements of the view, are any contents that read the same through it. -/
theorem write_eq_on {κ : Kind} {sp : Space} {s : Shape} {e : EltTy} (v : View sig κ sp s e) (f G : v.ty.Contents (Elt F)) (w : s.Idx → Elt F e)
    (h : v.read (Elt F) G = w) : ∀ i ∈ v.set, v.write (Elt F) f w Finset.univ i = G i := by
  intro i hi
  obtain ⟨x, -, rfl⟩ := Finset.mem_map.mp hi
  rw [View.write_emb_of_mem _ _ (Finset.mem_univ x), ← h]
  simp [View.read]

/-- The elements of a slice of a whole buffer, moved to the index they have in the slice: rank 3, one row. -/
theorem row3_read {α : Type} {a b d t : ℕ} {inb : ∀ q, (![t, 0, 0] : Fin 3 → ℕ) q + (⟨3, ![1, b, d]⟩ : Shape).size q ≤ (⟨3, ![a, b, d]⟩ : Shape).size q}
    (g : ℕ → (⟨3, ![1, b, d]⟩ : Shape).Idx → α) (x : (⟨3, ![1, b, d]⟩ : Shape).Idx) :
    (fun i : (⟨3, ![a, b, d]⟩ : Shape).Idx => g (i 0).val (ix3 0 (i 1) (i 2)))
      ((Rect.unit (s := ⟨3, ![a, b, d]⟩) ![t, 0, 0] (⟨3, ![1, b, d]⟩ : Shape).size inb).emb x) = g t x := by
  have e0 : ((Rect.unit (s := ⟨3, ![a, b, d]⟩) ![t, 0, 0] (⟨3, ![1, b, d]⟩ : Shape).size inb).emb x 0 : ℕ) = t := by
    rw [Rect.emb_apply]; have : (x 0).val < 1 := (x 0).isLt
    simp; omega
  have e1 : (Rect.unit (s := ⟨3, ![a, b, d]⟩) ![t, 0, 0] (⟨3, ![1, b, d]⟩ : Shape).size inb).emb x 1 = x 1 := by
    apply Fin.ext; rw [Rect.emb_apply]; simp
  have e2 : (Rect.unit (s := ⟨3, ![a, b, d]⟩) ![t, 0, 0] (⟨3, ![1, b, d]⟩ : Shape).size inb).emb x 2 = x 2 := by
    apply Fin.ext; rw [Rect.emb_apply]; simp
  show g _ (ix3 0 _ _) = g t x
  rw [e0]
  congr 1
  funext q
  match q with
  | 0 => exact Fin.ext (by have : (x 0).val < 1 := (x 0).isLt; show (0 : ℕ) = (x 0).val; omega)
  | 1 => exact e1
  | 2 => exact e2

end Cert.Softmax
-- ==== Proof.Local.lean ====
/-
# One device's own operations

Each load, store and local copy of the kernel as one step: from the points-to of the tile it touches, at the final
contents or at any contents, to the same with the tile written. The steps are stated at any printed offset that equals
the tile's.
-/
module

public import proofs.«01_k».proof.Proof.Regions

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The tiles held -/

/-- Tile `t` of the exponentials, final; the same tile at any contents. -/
def lP (c : Dev nD) (t : ℕ) (q : PosShare TreeShare) : sProp 𝕄 := (c : Thread nD τ).loc cc0_scratch0 ↦[row3 32 512 1024 t]{q} LG m ρ c
def lA (c : Dev nD) (t : ℕ) : sProp 𝕄 := iprop(∃ f : Buf (Elt F) ((c : Thread nD τ).loc cc0_scratch0), (c : Thread nD τ).loc cc0_scratch0 ↦[row3 32 512 1024 t]{fullShare} f)
/-- The row sums of the device at place `o`, final; the same at any contents. -/
def sP (c : Dev nD) (o : ℕ) (q : PosShare TreeShare) : sProp 𝕄 := (c : Thread nD τ).loc cc0_scratch3 ↦[row3 4 512 1 o]{q} ST m ρ c
def sA (c : Dev nD) (o : ℕ) : sProp 𝕄 := iprop(∃ f : Buf (Elt F) ((c : Thread nD τ).loc cc0_scratch3), (c : Thread nD τ).loc cc0_scratch3 ↦[row3 4 512 1 o]{fullShare} f)
/-- Slot `s` of the `W` buffer holding tile `t`; the slot at any contents. -/
def bP (c : Dev nD) (s t : ℕ) : sProp 𝕄 := (c : Thread nD τ).loc cc0_scratch1 ↦[row3 2 1024 1024 s]{fullShare} WB m c t
def bA (c : Dev nD) (s : ℕ) : sProp 𝕄 := iprop(∃ f : Buf (Elt F) ((c : Thread nD τ).loc cc0_scratch1), (c : Thread nD τ).loc cc0_scratch1 ↦[row3 2 1024 1024 s]{fullShare} f)
/-- Slot `s` of the result's buffer holding tile `t`; the slot at any contents. -/
def gP (c : Dev nD) (s t : ℕ) : sProp 𝕄 := (c : Thread nD τ).loc cc0_scratch2 ↦[row3 2 512 1024 s]{fullShare} SG m ρ c t
def gA (c : Dev nD) (s : ℕ) : sProp 𝕄 := iprop(∃ f : Buf (Elt F) ((c : Thread nD τ).loc cc0_scratch2), (c : Thread nD τ).loc cc0_scratch2 ↦[row3 2 512 1024 s]{fullShare} f)
/-- Column tile `t` of `W`'s block. -/
def wP (c : Dev nD) (t : ℕ) : sProp 𝕄 := (c : Thread nD τ).loc main_arg1 ↦[col2 1024 8192 t]{fullShare} wv m c
/-- Column tile `t` of the result, final; at any contents. -/
def oP (c : Dev nD) (t : ℕ) : sProp 𝕄 := (c : Thread nD τ).loc main_v1 ↦[col2 512 32768 t]{fullShare} OUT m ρ c
def oA (c : Dev nD) (t : ℕ) : sProp 𝕄 := iprop(∃ f : Buf (Elt F) ((c : Thread nD τ).loc main_v1), (c : Thread nD τ).loc main_v1 ↦[col2 512 32768 t]{fullShare} f)
/-- The staged `x`. -/
def xP (c : Dev nD) : sProp 𝕄 := (c : Thread nD τ).loc cc0_stg0_0 ↦{fullShare} (xv m ρ c : Buf (Elt F) ((c : Thread nD τ).loc cc0_stg0_0))

theorem gP_gA (c : Dev nD) (s t : ℕ) : gP m ρ c s t ⊢ gA c s := by unfold gP gA; iintro H; iexists _; iexact H
theorem bP_bA (c : Dev nD) (s t : ℕ) : bP m c s t ⊢ bA (F := F) c s := by unfold bP bA; iintro H; iexists _; iexact H

/-- Elements held at contents that agree there are held at the others. -/
theorem held_eq {ℓ : Loc nD τ sig} {I : Finset (Idx ℓ)} {q : PosShare TreeShare} {f g : Buf (Elt F) ℓ} (h : ∀ i ∈ I, f i = g i) :
    (ℓ ↦[I]{q} f : sProp 𝕄) ⊢ ℓ ↦[I]{q} g := Entails.of_eq (pointsTo_congr h)

/-! ## Loads -/

section Steps
variable (c : Dev nD) {α : Type}

theorem load_x {hl} {k : Vec F S512x1024 .bf16 → Prog (TpuEff nD τ sig (Elt F) Λ₀ .tc) α} {Q : α → sProp 𝕄} :
    xP m ρ c ⊢ iprop((xP m ρ c -∗ WP c (k (xv m ρ c)) Q)
      -∗ WP c (.op (.load xM (Rect.unit (s := S512x1024) ![0, 0] S512x1024.size inb_S512x1024_S512x1024_0_0).toLoadRect hl) k) Q) := by
  have hr : (xM : Memref sig .tc .vmem S512x1024 .bf16).view.readAt (Elt F) (Rect.unit (s := S512x1024) ![0, 0] S512x1024.size inb_S512x1024_S512x1024_0_0).toLoadRect (xv m ρ c) = xv m ρ c :=
    Memref.readAt_unit_zero (Elt F) cc0_stg0_0 (funext fun a => by fin_cases a <;> rfl) _ _
  unfold xP
  iintro H Hk
  iapply (wp_load 𝒱₀ (c : Thread nD τ) none Set.univ (defs := defs₀ (F := F)) (m := xM)
    (r := (Rect.unit (s := S512x1024) ![0, 0] S512x1024.size inb_S512x1024_S512x1024_0_0).toLoadRect) (hl := hl) (k := k) (Q := Q)
    (q := fullShare) (f := xv m ρ c) (Finset.subset_univ _)) $$ H
  iintro H
  rw [hr]
  iapply Hk
  iexact H

theorem load_l {off : Fin 3 → ℕ} {inb} {hl} {t : ℕ} (hoff : off = ![t, 0, 0]) (q : PosShare TreeShare)
    {k : Vec F S1x512x1024 .bf16 → Prog (TpuEff nD τ sig (Elt F) Λ₀ .tc) α} {Q : α → sProp 𝕄} :
    lP m ρ c t q ⊢ iprop((lP m ρ c t q -∗ WP c (k (lT m ρ c t)) Q)
      -∗ WP c (.op (.load lM (Rect.unit (s := S32x512x1024) off S1x512x1024.size inb).toLoadRect hl) k) Q) := by
  subst hoff
  have hr : (lM : Memref sig .tc .vmem S32x512x1024 .bf16).view.readAt (Elt F) (Rect.unit (s := S32x512x1024) ![t, 0, 0] S1x512x1024.size inb).toLoadRect (LG m ρ c) = lT m ρ c t :=
    funext fun x => row3_read (fun n => lT m ρ c n) x
  unfold lP
  iintro H Hk
  iapply (wp_load 𝒱₀ (c : Thread nD τ) none Set.univ (defs := defs₀ (F := F)) (m := lM)
    (r := (Rect.unit (s := S32x512x1024) ![t, 0, 0] S1x512x1024.size inb).toLoadRect) (hl := hl) (k := k) (Q := Q)
    (S := row3 32 512 1024 t) (q := q) (f := LG m ρ c)
    (by show (Rect.unit (s := S32x512x1024) ![t, 0, 0] S1x512x1024.size inb).set.map (Function.Embedding.refl _) ⊆ _
        rw [Finset.map_refl, set_row3])) $$ H
  iintro H
  rw [hr]
  iapply Hk
  iexact H

theorem load_s {off : Fin 3 → ℕ} {inb} {hl} {o : ℕ} (hoff : off = ![o, 0, 0]) (q : PosShare TreeShare)
    {k : Vec F S1x512x1 .f32 → Prog (TpuEff nD τ sig (Elt F) Λ₀ .tc) α} {Q : α → sProp 𝕄} :
    sP m ρ c o q ⊢ iprop((sP m ρ c o q -∗ WP c (k (stat m ρ (devAt c o))) Q)
      -∗ WP c (.op (.load sM (Rect.unit (s := S4x512x1) off S1x512x1.size inb).toLoadRect hl) k) Q) := by
  subst hoff
  have hr : (sM : Memref sig .tc .vmem S4x512x1 .f32).view.readAt (Elt F) (Rect.unit (s := S4x512x1) ![o, 0, 0] S1x512x1.size inb).toLoadRect (ST m ρ c) = stat m ρ (devAt c o) :=
    funext fun x => row3_read (fun n => stat m ρ (devAt c n)) x
  unfold sP
  iintro H Hk
  iapply (wp_load 𝒱₀ (c : Thread nD τ) none Set.univ (defs := defs₀ (F := F)) (m := sM)
    (r := (Rect.unit (s := S4x512x1) ![o, 0, 0] S1x512x1.size inb).toLoadRect) (hl := hl) (k := k) (Q := Q)
    (S := row3 4 512 1 o) (q := q) (f := ST m ρ c)
    (by show (Rect.unit (s := S4x512x1) ![o, 0, 0] S1x512x1.size inb).set.map (Function.Embedding.refl _) ⊆ _
        rw [Finset.map_refl, set_row3])) $$ H
  iintro H
  rw [hr]
  iapply Hk
  iexact H

theorem load_b {off : Fin 3 → ℕ} {inb} {hl} {s t : ℕ} (hoff : off = ![s, 0, 0])
    {k : Vec F S1x1024x1024 .bf16 → Prog (TpuEff nD τ sig (Elt F) Λ₀ .tc) α} {Q : α → sProp 𝕄} :
    bP m c s t ⊢ iprop((bP m c s t -∗ WP c (k (wT m c t)) Q)
      -∗ WP c (.op (.load bM (Rect.unit (s := S2x1024x1024) off S1x1024x1024.size inb).toLoadRect hl) k) Q) := by
  subst hoff
  have hr : (bM : Memref sig .tc .vmem S2x1024x1024 .bf16).view.readAt (Elt F) (Rect.unit (s := S2x1024x1024) ![s, 0, 0] S1x1024x1024.size inb).toLoadRect (WB m c t) = wT m c t :=
    funext fun x => row3_read (fun _ => wT m c t) x
  unfold bP
  iintro H Hk
  iapply (wp_load 𝒱₀ (c : Thread nD τ) none Set.univ (defs := defs₀ (F := F)) (m := bM)
    (r := (Rect.unit (s := S2x1024x1024) ![s, 0, 0] S1x1024x1024.size inb).toLoadRect) (hl := hl) (k := k) (Q := Q)
    (S := row3 2 1024 1024 s) (q := fullShare) (f := WB m c t)
    (by show (Rect.unit (s := S2x1024x1024) ![s, 0, 0] S1x1024x1024.size inb).set.map (Function.Embedding.refl _) ⊆ _
        rw [Finset.map_refl, set_row3])) $$ H
  iintro H
  rw [hr]
  iapply Hk
  iexact H

/-! Loads whose value nothing reads. -/

theorem load_lA {off : Fin 3 → ℕ} {inb} {hl} {t : ℕ} (hoff : off = ![t, 0, 0])
    {k : Vec F S1x512x1024 .bf16 → Prog (TpuEff nD τ sig (Elt F) Λ₀ .tc) α} {Q : α → sProp 𝕄} :
    lA c t ⊢ iprop((∀ v, lA c t -∗ WP c (k v) Q)
      -∗ WP c (.op (.load lM (Rect.unit (s := S32x512x1024) off S1x512x1024.size inb).toLoadRect hl) k) Q) := by
  subst hoff
  unfold lA
  iintro ⟨%f, H⟩ Hk
  iapply (wp_load 𝒱₀ (c : Thread nD τ) none Set.univ (defs := defs₀ (F := F)) (m := lM)
    (r := (Rect.unit (s := S32x512x1024) ![t, 0, 0] S1x512x1024.size inb).toLoadRect) (hl := hl) (k := k) (Q := Q)
    (S := row3 32 512 1024 t) (q := fullShare) (f := f)
    (by show (Rect.unit (s := S32x512x1024) ![t, 0, 0] S1x512x1024.size inb).set.map (Function.Embedding.refl _) ⊆ _
        rw [Finset.map_refl, set_row3])) $$ H
  iintro H
  iapply Hk
  iexists f; iexact H

theorem load_sA {off : Fin 3 → ℕ} {inb} {hl} {t : ℕ} (hoff : off = ![t, 0, 0])
    {k : Vec F S1x512x1 .f32 → Prog (TpuEff nD τ sig (Elt F) Λ₀ .tc) α} {Q : α → sProp 𝕄} :
    sA c t ⊢ iprop((∀ v, sA c t -∗ WP c (k v) Q)
      -∗ WP c (.op (.load sM (Rect.unit (s := S4x512x1) off S1x512x1.size inb).toLoadRect hl) k) Q) := by
  subst hoff
  unfold sA
  iintro ⟨%f, H⟩ Hk
  iapply (wp_load 𝒱₀ (c : Thread nD τ) none Set.univ (defs := defs₀ (F := F)) (m := sM)
    (r := (Rect.unit (s := S4x512x1) ![t, 0, 0] S1x512x1.size inb).toLoadRect) (hl := hl) (k := k) (Q := Q)
    (S := row3 4 512 1 t) (q := fullShare) (f := f)
    (by show (Rect.unit (s := S4x512x1) ![t, 0, 0] S1x512x1.size inb).set.map (Function.Embedding.refl _) ⊆ _
        rw [Finset.map_refl, set_row3])) $$ H
  iintro H
  iapply Hk
  iexists f; iexact H

theorem load_gA {off : Fin 3 → ℕ} {inb} {hl} {t : ℕ} (hoff : off = ![t, 0, 0])
    {k : Vec F S1x512x1024 .f32 → Prog (TpuEff nD τ sig (Elt F) Λ₀ .tc) α} {Q : α → sProp 𝕄} :
    gA c t ⊢ iprop((∀ v, gA c t -∗ WP c (k v) Q)
      -∗ WP c (.op (.load gM (Rect.unit (s := S2x512x1024) off S1x512x1024.size inb).toLoadRect hl) k) Q) := by
  subst hoff
  unfold gA
  iintro ⟨%f, H⟩ Hk
  iapply (wp_load 𝒱₀ (c : Thread nD τ) none Set.univ (defs := defs₀ (F := F)) (m := gM)
    (r := (Rect.unit (s := S2x512x1024) ![t, 0, 0] S1x512x1024.size inb).toLoadRect) (hl := hl) (k := k) (Q := Q)
    (S := row3 2 512 1024 t) (q := fullShare) (f := f)
    (by show (Rect.unit (s := S2x512x1024) ![t, 0, 0] S1x512x1024.size inb).set.map (Function.Embedding.refl _) ⊆ _
        rw [Finset.map_refl, set_row3])) $$ H
  iintro H
  iapply Hk
  iexists f; iexact H

/-! ## Stores -/

theorem store_l {off : Fin 3 → ℕ} {inb} {hx hm} {t : ℕ} (hoff : off = ![t, 0, 0]) {w : Vec F S1x512x1024 .bf16} (hw : w = lT m ρ c t)
    {k : PUnit → Prog (TpuEff nD τ sig (Elt F) Λ₀ .tc) α} {Q : α → sProp 𝕄} :
    lA c t ⊢ iprop((lP m ρ c t fullShare -∗ WP c (k ⟨⟩) Q)
      -∗ WP c (.op (.store lM (Rect.unit (s := S32x512x1024) off S1x512x1024.size inb) w Finset.univ hx hm) k) Q) := by
  subst hoff hw
  unfold lA lP
  iintro ⟨%f, H⟩ Hk
  iapply (wp_store 𝒱₀ (c : Thread nD τ) none Set.univ (defs := defs₀ (F := F)) (m := lM)
    (r := Rect.unit (s := S32x512x1024) ![t, 0, 0] S1x512x1024.size inb) (Mk := Finset.univ) (hx := hx) (k := k) (Q := Q)
    (S := row3 32 512 1024 t) (f := f)
    (by show (View.slice (View.whole cc0_scratch0) (Rect.unit (s := S32x512x1024) ![t, 0, 0] S1x512x1024.size inb)).set ⊆ _
        rw [View.set_slice_whole, set_row3])) $$ H
  iintro H
  iapply Hk
  have hc := fun i hi => write_eq_on ((lM : Memref sig .tc .vmem S32x512x1024 .bf16).access (Rect.unit (s := S32x512x1024) ![t, 0, 0] S1x512x1024.size inb)) f (LG m ρ c) (lT m ρ c t)
      (funext fun x => row3_read (fun n => lT m ρ c n) x) i hi
  have hs : ((lM : Memref sig .tc .vmem S32x512x1024 .bf16).access (Rect.unit (s := S32x512x1024) ![t, 0, 0] S1x512x1024.size inb)).set = row3 32 512 1024 t := by
    show (View.slice (View.whole cc0_scratch0) (Rect.unit (s := S32x512x1024) ![t, 0, 0] S1x512x1024.size inb)).set = _
    rw [View.set_slice_whole, set_row3]
  rw [hs] at hc
  iapply (held_eq (ℓ := (c : Thread nD τ).loc cc0_scratch0) hc) $$ H

theorem store_s {off : Fin 3 → ℕ} {inb} {hx hm} {t : ℕ} (hoff : off = ![t, 0, 0]) {w : Vec F S1x512x1 .f32} (hw : w = stat m ρ (devAt c t))
    {k : PUnit → Prog (TpuEff nD τ sig (Elt F) Λ₀ .tc) α} {Q : α → sProp 𝕄} :
    sA c t ⊢ iprop((sP m ρ c t fullShare -∗ WP c (k ⟨⟩) Q)
      -∗ WP c (.op (.store sM (Rect.unit (s := S4x512x1) off S1x512x1.size inb) w Finset.univ hx hm) k) Q) := by
  subst hoff hw
  unfold sA sP
  iintro ⟨%f, H⟩ Hk
  iapply (wp_store 𝒱₀ (c : Thread nD τ) none Set.univ (defs := defs₀ (F := F)) (m := sM)
    (r := Rect.unit (s := S4x512x1) ![t, 0, 0] S1x512x1.size inb) (Mk := Finset.univ) (hx := hx) (k := k) (Q := Q)
    (S := row3 4 512 1 t) (f := f)
    (by show (View.slice (View.whole cc0_scratch3) (Rect.unit (s := S4x512x1) ![t, 0, 0] S1x512x1.size inb)).set ⊆ _
        rw [View.set_slice_whole, set_row3])) $$ H
  iintro H
  iapply Hk
  have hc := fun i hi => write_eq_on ((sM : Memref sig .tc .vmem S4x512x1 .f32).access (Rect.unit (s := S4x512x1) ![t, 0, 0] S1x512x1.size inb)) f (ST m ρ c) (stat m ρ (devAt c t))
      (funext fun x => row3_read (fun n => stat m ρ (devAt c n)) x) i hi
  have hs : ((sM : Memref sig .tc .vmem S4x512x1 .f32).access (Rect.unit (s := S4x512x1) ![t, 0, 0] S1x512x1.size inb)).set = row3 4 512 1 t := by
    show (View.slice (View.whole cc0_scratch3) (Rect.unit (s := S4x512x1) ![t, 0, 0] S1x512x1.size inb)).set = _
    rw [View.set_slice_whole, set_row3]
  rw [hs] at hc
  iapply (held_eq (ℓ := (c : Thread nD τ).loc cc0_scratch3) hc) $$ H

theorem store_g {off : Fin 3 → ℕ} {inb} {hx hm} {s t : ℕ} (hoff : off = ![s, 0, 0]) {w : Vec F S1x512x1024 .f32} (hw : w = oT m ρ c t)
    {k : PUnit → Prog (TpuEff nD τ sig (Elt F) Λ₀ .tc) α} {Q : α → sProp 𝕄} :
    gA c s ⊢ iprop((gP m ρ c s t -∗ WP c (k ⟨⟩) Q)
      -∗ WP c (.op (.store gM (Rect.unit (s := S2x512x1024) off S1x512x1024.size inb) w Finset.univ hx hm) k) Q) := by
  subst hoff hw
  unfold gA gP
  iintro ⟨%f, H⟩ Hk
  iapply (wp_store 𝒱₀ (c : Thread nD τ) none Set.univ (defs := defs₀ (F := F)) (m := gM)
    (r := Rect.unit (s := S2x512x1024) ![s, 0, 0] S1x512x1024.size inb) (Mk := Finset.univ) (hx := hx) (k := k) (Q := Q)
    (S := row3 2 512 1024 s) (f := f)
    (by show (View.slice (View.whole cc0_scratch2) (Rect.unit (s := S2x512x1024) ![s, 0, 0] S1x512x1024.size inb)).set ⊆ _
        rw [View.set_slice_whole, set_row3])) $$ H
  iintro H
  iapply Hk
  have hc := fun i hi => write_eq_on ((gM : Memref sig .tc .vmem S2x512x1024 .f32).access (Rect.unit (s := S2x512x1024) ![s, 0, 0] S1x512x1024.size inb)) f (SG m ρ c t) (oT m ρ c t)
      (funext fun x => row3_read (fun _ => oT m ρ c t) x) i hi
  have hs : ((gM : Memref sig .tc .vmem S2x512x1024 .f32).access (Rect.unit (s := S2x512x1024) ![s, 0, 0] S1x512x1024.size inb)).set = row3 2 512 1024 s := by
    show (View.slice (View.whole cc0_scratch2) (Rect.unit (s := S2x512x1024) ![s, 0, 0] S1x512x1024.size inb)).set = _
    rw [View.set_slice_whole, set_row3]
  rw [hs] at hc
  iapply (held_eq (ℓ := (c : Thread nD τ).loc cc0_scratch2) hc) $$ H

end Steps

end Cert.Softmax
-- ==== Proof.Copies.lean ====
/-
The copies within one device: a column tile of `W` into a slot of its buffer, a finished tile
of the result from a slot of its buffer to its columns, and the waits for them.
-/
module

public import proofs.«01_k».proof.Proof.Local

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The copies' semaphores -/

/-- The semaphore of slot `s` of the `W` buffer, and of slot `s` of the result's buffer. -/
def wSem (s : ℕ) : DmaSem sig := ⟨31 + s % 2, by show _ < 35; omega⟩
def oSem (s : ℕ) : DmaSem sig := ⟨33 + s % 2, by show _ < 35; omega⟩

theorem sem8_eq {off : Fin 1 → ℕ} {inb} {s : ℕ} (h : off = ![s]) (hs : s < 2) :
    (((cc0_scratch8 : DmaSems sig S2).slice (Rect.unit (s := S2) off S1.size inb)).squeeze S_ squeezes_S1_S_).sem = wSem s := by
  subst h
  obtain rfl | rfl : s = 0 ∨ s = 1 := by omega
  · exact (by decide +kernel : (((cc0_scratch8 : DmaSems sig S2).slice (Rect.unit (s := S2) ![0] S1.size (by decide))).squeeze S_ squeezes_S1_S_).sem = wSem 0)
  · exact (by decide +kernel : (((cc0_scratch8 : DmaSems sig S2).slice (Rect.unit (s := S2) ![1] S1.size (by decide))).squeeze S_ squeezes_S1_S_).sem = wSem 1)

theorem sem9_eq {off : Fin 1 → ℕ} {inb} {s : ℕ} (h : off = ![s]) (hs : s < 2) :
    (((cc0_scratch9 : DmaSems sig S2).slice (Rect.unit (s := S2) off S1.size inb)).squeeze S_ squeezes_S1_S_).sem = oSem s := by
  subst h
  obtain rfl | rfl : s = 0 ∨ s = 1 := by omega
  · exact (by decide +kernel : (((cc0_scratch9 : DmaSems sig S2).slice (Rect.unit (s := S2) ![0] S1.size (by decide))).squeeze S_ squeezes_S1_S_).sem = oSem 0)
  · exact (by decide +kernel : (((cc0_scratch9 : DmaSems sig S2).slice (Rect.unit (s := S2) ![1] S1.size (by decide))).squeeze S_ squeezes_S1_S_).sem = oSem 1)

/-! ## What the copies move -/

/-- A slot of the `W` buffer read as a plain tile is the column tile of `W`. -/
theorem read_bslot (c : Dev nD) {s t : ℕ} (ht : t < 8) {inbD} {inbW} :
    ((bM.slice (Rect.unit (s := S2x1024x1024) ![s, 0, 0] S1x1024x1024.size inbD) (fun _ => rfl)).squeeze S1024x1024 squeezes_S1x1024x1024_S1024x1024).view.read (Elt F) (WB m c t)
      = (wM.slice (Rect.unit (s := S1024x8192) ![0, 1024 * t] S1024x1024.size inbW) (fun _ => rfl)).view.read (Elt F) (wv m c) := by
  funext x
  show WB m c t ((Rect.unit (s := S2x1024x1024) ![s, 0, 0] S1x1024x1024.size inbD).emb (Shape.reshapeEquiv _ x)) = wv m c ((Rect.unit (s := S1024x8192) ![0, 1024 * t] S1024x1024.size inbW).emb x)
  rw [show Shape.reshapeEquiv _ x = Fin.cons ⟨0, Nat.one_pos⟩ x from Shape.reshapeEquiv_cons_one _ x]
  unfold WB wT
  congr 1
  funext a
  match a with
  | 0 => apply Fin.ext; rfl
  | 1 => apply Fin.ext; show 1024 * (t % 8) + (0 + 1 * (x 1).val) = 1024 * t + 1 * (x 1).val; rw [Nat.mod_eq_of_lt ht]; omega

/-- A column tile of the result read is the slot of its buffer. -/
theorem read_ocol (c : Dev nD) {s t : ℕ} (ht : t < 32) {inbD} {inbW} :
    (oM.slice (Rect.unit (s := S512x32768) ![0, 1024 * t] S512x1024.size inbW) (fun _ => rfl)).view.read (Elt F) (OUT m ρ c)
      = ((gM.slice (Rect.unit (s := S2x512x1024) ![s, 0, 0] S1x512x1024.size inbD) (fun _ => rfl)).squeeze S512x1024 squeezes_S1x512x1024_S512x1024).view.read (Elt F) (SG m ρ c t) := by
  funext x
  show OUT m ρ c ((Rect.unit (s := S512x32768) ![0, 1024 * t] S512x1024.size inbW).emb x) = SG m ρ c t ((Rect.unit (s := S2x512x1024) ![s, 0, 0] S1x512x1024.size inbD).emb (Shape.reshapeEquiv _ x))
  rw [show Shape.reshapeEquiv _ x = Fin.cons ⟨0, Nat.one_pos⟩ x from Shape.reshapeEquiv_cons_one _ x]
  unfold OUT SG
  have hx : (x 1).val < 1024 := (x 1).isLt
  have h1 : (((Rect.unit (s := S512x32768) ![0, 1024 * t] S512x1024.size inbW).emb x) 1).val = 1024 * t + (x 1).val := by
    show 1024 * t + 1 * (x 1).val = _; omega
  have e1 : (1024 * t + (x 1).val) / 1024 = t := by omega
  have e2 : (1024 * t + (x 1).val) % 1024 = (x 1).val := by omega
  simp only [h1, e1]
  congr 1
  funext a
  match a with
  | 0 => rfl
  | 1 => apply Fin.ext; rfl
  | 2 => apply Fin.ext; show (1024 * t + (x 1).val) % 1024 = 0 + 1 * (x 1).val; rw [e2]; omega

theorem set_wcol {t : ℕ} {inbW} : (wM.slice (Rect.unit (s := S1024x8192) ![0, 1024 * t] S1024x1024.size inbW) (fun _ => rfl)).view.set = col2 1024 8192 t := by
  show ((View.whole main_arg1).slice (Rect.unit (s := S1024x8192) ![0, 1024 * t] S1024x1024.size inbW)).set = _
  rw [View.set_slice_whole]; exact set_col2
theorem set_ocol {t : ℕ} {inbW} : (oM.slice (Rect.unit (s := S512x32768) ![0, 1024 * t] S512x1024.size inbW) (fun _ => rfl)).view.set = col2 512 32768 t := by
  show ((View.whole main_v1).slice (Rect.unit (s := S512x32768) ![0, 1024 * t] S512x1024.size inbW)).set = _
  rw [View.set_slice_whole]; exact set_col2
theorem set_bslot {s : ℕ} {inbD} : ((bM.slice (Rect.unit (s := S2x1024x1024) ![s, 0, 0] S1x1024x1024.size inbD) (fun _ => rfl)).squeeze S1024x1024 squeezes_S1x1024x1024_S1024x1024).view.set = row3 2 1024 1024 s := by
  show (((View.whole cc0_scratch1).slice (Rect.unit (s := S2x1024x1024) ![s, 0, 0] S1x1024x1024.size inbD)).reshape S1024x1024 _).set = _
  rw [View.set_reshape, View.set_slice_whole]; exact set_row3
theorem set_gslot {s : ℕ} {inbD} : ((gM.slice (Rect.unit (s := S2x512x1024) ![s, 0, 0] S1x512x1024.size inbD) (fun _ => rfl)).squeeze S512x1024 squeezes_S1x512x1024_S512x1024).view.set = row3 2 512 1024 s := by
  show (((View.whole cc0_scratch2).slice (Rect.unit (s := S2x512x1024) ![s, 0, 0] S1x512x1024.size inbD)).reshape S512x1024 _).set = _
  rw [View.set_reshape, View.set_slice_whole]; exact set_row3

/-! ## The copies -/

/-- The units a `W` tile's copy raises, and a result tile's. -/
def NW : ℕ := (Ref.dmaCredit (bM.view.ref) S1024x1024 .bf16)
def NO : ℕ := (Ref.dmaCredit (oM.view.ref) S512x1024 .f32)
theorem credit_w {offD : Fin 3 → ℕ} {inbD} :
    ((bM.slice (Rect.unit (s := S2x1024x1024) offD S1x1024x1024.size inbD) (fun _ => rfl)).squeeze S1024x1024 squeezes_S1x1024x1024_S1024x1024).view.dmaCredit = NW := by
  unfold NW View.dmaCredit; rfl
theorem credit_o {offW : Fin 2 → ℕ} {inbW} :
    (oM.slice (Rect.unit (s := S512x32768) offW S512x1024.size inbW) (fun _ => rfl)).view.dmaCredit = NO := by
  unfold NO View.dmaCredit; rfl
theorem NW_pos : 0 < NW := by unfold NW; decide +kernel
theorem NO_pos : 0 < NO := by unfold NO; decide +kernel

/-- Tile `t` of `W` on its way into slot `s`; tile `t` of the result on its way out of slot `s`. -/
def wFly (c : Dev nD) (s t : ℕ) : sProp 𝕄 := Transfers.Flight EC (c : Thread nD τ) (.dma (wSem s)) () NW iprop(bP m c s t ∗ wP m c t)
def oFly (c : Dev nD) (s t : ℕ) : sProp 𝕄 := Transfers.Flight EC (c : Thread nD τ) (.dma (oSem s)) () NO iprop(oP m ρ c t ∗ gP m ρ c s t)

/-- Device `c` owes `O`, whatever it has waited for. -/
def Owes (c : Dev nD) (O : CellTallies nD τ sig Unit) : sProp 𝕄 := iprop(∃ W, owes (c : Thread nD τ) O W)

section Steps
variable (c : Dev nD) {α : Type}

theorem start_w {offS : Fin 1 → ℕ} {inbS} {offD : Fin 3 → ℕ} {inbD} {offW : Fin 2 → ℕ} {inbW} {h1 h2 h3} {s t : ℕ}
    (hS : offS = ![s]) (hD : offD = ![s, 0, 0]) (hW : offW = ![0, 1024 * t]) (hs : s < 2) (ht : t < 8)
    {k : PUnit → Prog (TpuEff nD τ sig (Elt F) Λ₀ .tc) α} {Q : α → sProp 𝕄} :
    iprop(wP m c t ∗ bA (F := F) c s ∗ semVal ((c : Thread nD τ), .dma (wSem s)) 0) ⊢ iprop((wFly m c s t -∗ WP c (k ⟨⟩) Q)
      -∗ WP c (.op (.enqueueDma (wM.slice (Rect.unit (s := S1024x8192) offW S1024x1024.size inbW) (fun _ => rfl))
          (.here ((bM.slice (Rect.unit (s := S2x1024x1024) offD S1x1024x1024.size inbD) (fun _ => rfl)).squeeze S1024x1024 squeezes_S1x1024x1024_S1024x1024))
          (.dma (((cc0_scratch8 : DmaSems sig S2).slice (Rect.unit (s := S2) offS S1.size inbS)).squeeze S_ squeezes_S1_S_).sem) h1 h2 h3) k) Q) := by
  subst hD hW
  revert h3
  rw [sem8_eq hS hs]
  intro h3
  have hsetS := set_wcol (t := t) (inbW := inbW)
  have hsetD := set_bslot (s := s) (inbD := inbD)
  unfold wP bA wFly
  iintro ⟨Hw, ⟨%f, Hb⟩, Hv⟩ Hk
  iapply (Transfers.wp_dmaLocal EC 𝒱₀ (c : Thread nD τ) none (defs := defs₀ (F := F)) (src := (wM.slice (Rect.unit (s := S1024x8192) ![0, 1024 * t] S1024x1024.size inbW) (fun _ => rfl))) (dst := ((bM.slice (Rect.unit (s := S2x1024x1024) ![s, 0, 0] S1x1024x1024.size inbD) (fun _ => rfl)).squeeze S1024x1024 squeezes_S1x1024x1024_S1024x1024)) (via := ReadAs.same) (q := fullShare) (fs := wv m c) (fd := f)
    (Sd := row3 2 1024 1024 s) (hsrc := h1) (hdst := h2) (hsem := h3) (k := k) (Q := Q) () NW credit_w NW_pos hsetD.le) $$ [Hw Hb Hv]
  · isplitl [Hw]; · rw [hsetS]; iexact Hw
    isplitl [Hb] <;> iassumption
  iintro HF
  iapply Hk
  have hc := fun i hi => write_eq_on ((bM.slice (Rect.unit (s := S2x1024x1024) ![s, 0, 0] S1x1024x1024.size inbD) (fun _ => rfl)).squeeze S1024x1024 squeezes_S1x1024x1024_S1024x1024).view f (WB m c t)
    ((wM.slice (Rect.unit (s := S1024x8192) ![0, 1024 * t] S1024x1024.size inbW) (fun _ => rfl)).view.read (Elt F) (wv m c)) (read_bslot m c ht) i hi
  rw [hsetD] at hc
  have hp := held_eq (F := F) (ℓ := (c : Thread nD τ).loc cc0_scratch1) (q := fullShare) hc
  iapply (Transfers.Flight_mono EC (c : Thread nD τ) (BIClass.sep_mono hp (Entails.of_eq (by rw [hsetS]; rfl)))) $$ HF

theorem wait_w {offS : Fin 1 → ℕ} {inbS} {offD : Fin 3 → ℕ} {inbD} {offW : Fin 2 → ℕ} {inbW} {h1 h2} {s t : ℕ} {O : CellTallies nD τ sig Unit}
    (hS : offS = ![s]) (hs : s < 2)
    {k : PUnit → Prog (TpuEff nD τ sig (Elt F) Λ₀ .tc) α} {Q : α → sProp 𝕄} :
    iprop(wFly m c s t ∗ Owes (F := F) c O ∗ MayWait (c : Thread nD τ) (.dma (wSem s)) () O) ⊢ iprop((iprop((bP m c s t ∗ wP m c t) ∗ semVal ((c : Thread nD τ), .dma (wSem s)) 0 ∗ Owes (F := F) c O) -∗ WP c (k ⟨⟩) Q)
      -∗ WP c (.op (.waitDma2 (((cc0_scratch8 : DmaSems sig S2).slice (Rect.unit (s := S2) offS S1.size inbS)).squeeze S_ squeezes_S1_S_).sem
          (wM.slice (Rect.unit (s := S1024x8192) offW S1024x1024.size inbW) (fun _ => rfl))
          ((bM.slice (Rect.unit (s := S2x1024x1024) offD S1x1024x1024.size inbD) (fun _ => rfl)).squeeze S1024x1024 squeezes_S1x1024x1024_S1024x1024) h1 h2) k) Q) := by
  rw [sem8_eq hS hs]
  unfold wFly Owes
  iintro ⟨HF, ⟨%W, HO⟩, HM⟩ Hk
  iapply (Transfers.wp_waitLocalO EC 𝒱₀ (c : Thread nD τ) none (defs := defs₀ (F := F)) (hsrc := h1) (hdst := h2) (k := k) (Q := Q) () (N := NW) credit_w (O := O) (W := W)) $$ [HF HO HM]
  · isplitl [HF]; · iexact HF
    isplitl [HO] <;> iassumption
  iintro ⟨HD, Hv, HO⟩
  iapply Hk
  isplitl [HD]; · iexact HD
  isplitl [Hv]; · iexact Hv
  iexists _; iexact HO

theorem start_o {offS : Fin 1 → ℕ} {inbS} {offD : Fin 3 → ℕ} {inbD} {offW : Fin 2 → ℕ} {inbW} {h1 h2 h3} {s t : ℕ}
    (hS : offS = ![s]) (hD : offD = ![s, 0, 0]) (hW : offW = ![0, 1024 * t]) (hs : s < 2) (ht : t < 32)
    {k : PUnit → Prog (TpuEff nD τ sig (Elt F) Λ₀ .tc) α} {Q : α → sProp 𝕄} :
    iprop(oA (F := F) c t ∗ gP m ρ c s t ∗ semVal ((c : Thread nD τ), .dma (oSem s)) 0) ⊢ iprop((oFly m ρ c s t -∗ WP c (k ⟨⟩) Q)
      -∗ WP c (.op (.enqueueDma ((gM.slice (Rect.unit (s := S2x512x1024) offD S1x512x1024.size inbD) (fun _ => rfl)).squeeze S512x1024 squeezes_S1x512x1024_S512x1024)
          (.here (oM.slice (Rect.unit (s := S512x32768) offW S512x1024.size inbW) (fun _ => rfl)))
          (.dma (((cc0_scratch9 : DmaSems sig S2).slice (Rect.unit (s := S2) offS S1.size inbS)).squeeze S_ squeezes_S1_S_).sem) h1 h2 h3) k) Q) := by
  subst hD hW
  revert h3
  rw [sem9_eq hS hs]
  intro h3
  have hsetD := set_ocol (t := t) (inbW := inbW)
  have hsetS := set_gslot (s := s) (inbD := inbD)
  unfold gP oA oFly
  iintro ⟨⟨%f, Ho⟩, Hg, Hv⟩ Hk
  iapply (Transfers.wp_dmaLocal EC 𝒱₀ (c : Thread nD τ) none (defs := defs₀ (F := F)) (src := ((gM.slice (Rect.unit (s := S2x512x1024) ![s, 0, 0] S1x512x1024.size inbD) (fun _ => rfl)).squeeze S512x1024 squeezes_S1x512x1024_S512x1024)) (dst := (oM.slice (Rect.unit (s := S512x32768) ![0, 1024 * t] S512x1024.size inbW) (fun _ => rfl))) (via := ReadAs.same) (q := fullShare) (fs := SG m ρ c t) (fd := f)
    (Sd := col2 512 32768 t) (hsrc := h1) (hdst := h2) (hsem := h3) (k := k) (Q := Q) () NO credit_o NO_pos hsetD.le) $$ [Ho Hg Hv]
  · isplitl [Hg]; · iapply (Entails.of_eq (by rw [hsetS])) $$ Hg
    isplitl [Ho] <;> iassumption
  iintro HF
  iapply Hk
  have hc := fun i hi => write_eq_on (oM.slice (Rect.unit (s := S512x32768) ![0, 1024 * t] S512x1024.size inbW) (fun _ => rfl)).view f (OUT m ρ c)
    (((gM.slice (Rect.unit (s := S2x512x1024) ![s, 0, 0] S1x512x1024.size inbD) (fun _ => rfl)).squeeze S512x1024 squeezes_S1x512x1024_S512x1024).view.read (Elt F) (SG m ρ c t)) (read_ocol m ρ c ht) i hi
  rw [hsetD] at hc
  have hp := held_eq (F := F) (ℓ := (c : Thread nD τ).loc main_v1) (q := fullShare) hc
  iapply (Transfers.Flight_mono EC (c : Thread nD τ) (BIClass.sep_mono hp (Entails.of_eq (by rw [hsetS]; rfl)))) $$ HF

theorem wait_o {offS : Fin 1 → ℕ} {inbS} {offD : Fin 3 → ℕ} {inbD} {offW : Fin 2 → ℕ} {inbW} {h1 h2} {s t : ℕ} {O : CellTallies nD τ sig Unit}
    (hS : offS = ![s]) (hs : s < 2)
    {k : PUnit → Prog (TpuEff nD τ sig (Elt F) Λ₀ .tc) α} {Q : α → sProp 𝕄} :
    iprop(oFly m ρ c s t ∗ Owes (F := F) c O ∗ MayWait (c : Thread nD τ) (.dma (oSem s)) () O) ⊢ iprop((iprop((oP m ρ c t ∗ gP m ρ c s t) ∗ semVal ((c : Thread nD τ), .dma (oSem s)) 0 ∗ Owes (F := F) c O) -∗ WP c (k ⟨⟩) Q)
      -∗ WP c (.op (.waitDma2 (((cc0_scratch9 : DmaSems sig S2).slice (Rect.unit (s := S2) offS S1.size inbS)).squeeze S_ squeezes_S1_S_).sem
          ((gM.slice (Rect.unit (s := S2x512x1024) offD S1x512x1024.size inbD) (fun _ => rfl)).squeeze S512x1024 squeezes_S1x512x1024_S512x1024)
          (oM.slice (Rect.unit (s := S512x32768) offW S512x1024.size inbW) (fun _ => rfl)) h1 h2) k) Q) := by
  rw [sem9_eq hS hs]
  unfold oFly Owes
  iintro ⟨HF, ⟨%W, HO⟩, HM⟩ Hk
  iapply (Transfers.wp_waitLocalO EC 𝒱₀ (c : Thread nD τ) none (defs := defs₀ (F := F)) (hsrc := h1) (hdst := h2) (k := k) (Q := Q) () (N := NO) credit_o (O := O) (W := W)) $$ [HF HO HM]
  · isplitl [HF]; · iexact HF
    isplitl [HO] <;> iassumption
  iintro ⟨HD, Hv, HO⟩
  iapply Hk
  isplitl [HD]; · iexact HD
  isplitl [Hv]; · iexact Hv
  iexists _; iexact HO

end Steps

end Cert.Softmax
-- ==== Proof.Ring.lean ====
/-
# The exchange: who copies what to whom, and when

The schedule of the ring's semaphores. Every cell has one round. A device's copies are owed to the next device in the
order in which they are started, and the receive cells' levels follow that order, so every wait is below what its device
still owes.
-/
module

public import proofs.«01_k».proof.Proof.Copies

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
/-! ## The transfers

A device makes fifteen remote copies, each to the next device of its ring. They are numbered in the order in which they
are started: 0–3 the four blocks (two tiles each) of its own exponentials, 4–6 the row sums over the three hops, 7–10
the blocks of the second hop, 11–14 those of the third. -/

/-- Whether transfer `i` moves row sums, its hop, and its block. -/
def isSt (i : Fin 15) : Bool := decide (4 ≤ i.val ∧ i.val < 7)
def hopN (i : Fin 15) : ℕ := if i.val < 4 then 0 else if i.val < 7 then i.val - 4 else 1 + (i.val - 7) / 4
def blkN (i : Fin 15) : ℕ := if i.val < 4 then i.val else if i.val < 7 then 0 else (i.val - 7) % 4
/-- The numbers of its two semaphores. -/
def sNum (i : Fin 15) : ℕ := if i.val < 4 then 1 + i.val else if i.val < 7 then 21 + i.val else i.val - 2
def rNum (i : Fin 15) : ℕ := if i.val < 4 then 13 + i.val else if i.val < 7 then 24 + i.val else 10 + i.val
/-- Which transfer a semaphore serves, and whether at the receiving end. -/
def kindOf (q : ℕ) : Option (Bool × Fin 15) :=
  if q = 0 then none
  else if q < 5 then some (false, ⟨(q - 1) % 15, Nat.mod_lt _ (by decide)⟩)
  else if q < 13 then some (false, ⟨(q + 2) % 15, Nat.mod_lt _ (by decide)⟩)
  else if q < 17 then some (true, ⟨(q - 13) % 15, Nat.mod_lt _ (by decide)⟩)
  else if q < 25 then some (true, ⟨(q - 10) % 15, Nat.mod_lt _ (by decide)⟩)
  else if q < 28 then some (false, ⟨(q - 21) % 15, Nat.mod_lt _ (by decide)⟩)
  else if q < 31 then some (true, ⟨(q - 24) % 15, Nat.mod_lt _ (by decide)⟩)
  else none

theorem sNum_lt (i : Fin 15) : sNum i < 35 := by revert i; decide
theorem rNum_lt (i : Fin 15) : rNum i < 35 := by revert i; decide
theorem kind_s (i : Fin 15) : kindOf (sNum i) = some (false, i) := by revert i; decide
theorem kind_r (i : Fin 15) : kindOf (rNum i) = some (true, i) := by revert i; decide

def sS (i : Fin 15) : DmaSem sig := ⟨sNum i, sNum_lt i⟩
def rS (i : Fin 15) : DmaSem sig := ⟨rNum i, rNum_lt i⟩
/-- The barrier semaphore. -/
abbrev barS : Sem sig := (SemArray.scalar (sig.barrier 0 rfl) : Sems sig S_).sem

abbrev barCell (c : Dev nD) : GSem nD τ sig := ((c : Thread nD τ), .reg barS)
abbrev sCell (c : Dev nD) (i : Fin 15) : GSem nD τ sig := ((c : Thread nD τ), .dma (sS i))
abbrev rCell (c : Dev nD) (i : Fin 15) : GSem nD τ sig := ((c : Thread nD τ), .dma (rS i))

/-- The ring place whose data transfer `i` carries away from device `c`, and to device `c`. -/
def orgS (c : Dev nD) (i : Fin 15) : ℕ := (yOf c + 4 - hopN i) % 4
def orgR (c : Dev nD) (i : Fin 15) : ℕ := (yOf c + 4 - (hopN i + 1)) % 4
theorem orgR_rt (c : Dev nD) (i : Fin 15) : orgR (rt c) i = orgS c i := by
  unfold orgR orgS; rw [yOf_rt]
  have := yOf_lt c
  have h : hopN i ≤ 2 := by revert i; decide
  omega
theorem orgS_lt' (c : Dev nD) (i : Fin 15) : orgS (lt c) i = orgR c i := by
  conv_rhs => rw [← rt_lt c]
  exact (orgR_rt (lt c) i).symm

/-- What a transfer moves, at place `o`: final, with share `q`; the same elements at any contents. -/
def blkP (c : Dev nD) (i : Fin 15) (o : ℕ) (q : PosShare TreeShare) : sProp 𝕄 :=
  if isSt i then sP m ρ c o q else iprop(lP m ρ c (8 * o + 2 * blkN i) q ∗ lP m ρ c (8 * o + 2 * blkN i + 1) q)
def blkA (c : Dev nD) (i : Fin 15) (o : ℕ) : sProp 𝕄 :=
  if isSt i then sA c o else iprop(lA c (8 * o + 2 * blkN i) ∗ lA c (8 * o + 2 * blkN i + 1))

instance lP_storable (c t q) : BI.Storable (upEmb : UEmb _ 𝕄) (lP (F := F) m ρ c t q) := by unfold lP; infer_instance
instance lA_storable (c t) : BI.Storable (upEmb : UEmb _ 𝕄) (lA (F := F) c t) := by unfold lA; infer_instance
instance sP_storable (c t q) : BI.Storable (upEmb : UEmb _ 𝕄) (sP (F := F) m ρ c t q) := by unfold sP; infer_instance
instance sA_storable (c t) : BI.Storable (upEmb : UEmb _ 𝕄) (sA (F := F) c t) := by unfold sA; infer_instance
instance blkP_storable (c i o q) : BI.Storable (upEmb : UEmb _ 𝕄) (blkP (F := F) m ρ c i o q) := by unfold blkP; split <;> infer_instance
instance blkA_storable (c i o) : BI.Storable (upEmb : UEmb _ 𝕄) (blkA (F := F) c i o) := by unfold blkA; split <;> infer_instance

/-- The credit of a block of two tiles, and of a row of sums. -/
def NC : ℕ := ((lM.slice (Rect.unit (s := S32x512x1024) ![0, 0, 0] S2x512x1024.size (by decide)) (fun _ => rfl)).view : View sig .tc .vmem S2x512x1024 .bf16).dmaCredit
def NS : ℕ := ((sM.slice (Rect.unit (s := S4x512x1) ![0, 0, 0] S1x512x1.size (by decide)) (fun _ => rfl)).view : View sig .tc .vmem S1x512x1 .f32).dmaCredit
theorem NC_pos : 0 < NC := View.dmaCredit_pos _ (by decide +kernel)
theorem NS_pos : 0 < NS := View.dmaCredit_pos _ (by decide +kernel)
def NR (i : Fin 15) : ℕ := if isSt i then NS else NC
theorem NR_pos (i : Fin 15) : 0 < NR i := by unfold NR; split; exacts [NS_pos, NC_pos]

/-! ## The schedule -/

/-- What the next device's barrier signal hands over: everything this device will copy onto there. -/
def barPay (c : Dev nD) : sProp 𝕄 := bigSep Finset.univ fun i : Fin 15 => blkA (F := F) (rt c) i (orgS c i)
instance barPay_storable (c) : BI.Storable (upEmb : UEmb _ 𝕄) (barPay (F := F) c) := by unfold barPay; infer_instance

def dutiesOf : SemLoc sig → Finset Bool
  | .reg _ => Finset.univ
  | .dma q => if (kindOf q.val).isSome then {false} else ∅
def amountOf : SemLoc sig → ℕ
  | .reg _ => 1
  | .dma q => match kindOf q.val with
    | some (_, i) => NR i
    | none => 1
def payOf (c : Dev nD) (d : Bool) : SemLoc sig → sProp 𝕄
  | .reg _ => if d then barPay (F := F) c else iprop(emp)
  | .dma q => match kindOf q.val with
    | some (false, i) => blkP m ρ c i (orgS c i) fullShare.left
    | some (true, i) => blkP m ρ c i (orgR c i) fullShare
    | none => iprop(emp)

theorem amountOf_pos (s : SemLoc sig) : 0 < amountOf s := by
  cases s with
  | reg s => exact Nat.one_pos
  | dma q =>
    show 0 < (match kindOf q.val with | some (_, i) => NR i | none => 1)
    split; exacts [NR_pos _, Nat.one_pos]

/-- One round of every cell: a barrier cell has the duties `false` (from the device before) and `true` (from the next) of
    one unit each; a transfer's cells the duty `false` of the transfer's credit: the sent block's lent half comes back at
    the sender, the block arrives whole at the receiver. -/
def ringRd : Rounds.Schedule (GSem nD τ sig) Bool 𝕄 where
  duties g r := if r = 0 ∧ g.1.2 = .tc then dutiesOf g.2 else ∅
  unitless _ := False
  amount g _ _ := amountOf g.2
  payload g _ d := payOf m ρ g.1.1 d g.2
  amount_pos g _ _ _ := amountOf_pos g.2

instance payOf_storable (c : Dev nD) (d : Bool) (s : SemLoc sig) : BI.Storable (upEmb : UEmb _ 𝕄) (payOf (F := F) m ρ c d s) := by
  cases s with
  | reg s => show BI.Storable upEmb (if d then barPay c else iprop(emp)); split <;> infer_instance
  | dma q =>
    show BI.Storable upEmb (match kindOf q.val with
      | some (false, i) => blkP m ρ c i (orgS c i) fullShare.left
      | some (true, i) => blkP m ρ c i (orgR c i) fullShare
      | none => iprop(emp))
    split <;> infer_instance
instance ringRd_payload_storable (g : GSem nD τ sig) (r : ℕ) (d : Bool) :
    BI.Storable (upEmb : UEmb _ 𝕄) ((ringRd (F := F) m ρ).payload g r d) := payOf_storable m ρ g.1.1 d g.2

section Sched
variable (c : Dev nD) (i : Fin 15)

theorem duties_bar : (ringRd (F := F) m ρ).duties (barCell c) 0 = Finset.univ := by
  show (if (0 : ℕ) = 0 ∧ (barCell c).1.2 = .tc then dutiesOf (barCell c).2 else ∅) = _
  rw [if_pos ⟨rfl, rfl⟩]; rfl
theorem duties_s : (ringRd (F := F) m ρ).duties (sCell c i) 0 = {false} := by
  show (if (0 : ℕ) = 0 ∧ (sCell c i).1.2 = .tc then dutiesOf (sCell c i).2 else ∅) = _
  rw [if_pos ⟨rfl, rfl⟩]
  show (if (kindOf (sNum i)).isSome then {false} else ∅) = _
  rw [kind_s]; rfl
theorem duties_r : (ringRd (F := F) m ρ).duties (rCell c i) 0 = {false} := by
  show (if (0 : ℕ) = 0 ∧ (rCell c i).1.2 = .tc then dutiesOf (rCell c i).2 else ∅) = _
  rw [if_pos ⟨rfl, rfl⟩]
  show (if (kindOf (rNum i)).isSome then {false} else ∅) = _
  rw [kind_r]; rfl
theorem duties_later (g : GSem nD τ sig) : ∀ r, 1 ≤ r → (ringRd (F := F) m ρ).duties g r = ∅ :=
  fun r hr => if_neg fun h => by omega

theorem amount_bar (d : Bool) : (ringRd (F := F) m ρ).amount (barCell c) 0 d = 1 := rfl
theorem amount_s (d : Bool) : (ringRd (F := F) m ρ).amount (sCell c i) 0 d = NR i := by
  show (match kindOf (sNum i) with | some (_, i) => NR i | none => 1) = _
  rw [kind_s]
theorem amount_r (d : Bool) : (ringRd (F := F) m ρ).amount (rCell c i) 0 d = NR i := by
  show (match kindOf (rNum i) with | some (_, i) => NR i | none => 1) = _
  rw [kind_r]

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_s : (ringRd (F := F) m ρ).expect (sCell c i) 0 = NR i := by
  unfold Schedule.expect Schedule.amountOf; rw [duties_s, Finset.sum_singleton, amount_s]
theorem expect_r : (ringRd (F := F) m ρ).expect (rCell c i) 0 = NR i := by
  unfold Schedule.expect Schedule.amountOf; rw [duties_r, Finset.sum_singleton, amount_r]

theorem payload_bar_true : (ringRd (F := F) m ρ).payload (barCell c) 0 true = barPay c := rfl
theorem payload_bar_false : (ringRd (F := F) m ρ).payload (barCell c) 0 false = iprop(emp) := rfl
theorem payload_s (d : Bool) : (ringRd (F := F) m ρ).payload (sCell c i) 0 d = blkP m ρ c i (orgS c i) fullShare.left := by
  show (match kindOf (sNum i) with
      | some (false, i) => blkP m ρ c i (orgS c i) fullShare.left
      | some (true, i) => blkP m ρ c i (orgR c i) fullShare
      | none => iprop(emp)) = _
  rw [kind_s]
theorem payload_r (d : Bool) : (ringRd (F := F) m ρ).payload (rCell c i) 0 d = blkP m ρ c i (orgR c i) fullShare := by
  show (match kindOf (rNum i) with
      | some (false, i) => blkP m ρ c i (orgS c i) fullShare.left
      | some (true, i) => blkP m ρ c i (orgR c i) fullShare
      | none => iprop(emp)) = _
  rw [kind_r]

theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_s : bigSep ((ringRd (F := F) m ρ).duties (sCell c i) 0 \ ∅) (fun d => (ringRd (F := F) m ρ).payload (sCell c i) 0 d) = blkP m ρ c i (orgS c i) fullShare.left := by
  rw [Finset.sdiff_empty, duties_s, bigSep_singleton, payload_s]
theorem rest_r : bigSep ((ringRd (F := F) m ρ).duties (rCell c i) 0 \ ∅) (fun d => (ringRd (F := F) m ρ).payload (rCell c i) 0 d) = blkP m ρ c i (orgR c i) fullShare := by
  rw [Finset.sdiff_empty, duties_r, bigSep_singleton, payload_r]

end Sched

/-! ## What is owed, and the levels -/

/-- From transfer `n` on: the credits device `c` still owes the next device. -/
def owed (c : Dev nD) (n : ℕ) : CellTallies nD τ sig Unit :=
  ∑ i ∈ Finset.univ.filter (fun i : Fin 15 => n ≤ i.val), tallyAt (rCell (rt c) i) () (NR i)
theorem owed_succ (c : Dev nD) (i : Fin 15) : owed c i.val = owed c (i.val + 1) + tallyAt (rCell (rt c) i) () (NR i) := by
  unfold owed
  have h : Finset.univ.filter (fun j : Fin 15 => i.val ≤ j.val) = insert i (Finset.univ.filter (fun j : Fin 15 => i.val + 1 ≤ j.val)) := by
    ext j; simp only [Finset.mem_filter, Finset.mem_insert, Finset.mem_univ, true_and, Fin.ext_iff]; omega
  rw [h, Finset.sum_insert (by simp), add_comm]
theorem owed_last (c : Dev nD) : owed c 15 = 0 := by
  unfold owed
  rw [Finset.filter_false_of_mem fun j _ => by have := j.isLt; omega, Finset.sum_empty]
theorem owed_pos {c : Dev nD} {n : ℕ} {g : GSem nD τ sig} {u : Unit} (h : 0 < owed c n g u) : ∃ i : Fin 15, n ≤ i.val ∧ g = rCell (rt c) i := by
  unfold owed at h
  rw [Finset.sum_apply, Finsupp.finset_sum_apply] at h
  obtain ⟨i, hi, hp⟩ := Finset.exists_ne_zero_of_sum_ne_zero (Nat.pos_iff_ne_zero.mp h)
  refine ⟨i, (Finset.mem_filter.mp hi).2, ?_⟩
  by_contra hn
  rw [tallyAt_apply, if_neg (fun h' => hn h'.1)] at hp
  exact hp rfl

/-- At the start also a unit to each neighbour's barrier cell; the first signal goes to the cell summed last. -/
def owed1 (c : Dev nD) : CellTallies nD τ sig Unit := owed c 0 + tallyAt (barCell (rt c)) () 1
def owed0 (c : Dev nD) : CellTallies nD τ sig Unit := owed1 c + tallyAt (barCell (lt c)) () 1

def L (g : GSem nD τ sig) : Finset Unit := if g.1.2 = .tc then {()} else ∅
def lvOf : SemLoc sig → ℕ
  | .reg _ => 1
  | .dma q => match kindOf q.val with
    | some (true, i) => i.val + 2
    | _ => 0
/-- Barrier cells at 1, the receive cells above in the order of the transfers, everything else at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (i : Fin 15) (u : Unit) : lv (rCell c i) u = i.val + 2 := by
  show (match kindOf (rNum i) with | some (true, i) => i.val + 2 | _ => 0) = _
  rw [kind_r]
theorem lv_s (i : Fin 15) : lvOf (.dma (sS i)) = 0 := by
  show (match kindOf (sNum i) with | some (true, i) => i.val + 2 | _ => 0) = _
  rw [kind_s]

/-- A wait below every cell still owed. -/
theorem mayWait_owed (c : Dev nD) (s : SemLoc sig) (n : ℕ) (h : lvOf s < n + 2) :
    (levAts L lv : sProp 𝕄) ⊢ MayWait (c : Thread nD τ) s () (owed c n) :=
  MayOwe.of_cut (L := L) (lev := lv) (n + 1) (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; show lvOf s ≤ n + 1; omega)
    (fun g u hg => by obtain ⟨i, hi, rfl⟩ := owed_pos hg; rw [lv_r]; omega)

theorem owed0_pos {c : Dev nD} {g : GSem nD τ sig} {u : Unit} (h : 0 < owed0 c g u) :
    (∃ i : Fin 15, g = rCell (rt c) i) ∨ (∃ d, g = barCell d) := by
  unfold owed0 owed1 at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨i, -, hi⟩ := owed_pos (show 0 < owed c 0 g u from by omega)
  exact hn.1 ⟨i, hi⟩

theorem mayWait_start (c : Dev nD) (s : SemLoc sig) (h : lvOf s = 0) :
    (levAts L lv : sProp 𝕄) ⊢ MayWait (c : Thread nD τ) s () (owed0 c) :=
  MayOwe.of_cut (L := L) (lev := lv) 0 (fun p hp => by rw [Finset.mem_singleton.mp hp, L_tc]; exact Finset.mem_singleton_self _)
    (fun g u hg => by rcases owed0_pos hg with ⟨i, rfl⟩ | ⟨d, rfl⟩ <;> exact Finset.mem_singleton_self _)
    (fun p hp => by rw [Finset.mem_singleton.mp hp]; exact h.le)
    (fun g u hg => by
      rcases owed0_pos hg with ⟨i, rfl⟩ | ⟨d, rfl⟩
      · rw [lv_r]; omega
      · exact Nat.one_pos)

/-! ## The cells as one family -/

/-- The thirty-one cells of a device: its barrier, the sends, the receives. -/
def csem (k : Fin 1 ⊕ (Fin 15 ⊕ Fin 15)) : SemLoc sig := match k with
  | .inl _ => .reg barS
  | .inr (.inl i) => .dma (sS i)
  | .inr (.inr i) => .dma (rS i)
abbrev CK : Type := Fin 1 ⊕ (Fin 15 ⊕ Fin 15)
abbrev kcell (ck : Dev nD × CK) : GSem nD τ sig := ((ck.1 : Thread nD τ), csem ck.2)

/-- The ring's standing facts: every cell's invariant under the names `K`, round 0 reached everywhere, the levels. -/
def recs (K : Dev nD × CK → ℕ) : sProp 𝕄 :=
  iprop((bigSep Finset.univ fun ck : Dev nD × CK => cellInv ER (ringRd m ρ) (K ck) (kcell ck))
    ∗ (bigSep Finset.univ fun ck : Dev nD × CK => reached ER (kcell ck) 0) ∗ levAts L lv)
instance recs_persistent (K : Dev nD × CK → ℕ) : BI.Persistent (recs m ρ K) := by unfold recs; infer_instance

theorem recs_inv (K : Dev nD × CK → ℕ) (ck : Dev nD × CK) : recs m ρ K ⊢ cellInv ER (ringRd m ρ) (K ck) (kcell ck) := by
  have h : (bigSep Finset.univ fun ck : Dev nD × CK => (cellInv ER (ringRd m ρ) (K ck) (kcell ck) : sProp 𝕄)) ⊢ cellInv ER (ringRd m ρ) (K ck) (kcell ck) :=
    bigSep_elim (Finset.mem_univ ck)
  unfold recs; iintro ⟨H, -, -⟩; iapply h; iexact H
theorem recs_reached (K : Dev nD × CK → ℕ) (ck : Dev nD × CK) : recs m ρ K ⊢ reached ER (kcell ck) 0 := by
  have h : (bigSep Finset.univ fun ck : Dev nD × CK => (reached ER (kcell ck) 0 : sProp 𝕄)) ⊢ reached ER (kcell ck) 0 := bigSep_elim (Finset.mem_univ ck)
  unfold recs; iintro ⟨-, H, -⟩; iapply h; iexact H
theorem recs_lev (K : Dev nD × CK → ℕ) : recs m ρ K ⊢ (levAts L lv : sProp 𝕄) := by
  unfold recs; iintro ⟨-, -, H⟩; iexact H

theorem recs_wait (K : Dev nD × CK → ℕ) (c : Dev nD) (s : SemLoc sig) (n : ℕ) (h : lvOf s < n + 2) :
    recs m ρ K ⊢ MayWait (c : Thread nD τ) s () (owed c n) := by
  unfold recs; iintro ⟨-, -, H⟩; iapply (mayWait_owed (F := F) c s n h); iexact H

end Cert.Softmax
-- ==== Proof.Closed.lean ====
/-
# Printed indices

The devices, offsets and semaphores the kernel's index arithmetic names, in closed form.
-/
module

public import proofs.«01_k».proof.Proof.Ring

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
theorem trips1 : k0_t1_loop.trips = 8 := by decide +kernel
theorem trips2 : k0_t2_loop.trips = 6 := by decide +kernel
theorem trips3 : k0_t3_loop.trips = 6 := by decide +kernel
theorem trips4 : k0_t4_loop.trips = 6 := by decide +kernel
theorem trips5 : k0_t5_loop.trips = 6 := by decide +kernel

/-! ## Devices -/

theorem dev1_eq (c : Dev nD) : (⟨k0_dev1 c, k0_dev1_lt c⟩ : Dev nD) = lt c := by revert c; decide +kernel
theorem dev2_eq (c : Dev nD) : (⟨k0_dev2 c, k0_dev2_lt c⟩ : Dev nD) = rt c := by revert c; decide +kernel
theorem dev3_val (c : Dev nD) : k0_dev3 c = (rt c).val := by revert c; decide +kernel
theorem dev4_eq (c : Dev nD) : (⟨k0_dev4 c, k0_dev4_lt c⟩ : Dev nD) = rt c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = rt c := by revert c; decide +kernel
theorem dev7_eq (c : Dev nD) : (⟨k0_dev7 c, k0_dev7_lt c⟩ : Dev nD) = rt c := by revert c; decide +kernel
theorem dev8_eq (c : Dev nD) : (⟨k0_dev8 c, k0_dev8_lt c⟩ : Dev nD) = rt c := by revert c; decide +kernel
theorem dev9_eq (c : Dev nD) : (⟨k0_dev9 c, k0_dev9_lt c⟩ : Dev nD) = rt c := by revert c; decide +kernel
theorem dev10_eq (c : Dev nD) : (⟨k0_dev10 c, k0_dev10_lt c⟩ : Dev nD) = rt c := by revert c; decide +kernel
theorem dev11_eq (c : Dev nD) : (⟨k0_dev11 c, k0_dev11_lt c⟩ : Dev nD) = rt c := by revert c; decide +kernel
theorem dev12_eq (c : Dev nD) : (⟨k0_dev12 c, k0_dev12_lt c⟩ : Dev nD) = rt c := by revert c; decide +kernel
theorem dev13_eq (c : Dev nD) : (⟨k0_dev13 c, k0_dev13_lt c⟩ : Dev nD) = rt c := by revert c; decide +kernel
theorem dev14_eq (c : Dev nD) : (⟨k0_dev14 c, k0_dev14_lt c⟩ : Dev nD) = rt c := by revert c; decide +kernel

/-! ## Offsets -/

theorem off1_eq (r : Fin 8) : k0_off1 (BitVec.ofNat 32 r.val) = ![r.val % 2] := by revert r; decide +kernel
theorem off18_eq (r : Fin 8) : k0_off18 (BitVec.ofNat 32 r.val) = ![r.val % 2, 0, 0] := by revert r; decide +kernel
theorem off11_eq (k : Fin k0_t1_loop.trips) : k0_off11 k = ![0, k.val / 2] := by revert k; decide +kernel
theorem off12_eq (c : Dev nD) (k : Fin k0_t1_loop.trips) (h : k.val % 2 = 1) : k0_off12 c k = ![8 * yOf c + 2 * (k.val / 2), 0, 0] := by
  revert c k; decide +kernel
theorem off14_eq (c : Dev nD) (r : Fin 3) : k0_off14 c (BitVec.ofNat 32 r.val) = ![(yOf c + 4 - r.val) % 4, 0, 0] := by revert c r; decide +kernel
theorem off17_eq (c : Dev nD) (r : Fin 8) : k0_off17 c (BitVec.ofNat 32 r.val) = ![0, 1024 * (8 * yOf c + r.val)] := by revert c r; decide +kernel
theorem off27_eq (c : Dev nD) (h : Fin 3) (b : Fin 4) :
    k0_off27 c (BitVec.ofNat 32 h.val) (BitVec.ofNat 32 (2 * b.val)) = ![8 * ((yOf c + 4 - h.val) % 4) + 2 * b.val, 0, 0] := by revert c h b; decide +kernel
theorem off28_eq (c : Dev nD) (h : Fin 3) (r : Fin 8) :
    k0_off28 c (BitVec.ofNat 32 h.val) (BitVec.ofNat 32 r.val) = ![8 * ((yOf c + 4 - (h.val + 1)) % 4) + r.val, 0, 0] := by revert c h r; decide +kernel
theorem off29_eq (c : Dev nD) (h : Fin 3) (r : Fin 8) :
    k0_off29 c (BitVec.ofNat 32 h.val) (BitVec.ofNat 32 r.val) = ![0, 1024 * (8 * ((yOf c + 4 - (h.val + 1)) % 4) + r.val)] := by revert c h r; decide +kernel

theorem off31_eq (c : Dev nD) (k : Fin k0_t3_loop.trips) : k0_off31 c k = ![0, 1024 * (8 * ((yOf c + 4 - 1) % 4) + k.val)] := by revert c k; decide +kernel
theorem off33_eq (c : Dev nD) (k : Fin k0_t3_loop.trips) : k0_off33 c k = ![8 * ((yOf c + 4 - 1) % 4) + (k.val + 2), 0, 0] := by revert c k; decide +kernel
theorem off36_eq (c : Dev nD) (k : Fin k0_t3_loop.trips) : k0_off36 c k = ![0, 1024 * (8 * ((yOf c + 4 - 1) % 4) + (k.val + 2))] := by revert c k; decide +kernel
theorem off39_eq (c : Dev nD) (k : Fin k0_t4_loop.trips) : k0_off39 c k = ![0, 1024 * (8 * ((yOf c + 4 - 2) % 4) + k.val)] := by revert c k; decide +kernel
theorem off41_eq (c : Dev nD) (k : Fin k0_t4_loop.trips) : k0_off41 c k = ![8 * ((yOf c + 4 - 2) % 4) + (k.val + 2), 0, 0] := by revert c k; decide +kernel
theorem off44_eq (c : Dev nD) (k : Fin k0_t4_loop.trips) : k0_off44 c k = ![0, 1024 * (8 * ((yOf c + 4 - 2) % 4) + (k.val + 2))] := by revert c k; decide +kernel
theorem off47_eq (c : Dev nD) (k : Fin k0_t5_loop.trips) : k0_off47 c k = ![0, 1024 * (8 * ((yOf c + 4 - 3) % 4) + k.val)] := by revert c k; decide +kernel
theorem off49_eq (c : Dev nD) (k : Fin k0_t5_loop.trips) : k0_off49 c k = ![8 * ((yOf c + 4 - 3) % 4) + (k.val + 2), 0, 0] := by revert c k; decide +kernel
theorem off52_eq (c : Dev nD) (k : Fin k0_t5_loop.trips) : k0_off52 c k = ![0, 1024 * (8 * ((yOf c + 4 - 3) % 4) + (k.val + 2))] := by revert c k; decide +kernel
theorem cond1_eq (k : Fin k0_t1_loop.trips) : (k0_cond1 k = 1#1) ↔ k.val < 6 := by revert k; decide +kernel
theorem cond2_eq (k : Fin k0_t1_loop.trips) : (k0_cond2 k = 1#1) ↔ k.val % 2 = 1 := by revert k; decide +kernel

/-! ## The semaphores of the transfers -/

theorem sem4_eq (i : Fin 15) (h : isSt i = false) {inb} :
    (((cc0_scratch4 : DmaSems sig S3x4).slice (Rect.unit (s := S3x4) ![hopN i, blkN i] S1x1.size inb)).squeeze S_ squeezes_S1x1_S_).sem = sS i := by
  revert i; decide +kernel
theorem sem5_eq (i : Fin 15) (h : isSt i = false) {inb} :
    (((cc0_scratch5 : DmaSems sig S3x4).slice (Rect.unit (s := S3x4) ![hopN i, blkN i] S1x1.size inb)).squeeze S_ squeezes_S1x1_S_).sem = rS i := by
  revert i; decide +kernel
theorem sem6_eq (i : Fin 15) (h : isSt i = true) {inb} :
    (((cc0_scratch6 : DmaSems sig S3).slice (Rect.unit (s := S3) ![hopN i] S1.size inb)).squeeze S_ squeezes_S1_S_).sem = sS i := by
  revert i; decide +kernel
theorem sem7_eq (i : Fin 15) (h : isSt i = true) {inb} :
    (((cc0_scratch7 : DmaSems sig S3).slice (Rect.unit (s := S3) ![hopN i] S1.size inb)).squeeze S_ squeezes_S1_S_).sem = rS i := by
  revert i; decide +kernel

end Cert.Softmax
-- ==== Proof.Remote.lean ====
/-
# A transfer's steps

Starting a copy to the next device, waiting for its sending end, waiting for its receiving end: each as one step between
the stages of the transfer.
-/
module

public import proofs.«01_k».proof.Proof.Closed

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## The stages of a transfer -/

/-- Not yet started: both duty tokens, both positions, the credit to wait with at the receiving end, and the elements
    it will land on at the next device. -/
def Pend (c : Dev nD) (i : Fin 15) : sProp 𝕄 :=
  iprop((dutyTok ER (sCell c i) 0 false ∗ dutyTok ER (rCell (rt c) i) 0 false) ∗ atPos ER (sCell c i) 0 ∅ 0
    ∗ (atPos ER (rCell c i) 0 ∅ 0 ∗ cred (tallyAt (rCell c i) () (NR i))) ∗ blkA (rt c) i (orgS c i))
/-- Started, neither end waited for; sent, the arrival not waited for; both waited for. -/
def Fly (c : Dev nD) (i : Fin 15) : sProp 𝕄 :=
  iprop((cred (tallyAt (sCell c i) () (NR i)) ∗ atPos ER (sCell c i) 0 ∅ 0) ∗ (atPos ER (rCell c i) 0 ∅ 0 ∗ cred (tallyAt (rCell c i) () (NR i))))
def Mid (c : Dev nD) (i : Fin 15) : sProp 𝕄 :=
  iprop(semVal (sCell c i) 0 ∗ (atPos ER (rCell c i) 0 ∅ 0 ∗ cred (tallyAt (rCell c i) () (NR i))))
def Done (c : Dev nD) (i : Fin 15) : sProp 𝕄 := iprop(semVal (sCell c i) 0 ∗ semVal (rCell c i) 0)

section Steps
variable (c : Dev nD) {α : Type}

/-- Starting transfer `i`: the block's left half is lent, the next device's elements are given up. -/
theorem start_any (i : Fin 15) {s : Shape} {e : EltTy} (mr : Memref sig .tc .vmem s e) (fs : Buf (Elt F) (mr.view.loc (c : Thread nD τ)))
    (n : Dev nD) (hn : n = rt c) (q1 q2 : DmaSem sig) (hq1 : q1 = sS i) (hq2 : q2 = rS i)
    {hsc : (mr : Memref sig (Dev.tc n : Thread nD τ).2.kind .vmem s e).view.ref.isScScratch = false}
    {hsrc : mr.view.WordExact} {hdst : mr.view.WordExact}
    {hsem : DmaTarget.Typed .vmem (.dma q2) (.remote (Dev.tc n : Thread nD τ) (mr : Memref sig .tc .vmem s e) (.dma q1) hsc)}
    (hP : blkP m ρ c i (orgS c i) fullShare.left = (mr.view.loc (c : Thread nD τ) ↦[mr.view.set]{fullShare.left} fs))
    (hA : blkA (F := F) (rt c) i (orgS c i) ⊢ ∃ fd : Buf (Elt F) (mr.view.loc (rt c : Thread nD τ)), mr.view.loc (rt c : Thread nD τ) ↦[mr.view.set]{fullShare} fd)
    (hR : ∀ fd : Buf (Elt F) (mr.view.loc (rt c : Thread nD τ)),
      (mr.view.loc (rt c : Thread nD τ) ↦[mr.view.set]{fullShare} (mr.view.write (Elt F) fd (mr.view.read (Elt F) fs) Finset.univ)) ⊢ blkP m ρ (rt c) i (orgS c i) fullShare)
    (hN : mr.view.dmaCredit = NR i)
    {k : PUnit → Prog (TpuEff nD τ sig (Elt F) Λ₀ .tc) α} {Q : α → sProp 𝕄} :
    iprop(recs m ρ K ∗ Pend c i ∗ blkP m ρ c i (orgS c i) fullShare.left ∗ Owes (F := F) c (owed c i.val))
      ⊢ iprop((iprop(Fly c i ∗ Owes (F := F) c (owed c (i.val + 1))) -∗ WP c (k ⟨⟩) Q)
        -∗ WP c (.op (.enqueueDma mr (.remote (Dev.tc n : Thread nD τ) mr (.dma q1) hsc) (.dma q2) hsrc hdst hsem) k) Q) := by
  subst hn hq1 hq2
  unfold Pend Owes
  iintro ⟨#HR, ⟨⟨Ht1, Ht2⟩, Ha1, Hr, Hd⟩, HP, ⟨%W, HO⟩⟩ Hk
  ihave Hd' := hA $$ Hd
  icases Hd' with ⟨%fd, Hd⟩
  ihave HP' := (Entails.of_eq hP) $$ HP
  iapply (Rounds.wp_send_pointsTo 𝒱₀ ER (ringRd m ρ) (c : Thread nD τ) none (defs := defs₀ (F := F)) (κ₁ := K (c, .inr (.inl i))) (κ₂ := K (rt c, .inr (.inr i)))
    (src := mr) (dst := mr) (c' := (rt c : Thread nD τ)) (sS := .dma (sS i)) (sem := .dma (rS i)) (hsc := hsc) (hsrc := hsrc) (hdst := hdst) (hsem := hsem) (k := k) (Q := Q)
    (q := fullShare.left) (fs := fs) (r₁ := 0) (r₂ := 0) (d₁ := false) (d₂ := false) (fd := fd)
    (by rw [duties_s]; exact Finset.mem_singleton_self _) (by rw [duties_r]; exact Finset.mem_singleton_self _)
    () () (NR i) hN (amount_s m ρ c i false) (amount_r m ρ (rt c) i false) (owed c (i.val + 1)) (owed_succ c i) (W := W)
    (by rw [payload_s, hP])
    (by rw [payload_r, orgR_rt]; exact hR fd)) $$ [Ht1 Ht2 HP' Hd HO]
  · isplitr; · iapply (recs_inv m ρ K (c, .inr (.inl i))); iexact HR
    isplitr; · iapply (recs_inv m ρ K (rt c, .inr (.inr i))); iexact HR
    isplitl [HP']; · iexact HP'
    isplitl [Hd]; · iexact Hd
    isplitl [HO]; · iexact HO
    isplitl [Ht1]; · iexact Ht1
    isplitr; · iapply (recs_reached m ρ K (c, .inr (.inl i))); iexact HR
    isplitl [Ht2]; · iexact Ht2
    iapply (recs_reached m ρ K (rt c, .inr (.inr i))); iexact HR
  iintro ⟨Hc, HO⟩
  iapply Hk
  isplitr [HO]
  · unfold Fly
    isplitl [Hc Ha1]
    · isplitl [Hc] <;> iassumption
    iexact Hr
  iexists _; iexact HO

/-- Waiting for the sending end: the lent half comes back. -/
theorem wait_s (i : Fin 15) {n : ℕ} (q : DmaSem sig) (hq : q = sS i) {sp sp' : Space} {s s' : Shape} {e e' : EltTy}
    {src : Memref sig .tc sp' s' e'} {dst : Memref sig .tc sp s e} {h1 h2} (hN : dst.view.dmaCredit = NR i)
    {k : PUnit → Prog (TpuEff nD τ sig (Elt F) Λ₀ .tc) α} {Q : α → sProp 𝕄} :
    iprop(recs m ρ K ∗ Fly c i ∗ Owes (F := F) c (owed c n))
      ⊢ iprop((iprop(Mid c i ∗ blkP m ρ c i (orgS c i) fullShare.left ∗ Owes (F := F) c (owed c n)) -∗ WP c (k ⟨⟩) Q)
        -∗ WP c (.op (.waitDma2 q src dst h1 h2) k) Q) := by
  subst hq
  unfold Fly Owes
  iintro ⟨#HR, ⟨⟨Hc, Ha⟩, Hr⟩, ⟨%W, HO⟩⟩ Hk
  iapply (Rounds.wp_wait_rest_token 𝒱₀ ER (ringRd m ρ) (c : Thread nD τ) none (κ := K (c, .inr (.inl i)))
      (wpE_waitDma2_eq 𝒱₀ (c : Thread nD τ) none Set.univ) (Set.mem_univ _) () (O := owed c n) (W := W) (R := 0) (m := 0) (T := ∅)
      (by rw [Nat.zero_add, expect_s, hN])) $$ [Hc HO Ha]
  · isplitr; · iapply (recs_inv m ρ K (c, .inr (.inl i))); iexact HR
    isplitl [Hc]; · rw [hN]; iexact Hc
    isplitl [HO]; · iexact HO
    isplitr; · iapply (recs_wait m ρ K c (.dma (sS i)) n (by rw [lv_s]; omega)); iexact HR
    iexact Ha
  iintro ⟨HO, Ha, -, Hpay⟩
  ihave Hp := (Entails.of_eq (rest_s m ρ c i)) $$ Hpay
  imod (Rounds.cell_close ER (ringRd m ρ) (Set.mem_univ (K (c, .inr (.inl i)))) (fun h => h) (R := 0 + 1) (duties_later m ρ (sCell c i))) $$ [Ha] with Hz
  · isplitr; · iapply (recs_inv m ρ K (c, .inr (.inl i))); iexact HR
    iexact Ha
  iapply Hk
  isplitl [Hz Hr]
  · unfold Mid
    isplitl [Hz]; · iexact Hz
    iexact Hr
  isplitl [Hp]; · iexact Hp
  iexists _; iexact HO

/-- Waiting for the receiving end, with only later transfers owed: the block has arrived. -/
theorem wait_r (i : Fin 15) {n : ℕ} (hn : i.val < n) (q : DmaSem sig) (hq : q = rS i) {sp sp' : Space} {s s' : Shape} {e e' : EltTy}
    {src : Memref sig .tc sp' s' e'} {dst : Memref sig .tc sp s e} {h1 h2} (hN : dst.view.dmaCredit = NR i)
    {k : PUnit → Prog (TpuEff nD τ sig (Elt F) Λ₀ .tc) α} {Q : α → sProp 𝕄} :
    iprop(recs m ρ K ∗ Mid c i ∗ Owes (F := F) c (owed c n))
      ⊢ iprop((iprop(Done c i ∗ blkP m ρ c i (orgR c i) fullShare ∗ Owes (F := F) c (owed c n)) -∗ WP c (k ⟨⟩) Q)
        -∗ WP c (.op (.waitDma2 q src dst h1 h2) k) Q) := by
  subst hq
  unfold Mid Owes
  iintro ⟨#HR, ⟨Hs, ⟨Ha, Hc⟩⟩, ⟨%W, HO⟩⟩ Hk
  iapply (Rounds.wp_wait_rest_token 𝒱₀ ER (ringRd m ρ) (c : Thread nD τ) none (κ := K (c, .inr (.inr i)))
      (wpE_waitDma2_eq 𝒱₀ (c : Thread nD τ) none Set.univ) (Set.mem_univ _) () (O := owed c n) (W := W) (R := 0) (m := 0) (T := ∅)
      (by rw [Nat.zero_add, expect_r, hN])) $$ [Hc HO Ha]
  · isplitr; · iapply (recs_inv m ρ K (c, .inr (.inr i))); iexact HR
    isplitl [Hc]; · rw [hN]; iexact Hc
    isplitl [HO]; · iexact HO
    isplitr
    · iapply (recs_wait m ρ K c (.dma (rS i)) n (by have := lv_r c i (); change lvOf (.dma (rS i)) = _ at this; omega)); iexact HR
    iexact Ha
  iintro ⟨HO, Ha, -, Hpay⟩
  ihave Hp := (Entails.of_eq (rest_r m ρ c i)) $$ Hpay
  imod (Rounds.cell_close ER (ringRd m ρ) (Set.mem_univ (K (c, .inr (.inr i)))) (fun h => h) (R := 0 + 1) (duties_later m ρ (rCell c i))) $$ [Ha] with Hz
  · isplitr; · iapply (recs_inv m ρ K (c, .inr (.inr i))); iexact HR
    iexact Ha
  iapply Hk
  isplitl [Hs Hz]
  · unfold Done
    isplitl [Hs]; · iexact Hs
    iexact Hz
  isplitl [Hp]; · iexact Hp
  iexists _; iexact HO

/-! ## The two kinds of block -/

theorem set_two {off : Fin 3 → ℕ} {inb} {t : ℕ} (h : off = ![t, 0, 0]) :
    (lM.slice (Rect.unit (s := S32x512x1024) off S2x512x1024.size inb) (fun _ => rfl)).view.set = row3 32 512 1024 t ∪ row3 32 512 1024 (t + 1) := by
  subst h
  show ((View.whole cc0_scratch0).slice _).set = _
  rw [View.set_slice_whole]; exact set_row3_two
theorem set_one {off : Fin 3 → ℕ} {inb} {t : ℕ} (h : off = ![t, 0, 0]) :
    (sM.slice (Rect.unit (s := S4x512x1) off S1x512x1.size inb) (fun _ => rfl)).view.set = row3 4 512 1 t := by
  subst h
  show ((View.whole cc0_scratch3).slice _).set = _
  rw [View.set_slice_whole]; exact set_row3
theorem NR_chunk {i : Fin 15} (hi : isSt i = false) : NR i = NC := if_neg (by rw [hi]; exact Bool.false_ne_true)
theorem NR_stat {i : Fin 15} (hi : isSt i = true) : NR i = NS := if_pos hi
theorem blkP_chunk {i : Fin 15} (hi : isSt i = false) (o : ℕ) (q : PosShare TreeShare) :
    blkP m ρ c i o q = iprop(lP m ρ c (8 * o + 2 * blkN i) q ∗ lP m ρ c (8 * o + 2 * blkN i + 1) q) := if_neg (by rw [hi]; exact Bool.false_ne_true)
theorem blkA_chunk {i : Fin 15} (hi : isSt i = false) (o : ℕ) :
    blkA (F := F) c i o = iprop(lA c (8 * o + 2 * blkN i) ∗ lA c (8 * o + 2 * blkN i + 1)) := if_neg (by rw [hi]; exact Bool.false_ne_true)
theorem blkP_stat {i : Fin 15} (hi : isSt i = true) (o : ℕ) (q : PosShare TreeShare) : blkP m ρ c i o q = sP m ρ c o q := if_pos hi
theorem blkA_stat {i : Fin 15} (hi : isSt i = true) (o : ℕ) : blkA (F := F) c i o = sA c o := if_pos hi
theorem credit_two {off : Fin 3 → ℕ} {inb} (i : Fin 15) (hi : isSt i = false) :
    (lM.slice (Rect.unit (s := S32x512x1024) off S2x512x1024.size inb) (fun _ => rfl)).view.dmaCredit = NR i := by
  rw [NR_chunk hi]; unfold NC View.dmaCredit; rfl
theorem credit_one {off : Fin 3 → ℕ} {inb} (i : Fin 15) (hi : isSt i = true) :
    (sM.slice (Rect.unit (s := S4x512x1) off S1x512x1.size inb) (fun _ => rfl)).view.dmaCredit = NR i := by
  rw [NR_stat hi]; unfold NS View.dmaCredit; rfl

theorem two_disjoint (t : ℕ) : Disjoint (row3 32 512 1024 t) (row3 32 512 1024 (t + 1)) := row3_disjoint (by omega)

theorem start_chunk (i : Fin 15) (hi : isSt i = false) (n : Dev nD) (hn : n = rt c) {offL : Fin 3 → ℕ} {inbL}
    (hL : offL = ![8 * orgS c i + 2 * blkN i, 0, 0]) (q1 q2 : DmaSem sig) (hq1 : q1 = sS i) (hq2 : q2 = rS i)
    {hsc : ((lM.slice (Rect.unit (s := S32x512x1024) offL S2x512x1024.size inbL) (fun _ => rfl)) : Memref sig (Dev.tc n : Thread nD τ).2.kind .vmem S2x512x1024 .bf16).view.ref.isScScratch = false} {h1 h2 h3}
    {k : PUnit → Prog (TpuEff nD τ sig (Elt F) Λ₀ .tc) α} {Q : α → sProp 𝕄} :
    iprop(recs m ρ K ∗ Pend c i ∗ blkP m ρ c i (orgS c i) fullShare.left ∗ Owes (F := F) c (owed c i.val))
      ⊢ iprop((iprop(Fly c i ∗ Owes (F := F) c (owed c (i.val + 1))) -∗ WP c (k ⟨⟩) Q)
        -∗ WP c (.op (.enqueueDma (lM.slice (Rect.unit (s := S32x512x1024) offL S2x512x1024.size inbL) (fun _ => rfl))
          (.remote (Dev.tc n : Thread nD τ) (lM.slice (Rect.unit (s := S32x512x1024) offL S2x512x1024.size inbL) (fun _ => rfl)) (.dma q1) hsc) (.dma q2) h1 h2 h3) k) Q) := by
  have hset := set_two (inb := inbL) hL
  refine start_any m ρ K c i (lM.slice (Rect.unit (s := S32x512x1024) offL S2x512x1024.size inbL) (fun _ => rfl)) (LG m ρ c) n hn q1 q2 hq1 hq2 ?_ ?_ ?_ (credit_two i hi)
  · rw [hset, blkP_chunk m ρ c hi]; unfold lP
    exact (Entails.antisymm (pointsTo_union (two_disjoint _)).1 (pointsTo_union (two_disjoint _)).2).symm
  · rw [hset, blkA_chunk _ hi]; unfold lA
    iintro ⟨⟨%f, Hf⟩, ⟨%g, Hg⟩⟩
    iexists _
    iapply (pointsTo_join (two_disjoint _))
    isplitl [Hf]; · iexact Hf
    iexact Hg
  · intro fd
    have hc := fun x hx => write_eq_on (lM.slice (Rect.unit (s := S32x512x1024) offL S2x512x1024.size inbL) (fun _ => rfl)).view fd (LG m ρ c) _ rfl x hx
    rw [hset] at hc ⊢
    rw [blkP_chunk m ρ _ hi]; unfold lP
    rw [LG_rt]
    exact (held_eq (ℓ := (rt c : Thread nD τ).loc cc0_scratch0) (q := fullShare) hc).trans (pointsTo_union (two_disjoint _)).1

theorem start_stat (i : Fin 15) (hi : isSt i = true) (n : Dev nD) (hn : n = rt c) {offL : Fin 3 → ℕ} {inbL}
    (hL : offL = ![orgS c i, 0, 0]) (q1 q2 : DmaSem sig) (hq1 : q1 = sS i) (hq2 : q2 = rS i)
    {hsc : ((sM.slice (Rect.unit (s := S4x512x1) offL S1x512x1.size inbL) (fun _ => rfl)) : Memref sig (Dev.tc n : Thread nD τ).2.kind .vmem S1x512x1 .f32).view.ref.isScScratch = false} {h1 h2 h3}
    {k : PUnit → Prog (TpuEff nD τ sig (Elt F) Λ₀ .tc) α} {Q : α → sProp 𝕄} :
    iprop(recs m ρ K ∗ Pend c i ∗ blkP m ρ c i (orgS c i) fullShare.left ∗ Owes (F := F) c (owed c i.val))
      ⊢ iprop((iprop(Fly c i ∗ Owes (F := F) c (owed c (i.val + 1))) -∗ WP c (k ⟨⟩) Q)
        -∗ WP c (.op (.enqueueDma (sM.slice (Rect.unit (s := S4x512x1) offL S1x512x1.size inbL) (fun _ => rfl))
          (.remote (Dev.tc n : Thread nD τ) (sM.slice (Rect.unit (s := S4x512x1) offL S1x512x1.size inbL) (fun _ => rfl)) (.dma q1) hsc) (.dma q2) h1 h2 h3) k) Q) := by
  have hset := set_one (inb := inbL) hL
  refine start_any m ρ K c i (sM.slice (Rect.unit (s := S4x512x1) offL S1x512x1.size inbL) (fun _ => rfl)) (ST m ρ c) n hn q1 q2 hq1 hq2 ?_ ?_ ?_ (credit_one i hi)
  · rw [hset, blkP_stat m ρ c hi]; unfold sP; rfl
  · rw [hset, blkA_stat _ hi]; unfold sA; exact BI.Entails.refl _
  · intro fd
    have hc := fun x hx => write_eq_on (sM.slice (Rect.unit (s := S4x512x1) offL S1x512x1.size inbL) (fun _ => rfl)).view fd (ST m ρ c) _ rfl x hx
    rw [hset] at hc ⊢
    rw [blkP_stat m ρ _ hi]; unfold sP
    rw [ST_rt]
    exact held_eq (ℓ := (rt c : Thread nD τ).loc cc0_scratch3) (q := fullShare) hc

end Steps

end Cert.Softmax
-- ==== Proof.Stream.lean ====
/-
# Families of tiles

The four places of the ring, the four blocks and eight tiles of a place, and the double-buffered copies of eight tiles as
families whose members change one at a time.
-/
module

public import proofs.«01_k».proof.Proof.Remote

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## One member of a family changed -/

theorem bigSep_upd {n : ℕ} {Φ Ψ : Fin n → sProp 𝕄} (a : Fin n) (h : ∀ j, j ≠ a → Φ j = Ψ j) :
    bigSep Finset.univ Φ ⊢ iprop(Φ a ∗ (Ψ a -∗ bigSep Finset.univ Ψ)) := by
  rw [bigSep_univ_at Φ a, bigSep_univ_at Ψ a, bigSep_congr (s := Finset.univ.erase a) (fun j hj => h j (Finset.ne_of_mem_erase hj))]
  iintro ⟨H1, H2⟩
  isplitl [H1]; · iexact H1
  iintro H1
  isplitl [H1] <;> iassumption

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Places and blocks -/

/-- The place `h` steps back around the ring from device `c`. -/
def og (c : Dev nD) (h : ℕ) : ℕ := (yOf c + 4 - h) % 4
theorem og_lt (c : Dev nD) (h : ℕ) : og c h < 4 := Nat.mod_lt _ (by decide)
theorem orgS_eq (c : Dev nD) (i : Fin 15) : orgS c i = og c (hopN i) := rfl
theorem orgR_eq (c : Dev nD) (i : Fin 15) : orgR c i = og c (hopN i + 1) := rfl
theorem og_zero (c : Dev nD) : og c 0 = yOf c := by unfold og; have := yOf_lt c; omega

/-- A family over the four places, listed backwards from the device's own. -/
theorem ring_four (c : Dev nD) (Φ : ℕ → sProp 𝕄) :
    bigSep (Finset.univ : Finset (Fin 4)) (fun o => Φ o.val) ⊣⊢ iprop(Φ (yOf c) ∗ Φ (og c 1) ∗ Φ (og c 2) ∗ Φ (og c 3)) := by
  rw [bigSep_four]
  show iprop(Φ 0 ∗ Φ 1 ∗ Φ 2 ∗ Φ 3) ⊣⊢ _
  unfold og
  have h : yOf c = 0 ∨ yOf c = 1 ∨ yOf c = 2 ∨ yOf c = 3 := by have := yOf_lt c; omega
  rcases h with h | h | h | h <;> rw [h] <;> constructor <;>
  · iintro ⟨H0, H1, H2, H3⟩
    first
      | (isplitl [H0]; · iexact H0
         isplitl [H3]; · iexact H3
         isplitl [H2]; · iexact H2
         iexact H1)
      | (isplitl [H1]; · iexact H1
         isplitl [H0]; · iexact H0
         isplitl [H3]; · iexact H3
         iexact H2)
      | (isplitl [H2]; · iexact H2
         isplitl [H1]; · iexact H1
         isplitl [H0]; · iexact H0
         iexact H3)
      | (isplitl [H3]; · iexact H3
         isplitl [H2]; · iexact H2
         isplitl [H1]; · iexact H1
         iexact H0)

/-- A block's halves. -/
theorem lP_halves (c : Dev nD) (t : ℕ) : lP m ρ c t fullShare ⊣⊢ iprop(lP m ρ c t fullShare.left ∗ lP m ρ c t fullShare.right) := by
  unfold lP; exact pointsTo_share (PosShare.mem_left_op_right fullShare)
theorem sP_halves (c : Dev nD) (t : ℕ) : sP m ρ c t fullShare ⊣⊢ iprop(sP m ρ c t fullShare.left ∗ sP m ρ c t fullShare.right) := by
  unfold sP; exact pointsTo_share (PosShare.mem_left_op_right fullShare)
theorem blkP_halves (c : Dev nD) (i : Fin 15) (o : ℕ) : blkP m ρ c i o fullShare ⊣⊢ iprop(blkP m ρ c i o fullShare.left ∗ blkP m ρ c i o fullShare.right) := by
  unfold blkP
  split
  · exact sP_halves m ρ c o
  · constructor
    · iintro ⟨H1, H2⟩
      ihave H1 := (lP_halves m ρ c _).1 $$ H1
      ihave H2 := (lP_halves m ρ c _).1 $$ H2
      icases H1 with ⟨H1, H1'⟩
      icases H2 with ⟨H2, H2'⟩
      isplitl [H1 H2]
      · isplitl [H1] <;> iassumption
      isplitl [H1'] <;> iassumption
    · iintro ⟨⟨H1, H2⟩, ⟨H1', H2'⟩⟩
      isplitl [H1 H1']
      · iapply (lP_halves m ρ c _).2; isplitl [H1] <;> iassumption
      iapply (lP_halves m ρ c _).2; isplitl [H2] <;> iassumption

/-- The eight tiles of a place. -/
def LT (c : Dev nD) (o : ℕ) (q : PosShare TreeShare) : sProp 𝕄 := bigSep Finset.univ fun j : Fin 8 => lP m ρ c (8 * o + j.val) q
/-- They are four blocks. -/
theorem LT_blocks (c : Dev nD) (o : ℕ) (q : PosShare TreeShare) (i0 i1 i2 i3 : Fin 15)
    (h : (isSt i0 = false ∧ blkN i0 = 0) ∧ (isSt i1 = false ∧ blkN i1 = 1) ∧ (isSt i2 = false ∧ blkN i2 = 2) ∧ (isSt i3 = false ∧ blkN i3 = 3)) :
    LT m ρ c o q ⊣⊢ iprop(blkP m ρ c i0 o q ∗ blkP m ρ c i1 o q ∗ blkP m ρ c i2 o q ∗ blkP m ρ c i3 o q) := by
  obtain ⟨⟨h0, b0⟩, ⟨h1, b1⟩, ⟨h2, b2⟩, ⟨h3, b3⟩⟩ := h
  unfold LT
  rw [bigSep_eight, blkP_chunk m ρ c h0, blkP_chunk m ρ c h1, blkP_chunk m ρ c h2, blkP_chunk m ρ c h3, b0, b1, b2, b3]
  show iprop(lP m ρ c (8 * o + 0) q ∗ lP m ρ c (8 * o + 1) q ∗ lP m ρ c (8 * o + 2) q ∗ lP m ρ c (8 * o + 3) q ∗ lP m ρ c (8 * o + 4) q
    ∗ lP m ρ c (8 * o + 5) q ∗ lP m ρ c (8 * o + 6) q ∗ lP m ρ c (8 * o + 7) q) ⊣⊢
    iprop((lP m ρ c (8 * o + 0) q ∗ lP m ρ c (8 * o + 1) q) ∗ (lP m ρ c (8 * o + 2) q ∗ lP m ρ c (8 * o + 3) q)
    ∗ (lP m ρ c (8 * o + 4) q ∗ lP m ρ c (8 * o + 5) q) ∗ (lP m ρ c (8 * o + 6) q ∗ lP m ρ c (8 * o + 7) q))
  constructor
  · iintro ⟨H0, H1, H2, H3, H4, H5, H6, H7⟩
    isplitl [H0 H1]; · isplitl [H0] <;> iassumption
    isplitl [H2 H3]; · isplitl [H2] <;> iassumption
    isplitl [H4 H5]; · isplitl [H4] <;> iassumption
    isplitl [H6] <;> iassumption
  · iintro ⟨⟨H0, H1⟩, ⟨H2, H3⟩, ⟨H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption
theorem LT_halves (c : Dev nD) (o : ℕ) : iprop(LT m ρ c o fullShare.left ∗ LT m ρ c o fullShare.right) ⊢ LT m ρ c o fullShare := by
  unfold LT
  rw [← bigSep_sep']
  exact bigSep_mono fun j _ => (lP_halves m ρ c _).2

/-- What arrives as transfer `i` is what leaves as `i'`, the same block one hop on. -/
theorem next_blk (c : Dev nD) (i i' : Fin 15) (q : PosShare TreeShare) (h : isSt i = isSt i' ∧ blkN i = blkN i' ∧ hopN i' = hopN i + 1) :
    blkP m ρ c i (orgR c i) q = blkP m ρ c i' (orgS c i') q := by
  unfold blkP orgR orgS; rw [h.1, h.2.1, h.2.2]

theorem lv_w (s : ℕ) : lvOf (.dma (wSem s)) = 0 := by
  show (match kindOf (31 + s % 2) with | some (true, i) => i.val + 2 | _ => 0) = 0
  rcases Nat.mod_two_eq_zero_or_one s with h | h <;> rw [h] <;> rfl
theorem lv_o (s : ℕ) : lvOf (.dma (oSem s)) = 0 := by
  show (match kindOf (33 + s % 2) with | some (true, i) => i.val + 2 | _ => 0) = 0
  rcases Nat.mod_two_eq_zero_or_one s with h | h <;> rw [h] <;> rfl

/-! ## A place's eight result tiles, in flight and done -/

/-- Tiles before `k` are out, those from `k` to `e` on their way, the rest untouched. -/
def OS (c : Dev nD) (o k e : ℕ) : sProp 𝕄 := bigSep Finset.univ fun j : Fin 8 =>
  if j.val < k then oP m ρ c (8 * o + j.val) else if j.val < e then oFly m ρ c (j.val % 2) (8 * o + j.val) else oA c (8 * o + j.val)
/-- A slot of the result's buffer not in use. -/
def GF (c : Dev nD) (s : ℕ) : sProp 𝕄 := iprop(gA (F := F) c s ∗ semVal ((c : Thread nD τ), .dma (oSem s)) 0)

/-- The same for the eight tiles of `W`, and its buffer's slots. -/
def WS (c : Dev nD) (k e : ℕ) : sProp 𝕄 := bigSep Finset.univ fun j : Fin 8 =>
  if j.val < k then wP m c j.val else if j.val < e then wFly m c (j.val % 2) j.val else wP m c j.val
def BF (c : Dev nD) (s : ℕ) : sProp 𝕄 := iprop(bA (F := F) c s ∗ semVal ((c : Thread nD τ), .dma (wSem s)) 0)

section Steps
variable (c : Dev nD) {α : Type}

theorem lt_load {off : Fin 3 → ℕ} {inb} {hl} {o j : ℕ} (hj : j < 8) (hoff : off = ![8 * o + j, 0, 0]) {q : PosShare TreeShare}
    {k : Vec F S1x512x1024 .bf16 → Prog (TpuEff nD τ sig (Elt F) Λ₀ .tc) α} {Q : α → sProp 𝕄} :
    LT m ρ c o q ⊢ iprop((LT m ρ c o q -∗ WP c (k (lT m ρ c (8 * o + j))) Q)
      -∗ WP c (.op (.load lM (Rect.unit (s := S32x512x1024) off S1x512x1024.size inb).toLoadRect hl) k) Q) := by
  unfold LT
  iintro H Hk
  ihave H' := (bigSep_upd (Φ := fun j : Fin 8 => lP m ρ c (8 * o + j.val) q) (Ψ := fun j : Fin 8 => lP m ρ c (8 * o + j.val) q) ⟨j, hj⟩ (fun _ _ => rfl)) $$ H
  icases H' with ⟨H, Hc⟩
  iapply (load_l m ρ c hoff q) $$ H
  iintro H
  iapply Hk
  iapply Hc
  iexact H

theorem os_start {offS : Fin 1 → ℕ} {inbS} {offD : Fin 3 → ℕ} {inbD} {offW : Fin 2 → ℕ} {inbW} {h1 h2 h3} {o k e s : ℕ} (ho : o < 4) (he : e < 8) (hk : k ≤ e)
    (hse : s = e % 2) (hS : offS = ![s]) (hD : offD = ![s, 0, 0]) (hW : offW = ![0, 1024 * (8 * o + e)])
    {kk : PUnit → Prog (TpuEff nD τ sig (Elt F) Λ₀ .tc) α} {Q : α → sProp 𝕄} :
    iprop(OS m ρ c o k e ∗ gP m ρ c s (8 * o + e) ∗ semVal ((c : Thread nD τ), .dma (oSem s)) 0) ⊢ iprop((OS m ρ c o k (e + 1) -∗ WP c (kk ⟨⟩) Q)
      -∗ WP c (.op (.enqueueDma ((gM.slice (Rect.unit (s := S2x512x1024) offD S1x512x1024.size inbD) (fun _ => rfl)).squeeze S512x1024 squeezes_S1x512x1024_S512x1024)
          (.here (oM.slice (Rect.unit (s := S512x32768) offW S512x1024.size inbW) (fun _ => rfl)))
          (.dma (((cc0_scratch9 : DmaSems sig S2).slice (Rect.unit (s := S2) offS S1.size inbS)).squeeze S_ squeezes_S1_S_).sem) h1 h2 h3) kk) Q) := by
  subst hse
  unfold OS
  iintro ⟨H, Hg, Hv⟩ Hk
  ihave H' := (bigSep_upd
    (Φ := fun j : Fin 8 => if j.val < k then oP m ρ c (8 * o + j.val) else if j.val < e then oFly m ρ c (j.val % 2) (8 * o + j.val) else oA c (8 * o + j.val))
    (Ψ := fun j : Fin 8 => if j.val < k then oP m ρ c (8 * o + j.val) else if j.val < e + 1 then oFly m ρ c (j.val % 2) (8 * o + j.val) else oA c (8 * o + j.val))
    ⟨e, he⟩ (fun j hj => by
      have : j.val ≠ e := fun h => hj (Fin.ext h)
      by_cases h : j.val < e
      · rw [if_pos h, if_pos (show j.val < e + 1 by omega)]
      · rw [if_neg h, if_neg (show ¬ j.val < e + 1 by omega)])) $$ H
  icases H' with ⟨H, Hc⟩
  simp only [if_neg (show ¬ e < k by omega), if_neg (lt_irrefl e), if_pos (Nat.lt_succ_self e)]
  iapply (start_o m ρ c hS hD hW (Nat.mod_lt _ (by decide)) (t := 8 * o + e) (by omega)) $$ [H Hg Hv]
  · isplitl [H]; · iexact H
    isplitl [Hg] <;> iassumption
  iintro HF
  iapply Hk
  iapply Hc
  iexact HF

theorem os_wait {offS : Fin 1 → ℕ} {inbS} {offD : Fin 3 → ℕ} {inbD} {offW : Fin 2 → ℕ} {inbW} {h1 h2} {o k e s n : ℕ} (he : k < e) (hk : k < 8)
    (hsk : s = k % 2) (hS : offS = ![s])
    {kk : PUnit → Prog (TpuEff nD τ sig (Elt F) Λ₀ .tc) α} {Q : α → sProp 𝕄} :
    iprop(recs m ρ K ∗ OS m ρ c o k e ∗ Owes (F := F) c (owed c n)) ⊢ iprop((iprop(OS m ρ c o (k + 1) e ∗ GF c s ∗ Owes (F := F) c (owed c n)) -∗ WP c (kk ⟨⟩) Q)
      -∗ WP c (.op (.waitDma2 (((cc0_scratch9 : DmaSems sig S2).slice (Rect.unit (s := S2) offS S1.size inbS)).squeeze S_ squeezes_S1_S_).sem
          ((gM.slice (Rect.unit (s := S2x512x1024) offD S1x512x1024.size inbD) (fun _ => rfl)).squeeze S512x1024 squeezes_S1x512x1024_S512x1024)
          (oM.slice (Rect.unit (s := S512x32768) offW S512x1024.size inbW) (fun _ => rfl)) h1 h2) kk) Q) := by
  subst hsk
  unfold OS
  iintro ⟨#HR, H, HO⟩ Hk
  ihave H' := (bigSep_upd
    (Φ := fun j : Fin 8 => if j.val < k then oP m ρ c (8 * o + j.val) else if j.val < e then oFly m ρ c (j.val % 2) (8 * o + j.val) else oA c (8 * o + j.val))
    (Ψ := fun j : Fin 8 => if j.val < k + 1 then oP m ρ c (8 * o + j.val) else if j.val < e then oFly m ρ c (j.val % 2) (8 * o + j.val) else oA c (8 * o + j.val))
    ⟨k, hk⟩ (fun j hj => by
      have : j.val ≠ k := fun h => hj (Fin.ext h)
      by_cases h : j.val < k
      · rw [if_pos h, if_pos (show j.val < k + 1 by omega)]
      · rw [if_neg h, if_neg (show ¬ j.val < k + 1 by omega)])) $$ H
  icases H' with ⟨H, Hc⟩
  simp only [if_neg (lt_irrefl k), if_pos he, if_pos (Nat.lt_succ_self k)]
  iapply (wait_o m ρ c hS (Nat.mod_lt _ (by decide)) (s := k % 2) (t := 8 * o + k) (O := owed c n)) $$ [H HO]
  · isplitl [H]; · iexact H
    isplitl [HO]; · iexact HO
    iapply (recs_wait m ρ K c (.dma (oSem (k % 2))) n (by rw [lv_o]; omega)); iexact HR
  iintro ⟨⟨Ho, Hg⟩, Hv, HO⟩
  iapply Hk
  isplitl [Ho Hc]; · iapply Hc; iexact Ho
  isplitl [Hg Hv]
  · unfold GF
    isplitl [Hg]; · iapply (gP_gA m ρ c (k % 2) (8 * o + k)); iexact Hg
    iexact Hv
  iexact HO

theorem ws_start {offS : Fin 1 → ℕ} {inbS} {offD : Fin 3 → ℕ} {inbD} {offW : Fin 2 → ℕ} {inbW} {h1 h2 h3} {k e s : ℕ} (he : e < 8) (hk : k ≤ e)
    (hse : s = e % 2) (hS : offS = ![s]) (hD : offD = ![s, 0, 0]) (hW : offW = ![0, 1024 * e])
    {kk : PUnit → Prog (TpuEff nD τ sig (Elt F) Λ₀ .tc) α} {Q : α → sProp 𝕄} :
    iprop(WS m c k e ∗ BF (F := F) c s) ⊢ iprop((WS m c k (e + 1) -∗ WP c (kk ⟨⟩) Q)
      -∗ WP c (.op (.enqueueDma (wM.slice (Rect.unit (s := S1024x8192) offW S1024x1024.size inbW) (fun _ => rfl))
          (.here ((bM.slice (Rect.unit (s := S2x1024x1024) offD S1x1024x1024.size inbD) (fun _ => rfl)).squeeze S1024x1024 squeezes_S1x1024x1024_S1024x1024))
          (.dma (((cc0_scratch8 : DmaSems sig S2).slice (Rect.unit (s := S2) offS S1.size inbS)).squeeze S_ squeezes_S1_S_).sem) h1 h2 h3) kk) Q) := by
  subst hse
  unfold WS BF
  iintro ⟨H, Hg, Hv⟩ Hk
  ihave H' := (bigSep_upd
    (Φ := fun j : Fin 8 => if j.val < k then wP m c j.val else if j.val < e then wFly m c (j.val % 2) j.val else wP m c j.val)
    (Ψ := fun j : Fin 8 => if j.val < k then wP m c j.val else if j.val < e + 1 then wFly m c (j.val % 2) j.val else wP m c j.val)
    ⟨e, he⟩ (fun j hj => by
      have : j.val ≠ e := fun h => hj (Fin.ext h)
      by_cases h : j.val < e
      · rw [if_pos h, if_pos (show j.val < e + 1 by omega)]
      · rw [if_neg h, if_neg (show ¬ j.val < e + 1 by omega)])) $$ H
  icases H' with ⟨H, Hc⟩
  simp only [if_neg (show ¬ e < k by omega), if_neg (lt_irrefl e), if_pos (Nat.lt_succ_self e)]
  iapply (start_w m c hS hD hW (Nat.mod_lt _ (by decide)) (t := e) he) $$ [H Hg Hv]
  · isplitl [H]; · iexact H
    isplitl [Hg] <;> iassumption
  iintro HF
  iapply Hk
  iapply Hc
  iexact HF

theorem ws_wait {offS : Fin 1 → ℕ} {inbS} {offD : Fin 3 → ℕ} {inbD} {offW : Fin 2 → ℕ} {inbW} {h1 h2} {k e s n : ℕ} (he : k < e) (hk : k < 8)
    (hsk : s = k % 2) (hS : offS = ![s])
    {kk : PUnit → Prog (TpuEff nD τ sig (Elt F) Λ₀ .tc) α} {Q : α → sProp 𝕄} :
    iprop(recs m ρ K ∗ WS m c k e ∗ Owes (F := F) c (owed c n))
      ⊢ iprop((iprop(WS m c (k + 1) e ∗ (bP m c s k ∗ semVal ((c : Thread nD τ), .dma (wSem s)) 0) ∗ Owes (F := F) c (owed c n)) -∗ WP c (kk ⟨⟩) Q)
      -∗ WP c (.op (.waitDma2 (((cc0_scratch8 : DmaSems sig S2).slice (Rect.unit (s := S2) offS S1.size inbS)).squeeze S_ squeezes_S1_S_).sem
          (wM.slice (Rect.unit (s := S1024x8192) offW S1024x1024.size inbW) (fun _ => rfl))
          ((bM.slice (Rect.unit (s := S2x1024x1024) offD S1x1024x1024.size inbD) (fun _ => rfl)).squeeze S1024x1024 squeezes_S1x1024x1024_S1024x1024) h1 h2) kk) Q) := by
  subst hsk
  unfold WS
  iintro ⟨#HR, H, HO⟩ Hk
  ihave H' := (bigSep_upd
    (Φ := fun j : Fin 8 => if j.val < k then wP m c j.val else if j.val < e then wFly m c (j.val % 2) j.val else wP m c j.val)
    (Ψ := fun j : Fin 8 => if j.val < k + 1 then wP m c j.val else if j.val < e then wFly m c (j.val % 2) j.val else wP m c j.val)
    ⟨k, hk⟩ (fun j hj => by
      have : j.val ≠ k := fun h => hj (Fin.ext h)
      by_cases h : j.val < k
      · rw [if_pos h, if_pos (show j.val < k + 1 by omega)]
      · rw [if_neg h, if_neg (show ¬ j.val < k + 1 by omega)])) $$ H
  icases H' with ⟨H, Hc⟩
  simp only [if_neg (lt_irrefl k), if_pos he, if_pos (Nat.lt_succ_self k)]
  iapply (wait_w m c hS (Nat.mod_lt _ (by decide)) (s := k % 2) (t := k) (O := owed c n)) $$ [H HO]
  · isplitl [H]; · iexact H
    isplitl [HO]; · iexact HO
    iapply (recs_wait m ρ K c (.dma (wSem (k % 2))) n (by rw [lv_w]; omega)); iexact HR
  iintro ⟨⟨Hb, Ho⟩, Hv, HO⟩
  iapply Hk
  isplitl [Ho Hc]; · iapply Hc; iexact Ho
  isplitl [Hb Hv]
  · isplitl [Hb] <;> iassumption
  iexact HO

end Steps

end Cert.Softmax
-- ==== Proof.Gemm.lean ====
/-
# The product's loop

One trip multiplies `x` by a tile of `W`, stores the exponentials, adds their row sums, and, at every second tile, starts
the copy of the block just completed.
-/
module

public import proofs.«01_k».proof.Proof.Stream

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ _ _ _

theorem WP_ret {α : Type} (c : Dev nD) (a : α) (Q : α → sProp 𝕄) : WP c (.ret a) Q = iprop(|={Set.univ}=> Q a) := rfl

theorem off7_eq (c : Dev nD) (k : Fin k0_t1_loop.trips) : k0_off7 c k = ![8 * yOf c + k.val, 0, 0] := k0_off7_eq c k

/-- The number of the transfer of the device's own block `b`. -/
def own (b : Fin 4) : Fin 15 := ⟨b.val, by omega⟩
theorem own_st (b : Fin 4) : isSt (own b) = false := by revert b; decide
theorem own_blk (b : Fin 4) : blkN (own b) = b.val := by revert b; decide
theorem own_hop (b : Fin 4) : hopN (own b) = 0 := by revert b; decide
theorem orgS_own (c : Dev nD) (b : Fin 4) : orgS c (own b) = yOf c := by rw [orgS_eq, own_hop, og_zero]

/-- Block `b` of the device's own exponentials before trip `k`: both tiles in and the block on its way; the first tile
    in; neither. -/
def PT (c : Dev nD) (k : ℕ) (b : Fin 4) : sProp 𝕄 :=
  if 2 * b.val + 1 < k then iprop(blkP m ρ c (own b) (yOf c) fullShare.right ∗ Fly c (own b))
  else if 2 * b.val + 1 = k then iprop((lP m ρ c (8 * yOf c + 2 * b.val) fullShare ∗ lA c (8 * yOf c + 2 * b.val + 1)) ∗ Pend c (own b))
  else iprop((lA c (8 * yOf c + 2 * b.val) ∗ lA c (8 * yOf c + 2 * b.val + 1)) ∗ Pend c (own b))

/-- Slot `s` of the `W` buffer once its last tile is used. -/
def BFs (c : Dev nD) (k s : ℕ) : sProp 𝕄 := if 6 + s < k then BF (F := F) c s else iprop(emp)

def GI (c : Dev nD) (k : ℕ) (acc : FVec F S512x1 .f32) : sProp 𝕄 :=
  iprop(recs m ρ K ∗ ⌜acc = rowSum m ρ c k⌝ ∗ xP m ρ c ∗ WS m c k (min (k + 2) 8) ∗ (BFs (F := F) c k 0 ∗ BFs (F := F) c k 1)
    ∗ Owes (F := F) c (owed c (k / 2)) ∗ bigSep Finset.univ (PT m ρ c k))

theorem run_part2 (c : Dev nD) (v5 w1 w2 : BitVec 32) (k : Fin k0_t1_loop.trips) (acc : FVec F S512x1 .f32) {n : ℕ}
    {Q : (Σ' (_ : BitVec 32) (_ : FVec F S512x1 .f32), BitVec 32) → sProp 𝕄} :
    iprop(recs m ρ K ∗ xP m ρ c ∗ WS m c k.val (min (k.val + 2) 8) ∗ Owes (F := F) c (owed c n) ∗ lA c (8 * yOf c + k.val))
      ⊢ iprop((∀ a b, iprop(xP m ρ c ∗ WS m c (k.val + 1) (min (k.val + 3) 8) ∗ (if k.val < 6 then iprop(emp) else BF (F := F) c (k.val % 2)) ∗ Owes (F := F) c (owed c n)
            ∗ lP m ρ c (8 * yOf c + k.val) fullShare) -∗ Q ⟨a, k0_pay3 acc (xv m ρ c) (wT m c k.val), b⟩)
        -∗ WP c (k0_part2 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 w1 w2 k acc) Q) := by
  have hk : k.val < 8 := lt_of_lt_of_eq k.isLt trips1
  rw [k0_part2_eq_skeleton]; unfold k0_part2_skel
  simp only [Prog.lift, Prog.bind_op, Prog.bind_ret, Prog.pure_eq_ret]
  iintro ⟨#HR, Hx, HW, HO, Hl⟩ Hk
  iapply (ws_wait m ρ K c (k := k.val) (e := min (k.val + 2) 8) (s := k.val % 2) (n := n) (by omega) hk rfl (k0_off3_eq k)) $$ [HW HO]
  · isplitr; · iexact HR
    isplitl [HW] <;> iassumption
  iintro ⟨HW, ⟨Hb, Hv⟩, HO⟩
  iapply (load_x m ρ c) $$ Hx; iintro Hx
  iapply (load_b m c (k0_off6_eq k)) $$ Hb; iintro Hb
  iapply (load_lA c (off7_eq c k)) $$ Hl; iintro %v Hl
  iapply (store_l m ρ c (off7_eq c k) (by rw [lT_own m ρ c hk]; rfl)) $$ Hl; iintro Hl
  by_cases hc : k0_cond1 k = 1#1
  · have h6 : k.val < 6 := (cond1_eq k).mp hc
    simp only [dif_pos hc, Prog.bind_op, Prog.bind_ret]
    iapply (ws_start m c (k := k.val + 1) (e := k.val + 2) (s := k.val % 2) (by omega) (by omega) (by omega)
      ((k0_off8_eq k).trans (by rw [Nat.add_mod_right])) ((k0_off9_eq k).trans (by rw [Nat.add_mod_right]))
      ((k0_off10_eq k).trans (by rw [show 1024 * k.val + 2048 = 1024 * (k.val + 2) by omega]))) $$ [HW Hb Hv]
    · isplitl [HW]; · rw [show min (k.val + 2) 8 = k.val + 2 by omega]; iexact HW
      unfold BF
      isplitl [Hb]; · iapply (bP_bA m c (k.val % 2) k.val); iexact Hb
      iexact Hv
    iintro HW
    rw [WP_ret]; imodintro
    iapply Hk
    isplitl [Hx]; · iexact Hx
    isplitl [HW]; · rw [show min (k.val + 3) 8 = k.val + 2 + 1 by omega]; iexact HW
    isplitr; · rw [if_pos h6]; iempintro
    isplitl [HO]; · iexact HO
    iexact Hl
  · have h6 : ¬ k.val < 6 := fun h => hc ((cond1_eq k).mpr h)
    simp only [dif_neg hc, Prog.bind_ret]
    rw [WP_ret]; imodintro
    iapply Hk
    isplitl [Hx]; · iexact Hx
    isplitl [HW]; · rw [show min (k.val + 3) 8 = min (k.val + 2) 8 by omega]; iexact HW
    isplitl [Hb Hv]
    · rw [if_neg h6]; unfold BF
      isplitl [Hb]; · iapply (bP_bA m c (k.val % 2) k.val); iexact Hb
      iexact Hv
    isplitl [HO]; · iexact HO
    iexact Hl

theorem sem4_of (i : Fin 15) (h : isSt i = false) {off : Fin 2 → ℕ} (ho : off = ![hopN i, blkN i]) {inb} :
    (((cc0_scratch4 : DmaSems sig S3x4).slice (Rect.unit (s := S3x4) off S1x1.size inb)).squeeze S_ squeezes_S1x1_S_).sem = sS i := by
  subst ho; exact sem4_eq i h
theorem sem5_of (i : Fin 15) (h : isSt i = false) {off : Fin 2 → ℕ} (ho : off = ![hopN i, blkN i]) {inb} :
    (((cc0_scratch5 : DmaSems sig S3x4).slice (Rect.unit (s := S3x4) off S1x1.size inb)).squeeze S_ squeezes_S1x1_S_).sem = rS i := by
  subst ho; exact sem5_eq i h

theorem BFs_zero (c : Dev nD) {k s : ℕ} (h : k ≤ 6 + s) : BFs (F := F) c k s = iprop(emp) := if_neg (by omega)
theorem BFs_one (c : Dev nD) {k s : ℕ} (h : 6 + s < k) : BFs (F := F) c k s = BF (F := F) c s := if_pos h

theorem PT_other (c : Dev nD) {k : ℕ} (hb : k / 2 < 4) (j : Fin 4) (hj : j ≠ ⟨k / 2, hb⟩) : PT m ρ c k j = PT m ρ c (k + 1) j := by
  have hj' : j.val ≠ k / 2 := fun h => hj (Fin.ext h)
  unfold PT
  by_cases h1 : 2 * j.val + 1 < k
  · rw [if_pos h1, if_pos (by omega)]
  · rw [if_neg h1, if_neg (by omega), if_neg (by omega), if_neg (by omega)]

/-- The slots after a trip: those before, and the one the trip used if it is free for good. -/
theorem BFs_step (c : Dev nD) {k : ℕ} (hk : k < 8) :
    iprop((BFs (F := F) c k 0 ∗ BFs (F := F) c k 1) ∗ (if k < 6 then iprop(emp) else BF (F := F) c (k % 2)))
      ⊢ iprop(BFs (F := F) c (k + 1) 0 ∗ BFs (F := F) c (k + 1) 1) := by
  rcases (show k < 6 ∨ k = 6 ∨ k = 7 by omega) with h | h | h
  · rw [BFs_zero c (show k ≤ 6 + 0 by omega), BFs_zero c (show k ≤ 6 + 1 by omega), BFs_zero c (show k + 1 ≤ 6 + 0 by omega), BFs_zero c (show k + 1 ≤ 6 + 1 by omega), if_pos h]
    iintro ⟨⟨-, -⟩, -⟩
    isplitl <;> iempintro
  · subst h
    rw [BFs_zero c (show 6 ≤ 6 + 0 by omega), BFs_zero c (show 6 ≤ 6 + 1 by omega), BFs_one c (show 6 + 0 < 6 + 1 by omega), BFs_zero c (show 6 + 1 ≤ 6 + 1 by omega), if_neg (by omega)]
    iintro ⟨⟨-, -⟩, H⟩
    isplitl [H]; · iexact H
    iempintro
  · subst h
    rw [BFs_one c (show 6 + 0 < 7 by omega), BFs_zero c (show 7 ≤ 6 + 1 by omega), BFs_one c (show 6 + 0 < 7 + 1 by omega), BFs_one c (show 6 + 1 < 7 + 1 by omega), if_neg (by omega)]
    iintro ⟨⟨H0, -⟩, H⟩
    isplitl [H0] <;> iassumption

/-- What a trip reads and changes of the blocks: at an odd trip the block is completed and leaves, -/
theorem PT_odd (c : Dev nD) {k : ℕ} (hk : k < 8) (hb : k / 2 < 4) (hodd : k % 2 = 1) :
    bigSep Finset.univ (PT m ρ c k)
      ⊢ iprop(((lP m ρ c (8 * yOf c + 2 * (k / 2)) fullShare ∗ lA c (8 * yOf c + k)) ∗ Pend c (own ⟨k / 2, hb⟩))
        ∗ (iprop(blkP m ρ c (own ⟨k / 2, hb⟩) (yOf c) fullShare.right ∗ Fly c (own ⟨k / 2, hb⟩)) -∗ bigSep Finset.univ (PT m ρ c (k + 1)))) := by
  have h := bigSep_upd (Φ := PT m ρ c k) (Ψ := PT m ρ c (k + 1)) ⟨k / 2, hb⟩ (PT_other m ρ c hb)
  rw [show PT m ρ c k ⟨k / 2, hb⟩
        = iprop((lP m ρ c (8 * yOf c + 2 * (k / 2)) fullShare ∗ lA c (8 * yOf c + 2 * (k / 2) + 1)) ∗ Pend c (own ⟨k / 2, hb⟩)) from by
        unfold PT; rw [if_neg (by dsimp only; omega), if_pos (by dsimp only; omega)],
      show PT m ρ c (k + 1) ⟨k / 2, hb⟩
        = iprop(blkP m ρ c (own ⟨k / 2, hb⟩) (yOf c) fullShare.right ∗ Fly c (own ⟨k / 2, hb⟩)) from by
        unfold PT; rw [if_pos (by dsimp only; omega)],
      show 8 * yOf c + 2 * (k / 2) + 1 = 8 * yOf c + k by omega] at h
  exact h

/-- at an even one its first tile is made. -/
theorem PT_even (c : Dev nD) {k : ℕ} (hk : k < 8) (hb : k / 2 < 4) (hodd : ¬ k % 2 = 1) :
    bigSep Finset.univ (PT m ρ c k)
      ⊢ iprop(((lA c (8 * yOf c + k) ∗ lA c (8 * yOf c + k + 1)) ∗ Pend c (own ⟨k / 2, hb⟩))
        ∗ (iprop((lP m ρ c (8 * yOf c + k) fullShare ∗ lA c (8 * yOf c + k + 1)) ∗ Pend c (own ⟨k / 2, hb⟩)) -∗ bigSep Finset.univ (PT m ρ c (k + 1)))) := by
  have h := bigSep_upd (Φ := PT m ρ c k) (Ψ := PT m ρ c (k + 1)) ⟨k / 2, hb⟩ (PT_other m ρ c hb)
  rw [show PT m ρ c k ⟨k / 2, hb⟩
        = iprop((lA c (8 * yOf c + 2 * (k / 2)) ∗ lA c (8 * yOf c + 2 * (k / 2) + 1)) ∗ Pend c (own ⟨k / 2, hb⟩)) from by
        unfold PT; rw [if_neg (by dsimp only; omega), if_neg (by dsimp only; omega)],
      show PT m ρ c (k + 1) ⟨k / 2, hb⟩
        = iprop((lP m ρ c (8 * yOf c + 2 * (k / 2)) fullShare ∗ lA c (8 * yOf c + 2 * (k / 2) + 1)) ∗ Pend c (own ⟨k / 2, hb⟩)) from by
        unfold PT; rw [if_neg (by dsimp only; omega), if_pos (by dsimp only; omega)],
      show 8 * yOf c + 2 * (k / 2) = 8 * yOf c + k by omega] at h
  exact h

theorem gemm_trip (c : Dev nD) (v2 v5 v8 v30 : BitVec 32) (v31 : Sems sig S_) (v33 v34 : BitVec 32) (k : Fin k0_t1_loop.trips) (acc : FVec F S512x1 .f32) :
    GI m ρ K c k.val acc ⊢ WP c (k0_t1_body xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v31 v33 v34 k acc) (GI m ρ K c (k.val + 1)) := by
  have hk : k.val < 8 := lt_of_lt_of_eq k.isLt trips1
  unfold k0_t1_body
  dsimp only
  rw [WP_bind]
  unfold GI
  iintro ⟨#HR, %hacc, Hx, HW, HB, HO, HP⟩
  subst hacc
  have hb : k.val / 2 < 4 := by omega
  by_cases hodd : k.val % 2 = 1
  · ihave HP := (PT_odd m ρ c hk hb hodd) $$ HP
    icases HP with ⟨Hb, HP⟩
    icases Hb with ⟨⟨Hl0, Hl⟩, Hpend⟩
    iapply (run_part2 m ρ K c v5 0#32 1#32 k (rowSum m ρ c k.val)) $$ [Hx HW HO Hl]
    · isplitr; · iexact HR
      isplitl [Hx]; · iexact Hx
      isplitl [HW]; · iexact HW
      isplitl [HO] <;> iassumption
    iintro %a %b ⟨Hx, HW, HB1, HO, Hl⟩
    dsimp only
    have hc : k0_cond2 k = 1#1 := (cond2_eq k).mpr hodd
    simp only [dif_pos hc, k0_part1_eq_skeleton, k0_part1_skel, Prog.lift, Prog.bind_op, Prog.bind_ret, Prog.pure_eq_ret]
    have hbl : blkP m ρ c (own ⟨k.val / 2, hb⟩) (yOf c) fullShare
        = iprop(lP m ρ c (8 * yOf c + 2 * (k.val / 2)) fullShare ∗ lP m ρ c (8 * yOf c + k.val) fullShare) := by
      rw [blkP_chunk m ρ c (own_st _), own_blk, show 8 * yOf c + 2 * (k.val / 2) + 1 = 8 * yOf c + k.val by omega]
    have hh := (blkP_halves m ρ c (own ⟨k.val / 2, hb⟩) (yOf c)).1
    rw [hbl] at hh
    ihave Hl := hh $$ [Hl0 Hl]
    · isplitl [Hl0] <;> iassumption
    icases Hl with ⟨Hleft, Hright⟩
    iapply (start_chunk m ρ K c (own ⟨k.val / 2, hb⟩) (own_st _) _ (Fin.ext (dev3_val c))
      ((off12_eq c k hodd).trans (by rw [orgS_own, own_blk])) _ _
      (sem4_of _ (own_st _) ((off11_eq k).trans (by rw [own_hop, own_blk])))
      (sem5_of _ (own_st _) ((off11_eq k).trans (by rw [own_hop, own_blk])))) $$ [Hpend Hleft HO]
    · isplitr; · iexact HR
      isplitl [Hpend]; · iexact Hpend
      isplitl [Hleft]; · rw [orgS_own]; iexact Hleft
      iexact HO
    iintro ⟨Hfly, HO⟩
    rw [WP_ret]; imodintro
    isplitr; · iexact HR
    isplitr; · ipureintro; rfl
    isplitl [Hx]; · iexact Hx
    isplitl [HW]; · iexact HW
    isplitl [HB HB1]
    · iapply (BFs_step c hk); isplitl [HB] <;> iassumption
    isplitl [HO]; · rw [show (k.val + 1) / 2 = k.val / 2 + 1 by omega]; iexact HO
    iapply HP
    isplitl [Hright] <;> iassumption
  · ihave HP := (PT_even m ρ c hk hb hodd) $$ HP
    icases HP with ⟨Hb, HP⟩
    icases Hb with ⟨⟨Hl, Hl1⟩, Hpend⟩
    iapply (run_part2 m ρ K c v5 0#32 1#32 k (rowSum m ρ c k.val)) $$ [Hx HW HO Hl]
    · isplitr; · iexact HR
      isplitl [Hx]; · iexact Hx
      isplitl [HW]; · iexact HW
      isplitl [HO] <;> iassumption
    iintro %a %b ⟨Hx, HW, HB1, HO, Hl⟩
    dsimp only
    have hc : ¬ k0_cond2 k = 1#1 := fun h => hodd ((cond2_eq k).mp h)
    simp only [dif_neg hc, Prog.bind_ret, Prog.pure_eq_ret]
    rw [WP_ret]; imodintro
    isplitr; · iexact HR
    isplitr; · ipureintro; rfl
    isplitl [Hx]; · iexact Hx
    isplitl [HW]; · iexact HW
    isplitl [HB HB1]
    · iapply (BFs_step c hk); isplitl [HB] <;> iassumption
    isplitl [HO]; · rw [show (k.val + 1) / 2 = k.val / 2 by omega]; iexact HO
    iapply HP
    isplitl [Hl Hl1]
    · isplitl [Hl] <;> iassumption
    iexact Hpend

end Cert.Softmax
-- ==== Proof.Entry.lean ====
/-
# The entry: the handshake, the first copies of `W`, the product's loop

A device tells both neighbours that it is here. To its left neighbour it gives the memory that neighbour will fill, so
that after waiting for both signals it holds the memory its own copies fill on the right.
-/
module

public import proofs.«01_k».proof.Proof.Gemm

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- What a device holds for transfer `i` before it holds the memory on the right. -/
def Pend0 (c : Dev nD) (i : Fin 15) : sProp 𝕄 :=
  iprop((dutyTok ER (sCell c i) 0 false ∗ dutyTok ER (rCell (rt c) i) 0 false) ∗ atPos ER (sCell c i) 0 ∅ 0
    ∗ (atPos ER (rCell c i) 0 ∅ 0 ∗ cred (tallyAt (rCell c i) () (NR i))))

theorem bigSep_imp {n : ℕ} {Φ Ψ : Fin n → sProp 𝕄} (h : ∀ i, Φ i ⊢ Ψ i) : bigSep Finset.univ Φ ⊢ bigSep Finset.univ Ψ :=
  bigSep_mono fun i _ => h i

theorem pend_one (c : Dev nD) (i : Fin 15) : iprop(Pend0 (F := F) c i ∗ blkA (rt c) i (orgS c i)) ⊢ Pend (F := F) c i := by
  unfold Pend0 Pend
  iintro ⟨⟨H1, H2, H3⟩, H4⟩
  isplitl [H1]; · iexact H1
  isplitl [H2]; · iexact H2
  isplitl [H3] <;> iassumption

theorem pend_join (c : Dev nD) :
    iprop(bigSep Finset.univ (fun i : Fin 15 => Pend0 (F := F) c i) ∗ barPay c) ⊢ bigSep Finset.univ (fun i : Fin 15 => Pend (F := F) c i) := by
  have h : (bigSep Finset.univ fun i : Fin 15 => iprop(Pend0 (F := F) c i ∗ blkA (rt c) i (orgS c i))) ⊢ bigSep Finset.univ (fun i : Fin 15 => Pend (F := F) c i) :=
    bigSep_mono fun i _ => pend_one c i
  unfold barPay
  rw [bigSep_sep'] at h
  exact h

theorem bigSep_fifteen (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- A device's own memory for arrivals, given to the device on the left. -/
theorem give_left (c : Dev nD) : bigSep Finset.univ (fun i : Fin 15 => blkA (F := F) c i (orgR c i)) ⊢ barPay (F := F) (lt c) := by
  unfold barPay
  refine bigSep_imp fun i => Entails.of_eq ?_
  rw [rt_lt, orgS_lt']

theorem WP_for {σ : Type} {α : Type} (c : Dev nD) (lp : Scf.Loop 32) (hok : lp.OK) (init : σ) (body : Fin lp.trips → σ → Prog (TpuEff nD τ sig (Elt F) Λ₀ .tc) σ)
    (I : Nat → σ → sProp 𝕄) (hbody : ∀ (k : Fin lp.trips) (acc : σ), I k acc ⊢ WP c (body k acc) (I (k.val + 1)))
    {kk : σ → Prog (TpuEff nD τ sig (Elt F) Λ₀ .tc) α} {Q : α → sProp 𝕄} :
    I 0 init ⊢ iprop((∀ acc, I lp.trips acc -∗ WP c (kk acc) Q) -∗ WP c (Scf.for lp.lb lp.ub lp.st hok init body >>= kk) Q) :=
  Scf.wp_for_bind _ _ _ lp.lb lp.ub lp.st hok init body I hbody

/-- The loop's invariant before the first trip, and after the last. -/
theorem gemm_in (c : Dev nD) :
    iprop(recs m ρ K ∗ xP m ρ c ∗ WS m c 0 2 ∗ Owes (F := F) c (owed c 0)
        ∗ bigSep Finset.univ (fun b : Fin 4 => iprop(lA (F := F) c (8 * yOf c + 2 * b.val) ∗ lA c (8 * yOf c + 2 * b.val + 1)))
        ∗ (Pend c 0 ∗ Pend c 1 ∗ Pend c 2 ∗ Pend c 3))
      ⊢ GI m ρ K c 0 k0_pay4 := by
  have hP : iprop(bigSep Finset.univ (fun b : Fin 4 => iprop(lA (F := F) c (8 * yOf c + 2 * b.val) ∗ lA c (8 * yOf c + 2 * b.val + 1))) ∗ bigSep Finset.univ (fun b : Fin 4 => Pend (F := F) c (own b)))
      ⊢ bigSep Finset.univ (PT m ρ c 0) := by
    rw [← bigSep_sep']
    refine bigSep_imp fun b => Entails.of_eq ?_
    unfold PT; rw [if_neg (by omega), if_neg (by omega)]
  rw [bigSep_four (fun b : Fin 4 => Pend (F := F) c (own b))] at hP
  unfold GI
  iintro ⟨#HR, Hx, HW, HO, Hl, HP⟩
  isplitr; · iexact HR
  isplitr; · ipureintro; rfl
  isplitl [Hx]; · iexact Hx
  isplitl [HW]; · iexact HW
  isplitr
  · rw [BFs_zero c (Nat.zero_le _), BFs_zero c (Nat.zero_le _)]; isplitl <;> iempintro
  isplitl [HO]; · iexact HO
  iapply hP
  isplitl [Hl]; · iexact Hl
  iexact HP

theorem gemm_out (c : Dev nD) (acc : FVec F S512x1 .f32) :
    GI m ρ K c 8 acc ⊢ iprop(⌜acc = rowSum m ρ c 8⌝ ∗ xP m ρ c ∗ WS m c 8 8 ∗ (BF (F := F) c 0 ∗ BF (F := F) c 1) ∗ Owes (F := F) c (owed c 4)
      ∗ LT m ρ c (yOf c) fullShare.right ∗ (Fly (F := F) c 0 ∗ Fly (F := F) c 1 ∗ Fly (F := F) c 2 ∗ Fly (F := F) c 3)) := by
  have hP : bigSep Finset.univ (PT m ρ c 8)
      ⊢ iprop(bigSep Finset.univ (fun b : Fin 4 => blkP m ρ c (own b) (yOf c) fullShare.right) ∗ bigSep Finset.univ (fun b : Fin 4 => Fly (F := F) c (own b))) := by
    rw [← bigSep_sep']
    refine bigSep_imp fun b => Entails.of_eq ?_
    unfold PT; rw [if_pos (by omega)]
  rw [bigSep_four (fun b : Fin 4 => Fly (F := F) c (own b)), bigSep_four (fun b : Fin 4 => blkP m ρ c (own b) (yOf c) fullShare.right)] at hP
  unfold GI
  iintro ⟨#HR, %hacc, Hx, HW, ⟨HB0, HB1⟩, HO, HP⟩
  ihave HP := hP $$ HP
  icases HP with ⟨Hl, Hf⟩
  isplitr; · ipureintro; exact hacc
  isplitl [Hx]; · iexact Hx
  isplitl [HW]; · iexact HW
  isplitl [HB0 HB1]
  · isplitl [HB0]
    · iapply (Entails.of_eq (BFs_one (F := F) c (show 6 + 0 < 8 by omega))); iexact HB0
    · iapply (Entails.of_eq (BFs_one (F := F) c (show 6 + 1 < 8 by omega))); iexact HB1
  isplitl [HO]; · iexact HO
  isplitl [Hl]
  · iapply (LT_blocks m ρ c (yOf c) fullShare.right (own 0) (own 1) (own 2) (own 3) (by decide)).2
    iexact Hl
  iexact Hf

/-- What a device holds at the start, apart from its buffers of tiles. -/
def Tok (c : Dev nD) : sProp 𝕄 :=
  iprop((dutyTok ER (barCell (lt c)) 0 true ∗ dutyTok ER (barCell (rt c)) 0 false) ∗ (cred (tallyAt (barCell c) () 2) ∗ atPos ER (barCell c) 0 ∅ 0)
    ∗ Owes (F := F) c (owed0 c) ∗ bigSep Finset.univ (fun i : Fin 15 => Pend0 (F := F) c i))

theorem run_part4 (c : Dev nD) (v2 v5 v8 v30 : BitVec 32) (v31 : Sems sig S_) (hv : v31.sem = barS) (v33 v34 : BitVec 32)
    {Q : FVec F S1x512x1 .f32 → sProp 𝕄} :
    iprop(recs m ρ K ∗ Tok c ∗ xP m ρ c ∗ WS m c 0 0 ∗ (BF (F := F) c 0 ∗ BF (F := F) c 1)
        ∗ bigSep Finset.univ (fun i : Fin 15 => blkA (F := F) c i (orgR c i))
        ∗ bigSep Finset.univ (fun b : Fin 4 => iprop(lA (F := F) c (8 * yOf c + 2 * b.val) ∗ lA c (8 * yOf c + 2 * b.val + 1)))
        ∗ sA c (yOf c))
      ⊢ iprop((iprop(semVal (barCell c) 0 ∗ xP m ρ c ∗ WS m c 8 8 ∗ (BF (F := F) c 0 ∗ BF (F := F) c 1) ∗ Owes (F := F) c (owed c 4)
            ∗ LT m ρ c (yOf c) fullShare.right ∗ (Fly (F := F) c 0 ∗ Fly (F := F) c 1 ∗ Fly (F := F) c 2 ∗ Fly (F := F) c 3) ∗ sA c (yOf c)
            ∗ (Pend c 4 ∗ Pend c 5 ∗ Pend c 6) ∗ (Pend c 7 ∗ Pend c 8 ∗ Pend c 9 ∗ Pend c 10) ∗ (Pend c 11 ∗ Pend c 12 ∗ Pend c 13 ∗ Pend c 14))
          -∗ Q (k0_pay5 (rowSum m ρ c 8)))
        -∗ WP c (k0_part4 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v31 v33 v34) Q) := by
  rw [k0_part4_eq_skeleton]; unfold k0_part4_skel
  rw [hv]
  simp only [semSignalWord, semWaitWord, Prog.lift, Prog.bind_op, Prog.bind_ret, Prog.pure_eq_ret, dev1_eq, dev2_eq]
  unfold Tok Owes
  iintro ⟨#HR, ⟨⟨HtL, HtR⟩, ⟨Hc, Hat⟩, ⟨%W, HO⟩, HP⟩, Hx, HW, ⟨HB0, HB1⟩, Hg, Hl, Hs⟩ Hk
  iapply (Rounds.wp_signal 𝒱₀ ER (ringRd m ρ) (c : Thread nD τ) none (dst := (lt c : Thread nD τ)) (κ := K (lt c, .inl 0))
      (d := true) (by rw [duties_bar]; exact Finset.mem_univ _) ((amount_bar m ρ (lt c) true).trans (by decide)) () (owed1 c) rfl)
    $$ [HO HtL Hg]
  · isplitr; · iapply (recs_inv m ρ K (lt c, .inl 0)); iexact HR
    isplitl [HO]; · iexact HO
    isplitl [HtL]; · iexact HtL
    isplitl [Hg]
    · rw [payload_bar_true]; iapply (give_left c); iexact Hg
    iapply (recs_reached m ρ K (lt c, .inl 0)); iexact HR
  iintro HO
  iapply (Rounds.wp_signal 𝒱₀ ER (ringRd m ρ) (c : Thread nD τ) none (dst := (rt c : Thread nD τ)) (κ := K (rt c, .inl 0))
      (d := false) (by rw [duties_bar]; exact Finset.mem_univ _) ((amount_bar m ρ (rt c) false).trans (by decide)) () (owed c 0) rfl)
    $$ [HO HtR]
  · isplitr; · iapply (recs_inv m ρ K (rt c, .inl 0)); iexact HR
    isplitl [HO]; · iexact HO
    isplitl [HtR]; · iexact HtR
    isplitr; · rw [payload_bar_false]; iempintro
    iapply (recs_reached m ρ K (rt c, .inl 0)); iexact HR
  iintro HO
  iapply (Rounds.wp_wait_rest_token 𝒱₀ ER (ringRd m ρ) (c : Thread nD τ) none (κ := K (c, .inl 0))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (recs_inv m ρ K (c, .inl 0)); iexact HR
    isplitl [Hc]; · iexact Hc
    isplitl [HO]; · iexact HO
    isplitr; · iapply (recs_wait m ρ K c (.reg barS) 0 (by decide)); iexact HR
    iexact Hat
  iintro ⟨HO, Hat, -, Hpay⟩
  ihave Hpay := (Entails.of_eq (rest_bar m ρ c)) $$ Hpay
  icases Hpay with ⟨-, Hpay⟩
  imod (Rounds.cell_close ER (ringRd m ρ) (Set.mem_univ (K (c, .inl 0))) (fun h => h) (R := 0 + 1) (duties_later m ρ (barCell c))) $$ [Hat] with Hz
  · isplitr; · iapply (recs_inv m ρ K (c, .inl 0)); iexact HR
    iexact Hat
  ihave HP := (pend_join c) $$ [HP Hpay]
  · isplitl [HP] <;> iassumption
  ihave HP := (Entails.of_eq (bigSep_fifteen (fun i : Fin 15 => Pend (F := F) c i))) $$ HP
  icases HP with ⟨P0, P1, P2, P3, P4, P5, P6, P7, P8, P9, P10, P11, P12, P13, P14⟩
  iapply (ws_start m c (k := 0) (e := 0) (s := 0) (by omega) (by omega) rfl (off1_eq 0) (k0_off2_eq 0) rfl) $$ [HW HB0]
  · isplitl [HW] <;> iassumption
  iintro HW
  iapply (ws_start m c (k := 0) (e := 1) (s := 1) (by omega) (by omega) rfl (off1_eq 1) (k0_off2_eq 1) rfl) $$ [HW HB1]
  · isplitl [HW] <;> iassumption
  iintro HW
  iapply (WP_for c k0_t1_loop k0_t1_ok k0_pay4 _ (GI m ρ K c) (gemm_trip m ρ K c v2 v5 v8 v30 v31 v33 v34)) $$ [Hx HW HO Hl P0 P1 P2 P3]
  · iapply (gemm_in m ρ K c)
    isplitr; · iexact HR
    isplitl [Hx]; · iexact Hx
    isplitl [HW]; · iexact HW
    isplitl [HO]; · unfold Owes; iexists _; iexact HO
    isplitl [Hl]; · iexact Hl
    isplitl [P0]; · iexact P0
    isplitl [P1]; · iexact P1
    isplitl [P2] <;> iassumption
  iintro %acc HI
  rw [trips1]
  ihave HI := (gemm_out m ρ K c acc) $$ HI
  icases HI with ⟨%hacc, Hx, HW, HB, HO, Hl, Hf⟩
  subst hacc
  iapply (load_sA c (t := yOf c) (k0_off13_eq c)) $$ Hs
  iintro %v Hs
  rw [WP_ret]; imodintro
  iapply Hk
  isplitl [Hz]; · iexact Hz
  isplitl [Hx]; · iexact Hx
  isplitl [HW]; · iexact HW
  isplitl [HB]; · iexact HB
  isplitl [HO]; · unfold Owes; iexact HO
  isplitl [Hl]; · iexact Hl
  isplitl [Hf]; · iexact Hf
  isplitl [Hs]; · iexact Hs
  isplitl [P4 P5 P6]
  · isplitl [P4]; · iexact P4
    isplitl [P5] <;> iassumption
  isplitl [P7 P8 P9 P10]
  · isplitl [P7]; · iexact P7
    isplitl [P8]; · iexact P8
    isplitl [P9] <;> iassumption
  isplitl [P11]; · iexact P11
  isplitl [P12]; · iexact P12
  isplitl [P13] <;> iassumption

end Cert.Softmax
-- ==== Proof.Stats.lean ====
/-
# The row sums around the ring

Each device stores its own row sums, and three hops bring it the other three.
-/
module

public import proofs.«01_k».proof.Proof.Entry

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem sem6_of (i : Fin 15) (h : isSt i = true) {off : Fin 1 → ℕ} (ho : off = ![hopN i]) {inb} :
    (((cc0_scratch6 : DmaSems sig S3).slice (Rect.unit (s := S3) off S1.size inb)).squeeze S_ squeezes_S1_S_).sem = sS i := by
  subst ho; exact sem6_eq i h
theorem sem7_of (i : Fin 15) (h : isSt i = true) {off : Fin 1 → ℕ} (ho : off = ![hopN i]) {inb} :
    (((cc0_scratch7 : DmaSems sig S3).slice (Rect.unit (s := S3) off S1.size inb)).squeeze S_ squeezes_S1_S_).sem = rS i := by
  subst ho; exact sem7_eq i h

section Fwd
variable (c : Dev nD) {α : Type}

/-- Starting a copy of a block held whole: its right half stays. -/
theorem fwd_chunk (i : Fin 15) (hi : isSt i = false) (n : Dev nD) (hn : n = rt c) {offL : Fin 3 → ℕ} {inbL}
    (hL : offL = ![8 * orgS c i + 2 * blkN i, 0, 0]) (q1 q2 : DmaSem sig) (hq1 : q1 = sS i) (hq2 : q2 = rS i)
    {hsc : ((lM.slice (Rect.unit (s := S32x512x1024) offL S2x512x1024.size inbL) (fun _ => rfl)) : Memref sig (Dev.tc n : Thread nD τ).2.kind .vmem S2x512x1024 .bf16).view.ref.isScScratch = false} {h1 h2 h3}
    {k : PUnit → Prog (TpuEff nD τ sig (Elt F) Λ₀ .tc) α} {Q : α → sProp 𝕄} :
    iprop(recs m ρ K ∗ Pend c i ∗ blkP m ρ c i (orgS c i) fullShare ∗ Owes (F := F) c (owed c i.val))
      ⊢ iprop((iprop(Fly c i ∗ blkP m ρ c i (orgS c i) fullShare.right ∗ Owes (F := F) c (owed c (i.val + 1))) -∗ WP c (k ⟨⟩) Q)
        -∗ WP c (.op (.enqueueDma (lM.slice (Rect.unit (s := S32x512x1024) offL S2x512x1024.size inbL) (fun _ => rfl))
          (.remote (Dev.tc n : Thread nD τ) (lM.slice (Rect.unit (s := S32x512x1024) offL S2x512x1024.size inbL) (fun _ => rfl)) (.dma q1) hsc) (.dma q2) h1 h2 h3) k) Q) := by
  iintro ⟨#HR, HP, Hb, HO⟩ Hk
  ihave Hb := (blkP_halves m ρ c i (orgS c i)).1 $$ Hb
  icases Hb with ⟨Hl, Hr⟩
  iapply (start_chunk m ρ K c i hi n hn hL q1 q2 hq1 hq2) $$ [HP Hl HO]
  · isplitr; · iexact HR
    isplitl [HP]; · iexact HP
    isplitl [Hl] <;> iassumption
  iintro ⟨HF, HO⟩
  iapply Hk
  isplitl [HF]; · iexact HF
  isplitl [Hr] <;> iassumption

theorem fwd_stat (i : Fin 15) (hi : isSt i = true) (n : Dev nD) (hn : n = rt c) {offL : Fin 3 → ℕ} {inbL}
    (hL : offL = ![orgS c i, 0, 0]) (q1 q2 : DmaSem sig) (hq1 : q1 = sS i) (hq2 : q2 = rS i)
    {hsc : ((sM.slice (Rect.unit (s := S4x512x1) offL S1x512x1.size inbL) (fun _ => rfl)) : Memref sig (Dev.tc n : Thread nD τ).2.kind .vmem S1x512x1 .f32).view.ref.isScScratch = false} {h1 h2 h3}
    {k : PUnit → Prog (TpuEff nD τ sig (Elt F) Λ₀ .tc) α} {Q : α → sProp 𝕄} :
    iprop(recs m ρ K ∗ Pend c i ∗ blkP m ρ c i (orgS c i) fullShare ∗ Owes (F := F) c (owed c i.val))
      ⊢ iprop((iprop(Fly c i ∗ blkP m ρ c i (orgS c i) fullShare.right ∗ Owes (F := F) c (owed c (i.val + 1))) -∗ WP c (k ⟨⟩) Q)
        -∗ WP c (.op (.enqueueDma (sM.slice (Rect.unit (s := S4x512x1) offL S1x512x1.size inbL) (fun _ => rfl))
          (.remote (Dev.tc n : Thread nD τ) (sM.slice (Rect.unit (s := S4x512x1) offL S1x512x1.size inbL) (fun _ => rfl)) (.dma q1) hsc) (.dma q2) h1 h2 h3) k) Q) := by
  iintro ⟨#HR, HP, Hb, HO⟩ Hk
  ihave Hb := (blkP_halves m ρ c i (orgS c i)).1 $$ Hb
  icases Hb with ⟨Hl, Hr⟩
  iapply (start_stat m ρ K c i hi n hn hL q1 q2 hq1 hq2) $$ [HP Hl HO]
  · isplitr; · iexact HR
    isplitl [HP]; · iexact HP
    isplitl [Hl] <;> iassumption
  iintro ⟨HF, HO⟩
  iapply Hk
  isplitl [HF]; · iexact HF
  isplitl [Hr] <;> iassumption

end Fwd

/-- The four row sums, by place. -/
theorem stats_all (c : Dev nD) :
    iprop(blkP m ρ c 4 (orgS c 4) fullShare ∗ blkP m ρ c 5 (orgS c 5) fullShare ∗ blkP m ρ c 6 (orgS c 6) fullShare ∗ blkP m ρ c 6 (orgR c 6) fullShare)
      ⊢ iprop(sP m ρ c 0 fullShare ∗ sP m ρ c 1 fullShare ∗ sP m ρ c 2 fullShare ∗ sP m ρ c 3 fullShare) := by
  have h := (ring_four c (fun o => sP m ρ c o fullShare)).2
  rw [bigSep_four] at h
  rw [blkP_stat m ρ c (i := 4) rfl, blkP_stat m ρ c (i := 5) rfl, blkP_stat m ρ c (i := 6) rfl, blkP_stat m ρ c (i := 6) rfl, orgS_eq, orgS_eq, orgS_eq, orgR_eq,
    show hopN 4 = 0 from rfl, og_zero]
  exact h

theorem stats_in (c : Dev nD) : sP m ρ c (yOf c) fullShare ⊢ blkP m ρ c 4 (orgS c 4) fullShare := by
  rw [blkP_stat m ρ c (i := 4) rfl, orgS_eq, show hopN 4 = 0 from rfl, og_zero]

theorem run_part5 (c : Dev nD) (v2 : BitVec 32) (v5 : BitVec 32) (v8 : BitVec 32) (v30 : BitVec 32) {Q : (Σ' (v91 : BitVec 32), BitVec 32) → sProp 𝕄} :
    iprop(recs m ρ K ∗ sA c (yOf c) ∗ Pend (F := F) c 4 ∗ Owes (F := F) c (owed c 4))
      ⊢ iprop((iprop(Mid (F := F) c 4 ∗ Owes (F := F) c (owed c 5) ∗ blkP m ρ c 4 (orgS c 4) fullShare) -∗ ∀ r, Q r)
        -∗ WP c (k0_part5 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 (k0_pay5 (rowSum m ρ c 8))) Q) := by
  rw [k0_part5_eq_skeleton]; unfold k0_part5_skel
  simp only [Prog.lift, Prog.bind_op, Prog.bind_ret, Prog.pure_eq_ret]
  iintro ⟨#HR, H1, H4, H5⟩ Hk
  iapply (store_s m ρ c (t := yOf c) (k0_off13_eq c) (by rw [devAt_yOf]; rfl)) $$ [H1]
  · iexact H1
  iintro H2
  ihave H3 := (stats_in m ρ c) $$ H2
  iapply (fwd_stat m ρ K c 4 rfl _ (dev4_eq c) (off14_eq c 0) _ _ (sem6_of 4 rfl (by decide)) (sem7_of 4 rfl (by decide))) $$ [H4 H3 H5]
  · isplitr; · iexact HR
    isplitl [H4]; · iexact H4
    isplitl [H3]; · iexact H3
    iexact H5
  iintro ⟨H6, H7, H8⟩
  iapply (wait_s m ρ K c 4 (n := 5) _ (sem6_of 4 rfl (by decide)) (credit_one 4 rfl)) $$ [H6 H8]
  · isplitr; · iexact HR
    isplitl [H6]; · iexact H6
    iexact H8
  iintro ⟨H9, H10, H11⟩
  ihave H12 := (blkP_halves m ρ c 4 (orgS c 4)).2 $$ [H10 H7]
  · isplitl [H10] <;> iassumption
  rw [WP_ret]; imodintro
  ihave Hk := Hk $$ [H9 H11 H12]
  · isplitl [H9]; · iexact H9
    isplitl [H11]; · iexact H11
    iexact H12
  iapply Hk

theorem run_part6 (c : Dev nD) (v2 : BitVec 32) (v5 : BitVec 32) (v8 : BitVec 32) (v30 : BitVec 32) (v91 : BitVec 32) (c0_i32_68 : BitVec 32) {Q : (PUnit) → sProp 𝕄} :
    iprop(recs m ρ K ∗ Mid (F := F) c 4 ∗ Owes (F := F) c (owed c 5) ∗ Pend (F := F) c 5)
      ⊢ iprop((iprop(Done (F := F) c 4 ∗ Fly (F := F) c 5 ∗ blkP m ρ c 5 (orgS c 5) fullShare.right ∗ Owes (F := F) c (owed c 6)) -∗ ∀ r, Q r)
        -∗ WP c (k0_part6 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v91 c0_i32_68) Q) := by
  rw [k0_part6_eq_skeleton]; unfold k0_part6_skel
  simp only [Prog.lift, Prog.bind_op, Prog.bind_ret, Prog.pure_eq_ret]
  iintro ⟨#HR, H1, H2, H7⟩ Hk
  iapply (wait_r m ρ K c 4 (n := 5) (by decide) _ (sem7_of 4 rfl (by decide)) (credit_one 4 rfl)) $$ [H1 H2]
  · isplitr; · iexact HR
    isplitl [H1]; · iexact H1
    iexact H2
  iintro ⟨H3, H4, H5⟩
  ihave H6 := (Entails.of_eq (next_blk m ρ c 4 5 fullShare (by decide))) $$ H4
  iapply (fwd_stat m ρ K c 5 rfl _ (dev5_eq c) (off14_eq c 1) _ _ (sem6_of 5 rfl (by decide)) (sem7_of 5 rfl (by decide))) $$ [H7 H6 H5]
  · isplitr; · iexact HR
    isplitl [H7]; · iexact H7
    isplitl [H6]; · iexact H6
    iexact H5
  iintro ⟨H8, H9, H10⟩
  rw [WP_ret]; imodintro
  ihave Hk := Hk $$ [H3 H8 H9 H10]
  · isplitl [H3]; · iexact H3
    isplitl [H8]; · iexact H8
    isplitl [H9]; · iexact H9
    iexact H10
  iapply Hk

theorem run_part7 (c : Dev nD) (v2 : BitVec 32) (v5 : BitVec 32) (v8 : BitVec 32) (v30 : BitVec 32) {Q : (PUnit) → sProp 𝕄} :
    iprop(recs m ρ K ∗ Fly (F := F) c 5 ∗ Owes (F := F) c (owed c 6) ∗ blkP m ρ c 5 (orgS c 5) fullShare.right)
      ⊢ iprop((iprop(Done (F := F) c 5 ∗ blkP m ρ c 5 (orgR c 5) fullShare ∗ Owes (F := F) c (owed c 6) ∗ blkP m ρ c 5 (orgS c 5) fullShare) -∗ ∀ r, Q r)
        -∗ WP c (k0_part7 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30) Q) := by
  rw [k0_part7_eq_skeleton]; unfold k0_part7_skel
  simp only [Prog.lift, Prog.bind_op, Prog.bind_ret, Prog.pure_eq_ret]
  iintro ⟨#HR, H1, H2, H9⟩ Hk
  iapply (wait_s m ρ K c 5 (n := 6) _ (sem6_of 5 rfl (by decide)) (credit_one 5 rfl)) $$ [H1 H2]
  · isplitr; · iexact HR
    isplitl [H1]; · iexact H1
    iexact H2
  iintro ⟨H3, H4, H5⟩
  iapply (wait_r m ρ K c 5 (n := 6) (by decide) _ (sem7_of 5 rfl (by decide)) (credit_one 5 rfl)) $$ [H3 H5]
  · isplitr; · iexact HR
    isplitl [H3]; · iexact H3
    iexact H5
  iintro ⟨H6, H7, H8⟩
  ihave H10 := (blkP_halves m ρ c 5 (orgS c 5)).2 $$ [H4 H9]
  · isplitl [H4] <;> iassumption
  rw [WP_ret]; imodintro
  ihave Hk := Hk $$ [H6 H7 H8 H10]
  · isplitl [H6]; · iexact H6
    isplitl [H7]; · iexact H7
    isplitl [H8]; · iexact H8
    iexact H10
  iapply Hk

theorem run_part8 (c : Dev nD) (v2 : BitVec 32) (v8 : BitVec 32) (v30 : BitVec 32) {Q : (Σ' (v179 : FVec F S512x1 .f32), FVec F S512x1 .f32) → sProp 𝕄} :
    iprop(recs m ρ K ∗ blkP m ρ c 5 (orgR c 5) fullShare ∗ Pend (F := F) c 6 ∗ Owes (F := F) c (owed c 6) ∗ blkP m ρ c 4 (orgS c 4) fullShare ∗ blkP m ρ c 5 (orgS c 5) fullShare)
      ⊢ iprop((iprop(Done (F := F) c 6 ∗ Owes (F := F) c (owed c 7) ∗ sP m ρ c 3 fullShare ∗ sP m ρ c 0 fullShare ∗ sP m ρ c 1 fullShare ∗ sP m ρ c 2 fullShare) -∗ Q ⟨k0_pay7 (stat m ρ (devAt c 0)) (stat m ρ (devAt c 1)), k0_pay8 (stat m ρ (devAt c 2))⟩)
        -∗ WP c (k0_part8 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v8 v30) Q) := by
  rw [k0_part8_eq_skeleton]; unfold k0_part8_skel
  simp only [Prog.lift, Prog.bind_op, Prog.bind_ret, Prog.pure_eq_ret]
  iintro ⟨#HR, H1, H3, H4, H15, H16⟩ Hk
  ihave H2 := (Entails.of_eq (next_blk m ρ c 5 6 fullShare (by decide))) $$ H1
  iapply (fwd_stat m ρ K c 6 rfl _ (dev6_eq c) (off14_eq c 2) _ _ (sem6_of 6 rfl (by decide)) (sem7_of 6 rfl (by decide))) $$ [H3 H2 H4]
  · isplitr; · iexact HR
    isplitl [H3]; · iexact H3
    isplitl [H2]; · iexact H2
    iexact H4
  iintro ⟨H5, H6, H7⟩
  iapply (wait_s m ρ K c 6 (n := 7) _ (sem6_of 6 rfl (by decide)) (credit_one 6 rfl)) $$ [H5 H7]
  · isplitr; · iexact HR
    isplitl [H5]; · iexact H5
    iexact H7
  iintro ⟨H8, H9, H10⟩
  iapply (wait_r m ρ K c 6 (n := 7) (by decide) _ (sem7_of 6 rfl (by decide)) (credit_one 6 rfl)) $$ [H8 H10]
  · isplitr; · iexact HR
    isplitl [H8]; · iexact H8
    iexact H10
  iintro ⟨H11, H12, H13⟩
  ihave H14 := (blkP_halves m ρ c 6 (orgS c 6)).2 $$ [H9 H6]
  · isplitl [H9] <;> iassumption
  ihave HS := (stats_all m ρ c) $$ [H15 H16 H14 H12]
  · isplitl [H15]; · iexact H15
    isplitl [H16]; · iexact H16
    isplitl [H14] <;> iassumption
  icases HS with ⟨H17, H18, H19, H20⟩
  iapply (load_s m ρ c (o := 0) rfl fullShare) $$ [H17]
  · iexact H17
  iintro H21
  iapply (load_s m ρ c (o := 1) rfl fullShare) $$ [H18]
  · iexact H18
  iintro H22
  iapply (load_s m ρ c (o := 2) rfl fullShare) $$ [H19]
  · iexact H19
  iintro H23
  rw [WP_ret]; imodintro
  ihave Hk := Hk $$ [H11 H13 H20 H21 H22 H23]
  · isplitl [H11]; · iexact H11
    isplitl [H13]; · iexact H13
    isplitl [H20]; · iexact H20
    isplitl [H21]; · iexact H21
    isplitl [H22]; · iexact H22
    iexact H23
  iapply Hk

end Cert.Softmax
-- ==== Proof.Stream0.lean ====
/-
# Writing the own tiles of the result
-/
module

public import proofs.«01_k».proof.Proof.Stats

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem off15_eq (c : Dev nD) (r : Fin 2) : k0_off15 c (BitVec.ofNat 32 r.val) = ![8 * yOf c + r.val, 0, 0] := k0_off15_eq c r

theorem recip_eq (c : Dev nD) : recip m ρ c
    = k0_pay9 (k0_pay7 (stat m ρ (devAt c 0)) (stat m ρ (devAt c 1))) (k0_pay8 (stat m ρ (devAt c 2))) (stat m ρ (devAt c 3)) := rfl

theorem GF_open (c : Dev nD) (s : ℕ) : GF (F := F) c s ⊢ iprop(gA (F := F) c s ∗ semVal ((c : Thread nD τ), .dma (oSem s)) 0) := by
  unfold GF; exact .rfl

/-- Before trip `k` of a loop that writes the eight tiles of place `o`: `k` written, two on their way. -/
def SI (c : Dev nD) (o : ℕ) (q : PosShare TreeShare) (n k : ℕ) : sProp 𝕄 :=
  iprop(recs m ρ K ∗ LT m ρ c o q ∗ OS m ρ c o k (k + 2) ∗ Owes (F := F) c (owed c n))

theorem trip2 (c : Dev nD) (v5 : BitVec 32) (v211 : BitVec 32) (k : Fin k0_t2_loop.trips) (u : Unit) :
    SI m ρ K c (yOf c) fullShare.right 7 k.val ⊢ WP c (k0_t2_body xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 (recip m ρ c) v211 k u) (fun _ => SI m ρ K c (yOf c) fullShare.right 7 (k.val + 1)) := by
  have hk : k.val < 6 := lt_of_lt_of_eq k.isLt trips2
  unfold k0_t2_body
  simp only [Prog.lift, Prog.bind_op, Prog.bind_ret, Prog.pure_eq_ret]
  unfold SI
  iintro ⟨#HR, HL, HS, HO⟩
  iapply (os_wait m ρ K c (o := (yOf c)) (k := k.val) (e := k.val + 2) (s := k.val % 2) (n := 7) (by omega) (by omega) rfl (k0_off19_eq k)) $$ [HS HO]
  · isplitr; · iexact HR
    isplitl [HS] <;> iassumption
  iintro ⟨HS, HG, HO⟩
  ihave HG := (GF_open c (k.val % 2)) $$ HG
  icases HG with ⟨HG, HV⟩
  iapply (lt_load m ρ c (o := (yOf c)) (j := k.val + 2) (by omega) ((k0_off22_eq c k).trans (by rw [show c.val / 4 % 4 = yOf c from rfl, Nat.add_assoc]))) $$ HL
  iintro HL
  iapply (load_gA c (t := k.val % 2) ((k0_off23_eq k).trans (by rw [Nat.add_mod_right]))) $$ HG
  iintro %v HG
  iapply (store_g m ρ c (s := k.val % 2) (t := 8 * (yOf c) + (k.val + 2)) ((k0_off23_eq k).trans (by rw [Nat.add_mod_right])) rfl) $$ HG
  iintro HG
  iapply (os_start m ρ c (o := (yOf c)) (k := k.val + 1) (e := k.val + 2) (s := k.val % 2) (yOf_lt c) (by omega) (by omega) (by omega)
    ((k0_off24_eq k).trans (by rw [Nat.add_mod_right])) ((k0_off26_eq k).trans (by rw [Nat.add_mod_right])) ((k0_off25_eq c k).trans (by rw [show c.val / 4 % 4 = yOf c from rfl, show 8192 * yOf c + 1024 * k.val + 2048 = 1024 * (8 * yOf c + (k.val + 2)) by omega]))) $$ [HS HG HV]
  · isplitl [HS]; · iexact HS
    isplitl [HG] <;> iassumption
  iintro HS
  rw [WP_ret]; imodintro
  isplitr; · iexact HR
  isplitl [HL]; · iexact HL
  isplitl [HS]; · iexact HS
  iexact HO

theorem run_part9 (c : Dev nD) (v5 : BitVec 32) {Q : (Σ' (v187 : FVec F S512x1 .f32), BitVec 32) → sProp 𝕄} :
    iprop(recs m ρ K ∗ sP m ρ c 3 fullShare ∗ LT m ρ c (yOf c) fullShare.right ∗ GF (F := F) c 0 ∗ OS m ρ c (yOf c) 0 0)
      ⊢ iprop((iprop(sP m ρ c 3 fullShare ∗ LT m ρ c (yOf c) fullShare.right ∗ OS m ρ c (yOf c) 0 1) -∗ ∀ a, Q ⟨recip m ρ c, a⟩)
        -∗ WP c (k0_part9 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 (k0_pay7 (stat m ρ (devAt c 0)) (stat m ρ (devAt c 1))) (k0_pay8 (stat m ρ (devAt c 2)))) Q) := by
  rw [k0_part9_eq_skeleton]; unfold k0_part9_skel
  simp only [Prog.lift, Prog.bind_op, Prog.bind_ret, Prog.pure_eq_ret]
  iintro ⟨#HR, H1, H3, H5, H10⟩ Hk
  iapply (load_s m ρ c (o := 3) rfl fullShare) $$ [H1]
  · iexact H1
  iintro H2
  iapply (lt_load m ρ c (o := (yOf c)) (j := 0) (by decide) (off15_eq c 0)) $$ [H3]
  · iexact H3
  iintro H4
  ihave H5 := (GF_open c 0) $$ H5
  icases H5 with ⟨H6, H7⟩
  iapply (load_gA c (t := 0) (k0_off16_eq 0)) $$ [H6]
  · iexact H6
  iintro %v H8
  iapply (store_g m ρ c (s := 0) (t := 8 * (yOf c) + 0) (k0_off16_eq 0) rfl) $$ [H8]
  · iexact H8
  iintro H9
  iapply (os_start m ρ c (o := (yOf c)) (k := 0) (e := 0) (s := 0) (yOf_lt c) (by decide) (by decide) rfl (off1_eq 0) (off18_eq 0) (off17_eq c 0)) $$ [H10 H9 H7]
  · isplitl [H10]; · iexact H10
    isplitl [H9]; · iexact H9
    iexact H7
  iintro H11
  rw [← recip_eq]
  rw [WP_ret]; imodintro
  ihave Hk := Hk $$ [H2 H4 H11]
  · isplitl [H2]; · iexact H2
    isplitl [H4]; · iexact H4
    iexact H11
  iapply Hk

theorem run_part10 (c : Dev nD) (v5 : BitVec 32) (v211 : BitVec 32) {Q : (BitVec 32) → sProp 𝕄} :
    iprop(recs m ρ K ∗ LT m ρ c (yOf c) fullShare.right ∗ GF (F := F) c 1 ∗ OS m ρ c (yOf c) 0 1 ∗ Owes (F := F) c (owed c 7))
      ⊢ iprop((iprop(LT m ρ c (yOf c) fullShare.right ∗ OS m ρ c (yOf c) 7 8 ∗ GF (F := F) c 0 ∗ Owes (F := F) c (owed c 7)) -∗ ∀ r, Q r)
        -∗ WP c (k0_part10 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 (recip m ρ c) v211) Q) := by
  rw [k0_part10_eq_skeleton]; unfold k0_part10_skel
  simp only [Prog.lift, Prog.bind_op, Prog.bind_ret, Prog.pure_eq_ret]
  iintro ⟨#HR, H1, H3, H8, H10⟩ Hk
  iapply (lt_load m ρ c (o := (yOf c)) (j := 1) (by decide) (off15_eq c 1)) $$ [H1]
  · iexact H1
  iintro H2
  ihave H3 := (GF_open c 1) $$ H3
  icases H3 with ⟨H4, H5⟩
  iapply (load_gA c (t := 1) (k0_off16_eq 1)) $$ [H4]
  · iexact H4
  iintro %v H6
  iapply (store_g m ρ c (s := 1) (t := 8 * (yOf c) + 1) (k0_off16_eq 1) rfl) $$ [H6]
  · iexact H6
  iintro H7
  iapply (os_start m ρ c (o := (yOf c)) (k := 0) (e := 1) (s := 1) (yOf_lt c) (by decide) (by decide) rfl (off1_eq 1) (off18_eq 1) (off17_eq c 1)) $$ [H8 H7 H5]
  · isplitl [H8]; · iexact H8
    isplitl [H7]; · iexact H7
    iexact H5
  iintro H9
  iapply (WP_for c k0_t2_loop k0_t2_ok _ _ (fun k _ => SI m ρ K c (yOf c) fullShare.right 7 k) (fun k _ => trip2 m ρ K c v5 v211 k ⟨⟩)) $$ [H2 H9 H10]
  · unfold SI
    isplitr; · iexact HR
    isplitl [H2]; · iexact H2
    isplitl [H9] <;> iassumption
  iintro %u HI
  rw [trips2]
  unfold SI
  icases HI with ⟨-, H11, H12, H13⟩
  iapply (os_wait m ρ K c (o := (yOf c)) (k := 6) (e := 8) (s := 0) (n := 7) (by decide) (by decide) rfl (off1_eq 6)) $$ [H12 H13]
  · isplitr; · iexact HR
    isplitl [H12]; · iexact H12
    iexact H13
  iintro ⟨H14, H15, H16⟩
  rw [WP_ret]; imodintro
  ihave Hk := Hk $$ [H11 H14 H15 H16]
  · isplitl [H11]; · iexact H11
    isplitl [H14]; · iexact H14
    isplitl [H15]; · iexact H15
    iexact H16
  iapply Hk

end Cert.Softmax
-- ==== Proof.Hop0.lean ====
/-
# The first hop: the next place's blocks arrive and go on
-/
module

public import proofs.«01_k».proof.Proof.Stream0

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem run_part11 (c : Dev nD) (v2 : BitVec 32) (v5 : BitVec 32) (c8_i32_197 : BitVec 32) {Q : (BitVec 32) → sProp 𝕄} :
    iprop(recs m ρ K ∗ OS m ρ c (yOf c) 7 8 ∗ Owes (F := F) c (owed c 7) ∗ Fly (F := F) c 0)
      ⊢ iprop((iprop(OS m ρ c (yOf c) 8 8 ∗ GF (F := F) c 1 ∗ Mid (F := F) c 0 ∗ blkP m ρ c 0 (orgS c 0) fullShare.left ∗ Owes (F := F) c (owed c 7)) -∗ ∀ r, Q r)
        -∗ WP c (k0_part11 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 c8_i32_197) Q) := by
  rw [k0_part11_eq_skeleton]; unfold k0_part11_skel
  simp only [Prog.lift, Prog.bind_op, Prog.bind_ret, Prog.pure_eq_ret]
  iintro ⟨#HR, H1, H2, H6⟩ Hk
  iapply (os_wait m ρ K c (o := (yOf c)) (k := 7) (e := 8) (s := 1) (n := 7) (by decide) (by decide) rfl (off1_eq 7)) $$ [H1 H2]
  · isplitr; · iexact HR
    isplitl [H1]; · iexact H1
    iexact H2
  iintro ⟨H3, H4, H5⟩
  iapply (wait_s m ρ K c 0 (n := 7) _ (sem4_of 0 rfl (by decide)) (credit_two 0 rfl)) $$ [H6 H5]
  · isplitr; · iexact HR
    isplitl [H6]; · iexact H6
    iexact H5
  iintro ⟨H7, H8, H9⟩
  rw [WP_ret]; imodintro
  ihave Hk := Hk $$ [H3 H4 H7 H8 H9]
  · isplitl [H3]; · iexact H3
    isplitl [H4]; · iexact H4
    isplitl [H7]; · iexact H7
    isplitl [H8]; · iexact H8
    iexact H9
  iapply Hk

theorem run_part12 (c : Dev nD) (v2 : BitVec 32) (v5 : BitVec 32) (v8 : BitVec 32) (v30 : BitVec 32) (v272 : BitVec 32) {Q : (PUnit) → sProp 𝕄} :
    iprop(recs m ρ K ∗ Mid (F := F) c 0 ∗ Owes (F := F) c (owed c 7))
      ⊢ iprop((iprop(Done (F := F) c 0 ∗ blkP m ρ c 0 (orgR c 0) fullShare ∗ Owes (F := F) c (owed c 7)) -∗ ∀ r, Q r)
        -∗ WP c (k0_part12 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v272) Q) := by
  rw [k0_part12_eq_skeleton]; unfold k0_part12_skel
  simp only [Prog.lift, Prog.bind_op, Prog.bind_ret, Prog.pure_eq_ret]
  iintro ⟨#HR, H1, H2⟩ Hk
  iapply (wait_r m ρ K c 0 (n := 7) (by decide) _ (sem5_of 0 rfl (by decide)) (credit_two 0 rfl)) $$ [H1 H2]
  · isplitr; · iexact HR
    isplitl [H1]; · iexact H1
    iexact H2
  iintro ⟨H3, H4, H5⟩
  rw [WP_ret]; imodintro
  ihave Hk := Hk $$ [H3 H4 H5]
  · isplitl [H3]; · iexact H3
    isplitl [H4]; · iexact H4
    iexact H5
  iapply Hk

theorem run_part13 (c : Dev nD) (v2 : BitVec 32) (v5 : BitVec 32) (v8 : BitVec 32) (v30 : BitVec 32) {Q : (PUnit) → sProp 𝕄} :
    iprop(recs m ρ K ∗ blkP m ρ c 0 (orgR c 0) fullShare ∗ Pend (F := F) c 7 ∗ Owes (F := F) c (owed c 7) ∗ Fly (F := F) c 1)
      ⊢ iprop((iprop(Fly (F := F) c 7 ∗ blkP m ρ c 7 (orgS c 7) fullShare.right ∗ Mid (F := F) c 1 ∗ blkP m ρ c 1 (orgS c 1) fullShare.left ∗ Owes (F := F) c (owed c 8)) -∗ ∀ r, Q r)
        -∗ WP c (k0_part13 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30) Q) := by
  rw [k0_part13_eq_skeleton]; unfold k0_part13_skel
  simp only [Prog.lift, Prog.bind_op, Prog.bind_ret, Prog.pure_eq_ret]
  iintro ⟨#HR, H1, H3, H4, H8⟩ Hk
  ihave H2 := (Entails.of_eq (next_blk m ρ c 0 7 fullShare (by decide))) $$ H1
  iapply (fwd_chunk m ρ K c 7 rfl _ (dev7_eq c) (off27_eq c 1 0) _ _ (sem4_of 7 rfl (by decide)) (sem5_of 7 rfl (by decide))) $$ [H3 H2 H4]
  · isplitr; · iexact HR
    isplitl [H3]; · iexact H3
    isplitl [H2]; · iexact H2
    iexact H4
  iintro ⟨H5, H6, H7⟩
  iapply (wait_s m ρ K c 1 (n := 8) _ (sem4_of 1 rfl (by decide)) (credit_two 1 rfl)) $$ [H8 H7]
  · isplitr; · iexact HR
    isplitl [H8]; · iexact H8
    iexact H7
  iintro ⟨H9, H10, H11⟩
  rw [WP_ret]; imodintro
  ihave Hk := Hk $$ [H5 H6 H9 H10 H11]
  · isplitl [H5]; · iexact H5
    isplitl [H6]; · iexact H6
    isplitl [H9]; · iexact H9
    isplitl [H10]; · iexact H10
    iexact H11
  iapply Hk

theorem run_part14 (c : Dev nD) (v2 : BitVec 32) (v5 : BitVec 32) (v8 : BitVec 32) (v30 : BitVec 32) {Q : (Σ' (v361 : BitVec 32) (c4_i32_310 : BitVec 32) (v362 : BitVec 1), BitVec 32) → sProp 𝕄} :
    iprop(recs m ρ K ∗ Mid (F := F) c 1 ∗ Owes (F := F) c (owed c 8) ∗ Pend (F := F) c 8)
      ⊢ iprop((iprop(Done (F := F) c 1 ∗ Fly (F := F) c 8 ∗ blkP m ρ c 8 (orgS c 8) fullShare.right ∗ Owes (F := F) c (owed c 9)) -∗ ∀ r, Q r)
        -∗ WP c (k0_part14 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30) Q) := by
  rw [k0_part14_eq_skeleton]; unfold k0_part14_skel
  simp only [Prog.lift, Prog.bind_op, Prog.bind_ret, Prog.pure_eq_ret]
  iintro ⟨#HR, H1, H2, H7⟩ Hk
  iapply (wait_r m ρ K c 1 (n := 8) (by decide) _ (sem5_of 1 rfl (by decide)) (credit_two 1 rfl)) $$ [H1 H2]
  · isplitr; · iexact HR
    isplitl [H1]; · iexact H1
    iexact H2
  iintro ⟨H3, H4, H5⟩
  ihave H6 := (Entails.of_eq (next_blk m ρ c 1 8 fullShare (by decide))) $$ H4
  iapply (fwd_chunk m ρ K c 8 rfl _ (dev8_eq c) (off27_eq c 1 1) _ _ (sem4_of 8 rfl (by decide)) (sem5_of 8 rfl (by decide))) $$ [H7 H6 H5]
  · isplitr; · iexact HR
    isplitl [H7]; · iexact H7
    isplitl [H6]; · iexact H6
    iexact H5
  iintro ⟨H8, H9, H10⟩
  rw [WP_ret]; imodintro
  ihave Hk := Hk $$ [H3 H8 H9 H10]
  · isplitl [H3]; · iexact H3
    isplitl [H8]; · iexact H8
    isplitl [H9]; · iexact H9
    iexact H10
  iapply Hk

theorem run_part15 (c : Dev nD) (v2 : BitVec 32) (v5 : BitVec 32) (v8 : BitVec 32) (v30 : BitVec 32) (v361 : BitVec 32) (c4_i32_310 : BitVec 32) (v362 : BitVec 1) (c1_i32_312 : BitVec 32) {Q : (Σ' (v389 : BitVec 32) (c4_i32_341 : BitVec 32), BitVec 1) → sProp 𝕄} :
    iprop(recs m ρ K ∗ Fly (F := F) c 2 ∗ Owes (F := F) c (owed c 9))
      ⊢ iprop((iprop(blkP m ρ c 2 (orgS c 2) fullShare.left ∗ Done (F := F) c 2 ∗ blkP m ρ c 2 (orgR c 2) fullShare ∗ Owes (F := F) c (owed c 9)) -∗ ∀ r, Q r)
        -∗ WP c (k0_part15 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v361 c4_i32_310 v362 c1_i32_312) Q) := by
  rw [k0_part15_eq_skeleton]; unfold k0_part15_skel
  simp only [Prog.lift, Prog.bind_op, Prog.bind_ret, Prog.pure_eq_ret]
  iintro ⟨#HR, H1, H2⟩ Hk
  iapply (wait_s m ρ K c 2 (n := 9) _ (sem4_of 2 rfl (by decide)) (credit_two 2 rfl)) $$ [H1 H2]
  · isplitr; · iexact HR
    isplitl [H1]; · iexact H1
    iexact H2
  iintro ⟨H3, H4, H5⟩
  iapply (wait_r m ρ K c 2 (n := 9) (by decide) _ (sem5_of 2 rfl (by decide)) (credit_two 2 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part16 (c : Dev nD) (v2 : BitVec 32) (v5 : BitVec 32) (v8 : BitVec 32) (v30 : BitVec 32) (v389 : BitVec 32) (c4_i32_341 : BitVec 32) (v390 : BitVec 1) {Q : (Σ' (v417 : BitVec 32) (v418 : BitVec 32), BitVec 1) → sProp 𝕄} :
    iprop(recs m ρ K ∗ blkP m ρ c 2 (orgR c 2) fullShare ∗ Pend (F := F) c 9 ∗ Owes (F := F) c (owed c 9))
      ⊢ iprop((iprop(Fly (F := F) c 9 ∗ blkP m ρ c 9 (orgS c 9) fullShare.right ∗ Owes (F := F) c (owed c 10)) -∗ ∀ r, Q r)
        -∗ WP c (k0_part16 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v389 c4_i32_341 v390) Q) := by
  rw [k0_part16_eq_skeleton]; unfold k0_part16_skel
  simp only [Prog.lift, Prog.bind_op, Prog.bind_ret, Prog.pure_eq_ret]
  iintro ⟨#HR, H1, H3, H4⟩ Hk
  ihave H2 := (Entails.of_eq (next_blk m ρ c 2 9 fullShare (by decide))) $$ H1
  iapply (fwd_chunk m ρ K c 9 rfl _ (dev9_eq c) (off27_eq c 1 2) _ _ (sem4_of 9 rfl (by decide)) (sem5_of 9 rfl (by decide))) $$ [H3 H2 H4]
  · isplitr; · iexact HR
    isplitl [H3]; · iexact H3
    isplitl [H2]; · iexact H2
    iexact H4
  iintro ⟨H5, H6, H7⟩
  rw [WP_ret]; imodintro
  ihave Hk := Hk $$ [H5 H6 H7]
  · isplitl [H5]; · iexact H5
    isplitl [H6]; · iexact H6
    iexact H7
  iapply Hk

theorem run_part17 (c : Dev nD) (v2 : BitVec 32) (v5 : BitVec 32) (v8 : BitVec 32) (v30 : BitVec 32) (v417 : BitVec 32) (v418 : BitVec 32) (v423 : BitVec 1) {Q : (Σ' (v445 : BitVec 32) (v446 : BitVec 32) (v447 : BitVec 1), BitVec 1) → sProp 𝕄} :
    iprop(recs m ρ K ∗ Fly (F := F) c 3 ∗ Owes (F := F) c (owed c 10))
      ⊢ iprop((iprop(blkP m ρ c 3 (orgS c 3) fullShare.left ∗ Done (F := F) c 3 ∗ blkP m ρ c 3 (orgR c 3) fullShare ∗ Owes (F := F) c (owed c 10)) -∗ ∀ r, Q r)
        -∗ WP c (k0_part17 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v417 v418 v423) Q) := by
  rw [k0_part17_eq_skeleton]; unfold k0_part17_skel
  simp only [Prog.lift, Prog.bind_op, Prog.bind_ret, Prog.pure_eq_ret]
  iintro ⟨#HR, H1, H2⟩ Hk
  iapply (wait_s m ρ K c 3 (n := 10) _ (sem4_of 3 rfl (by decide)) (credit_two 3 rfl)) $$ [H1 H2]
  · isplitr; · iexact HR
    isplitl [H1]; · iexact H1
    iexact H2
  iintro ⟨H3, H4, H5⟩
  iapply (wait_r m ρ K c 3 (n := 10) (by decide) _ (sem5_of 3 rfl (by decide)) (credit_two 3 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part18 (c : Dev nD) (v2 : BitVec 32) (v5 : BitVec 32) (v8 : BitVec 32) (v30 : BitVec 32) (v445 : BitVec 32) (v446 : BitVec 32) (v447 : BitVec 1) (v450 : BitVec 1) {Q : (Σ' (v480 : BitVec 32) (v481 : BitVec 32) (v482 : BitVec 32), BitVec 32) → sProp 𝕄} :
    iprop(recs m ρ K ∗ blkP m ρ c 3 (orgR c 3) fullShare ∗ Pend (F := F) c 10 ∗ Owes (F := F) c (owed c 10))
      ⊢ iprop((iprop(Fly (F := F) c 10 ∗ blkP m ρ c 10 (orgS c 10) fullShare.right ∗ Owes (F := F) c (owed c 11)) -∗ ∀ r, Q r)
        -∗ WP c (k0_part18 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v445 v446 v447 v450) Q) := by
  rw [k0_part18_eq_skeleton]; unfold k0_part18_skel
  simp only [Prog.lift, Prog.bind_op, Prog.bind_ret, Prog.pure_eq_ret]
  iintro ⟨#HR, H1, H3, H4⟩ Hk
  ihave H2 := (Entails.of_eq (next_blk m ρ c 3 10 fullShare (by decide))) $$ H1
  iapply (fwd_chunk m ρ K c 10 rfl _ (dev10_eq c) (off27_eq c 1 3) _ _ (sem4_of 10 rfl (by decide)) (sem5_of 10 rfl (by decide))) $$ [H3 H2 H4]
  · isplitr; · iexact HR
    isplitl [H3]; · iexact H3
    isplitl [H2]; · iexact H2
    iexact H4
  iintro ⟨H5, H6, H7⟩
  rw [WP_ret]; imodintro
  ihave Hk := Hk $$ [H5 H6 H7]
  · isplitl [H5]; · iexact H5
    isplitl [H6]; · iexact H6
    iexact H7
  iapply Hk

end Cert.Softmax
-- ==== Proof.Stream1.lean ====
/-
# Writing the tiles of the first place received
-/
module

public import proofs.«01_k».proof.Proof.Hop0

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem trip3 (c : Dev nD) (v5 : BitVec 32) (v480 : BitVec 32) (c1 : BitVec 32) (c2 : BitVec 32) (k : Fin k0_t3_loop.trips) (u : Unit) :
    SI m ρ K c (og c 1) fullShare.right 11 k.val ⊢ WP c (k0_t3_body xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 (recip m ρ c) v480 c1 c2 k u) (fun _ => SI m ρ K c (og c 1) fullShare.right 11 (k.val + 1)) := by
  have hk : k.val < 6 := lt_of_lt_of_eq k.isLt trips3
  unfold k0_t3_body
  simp only [Prog.lift, Prog.bind_op, Prog.bind_ret, Prog.pure_eq_ret]
  unfold SI
  iintro ⟨#HR, HL, HS, HO⟩
  iapply (os_wait m ρ K c (o := (og c 1)) (k := k.val) (e := k.val + 2) (s := k.val % 2) (n := 11) (by omega) (by omega) rfl (k0_off30_eq k)) $$ [HS HO]
  · isplitr; · iexact HR
    isplitl [HS] <;> iassumption
  iintro ⟨HS, HG, HO⟩
  ihave HG := (GF_open c (k.val % 2)) $$ HG
  icases HG with ⟨HG, HV⟩
  iapply (lt_load m ρ c (o := (og c 1)) (j := k.val + 2) (by omega) (off33_eq c k)) $$ HL
  iintro HL
  iapply (load_gA c (t := k.val % 2) ((k0_off34_eq k).trans (by rw [Nat.add_mod_right]))) $$ HG
  iintro %v HG
  iapply (store_g m ρ c (s := k.val % 2) (t := 8 * (og c 1) + (k.val + 2)) ((k0_off34_eq k).trans (by rw [Nat.add_mod_right])) rfl) $$ HG
  iintro HG
  iapply (os_start m ρ c (o := (og c 1)) (k := k.val + 1) (e := k.val + 2) (s := k.val % 2) (og_lt c 1) (by omega) (by omega) (by omega)
    ((k0_off35_eq k).trans (by rw [Nat.add_mod_right])) ((k0_off37_eq k).trans (by rw [Nat.add_mod_right])) (off36_eq c k)) $$ [HS HG HV]
  · isplitl [HS]; · iexact HS
    isplitl [HG] <;> iassumption
  iintro HS
  rw [WP_ret]; imodintro
  isplitr; · iexact HR
  isplitl [HL]; · iexact HL
  isplitl [HS]; · iexact HS
  iexact HO

theorem run_part19 (c : Dev nD) (v480 : BitVec 32) (v481 : BitVec 32) (v482 : BitVec 32) (c0_i32_425 : BitVec 32) {Q : (Σ' (c1_i32_446 : BitVec 32), BitVec 32) → sProp 𝕄} :
    iprop(recs m ρ K ∗ LT m ρ c (og c 1) fullShare.right ∗ GF (F := F) c 0 ∗ OS m ρ c (og c 1) 0 0 ∗ GF (F := F) c 1)
      ⊢ iprop((iprop(OS m ρ c (og c 1) 0 1 ∗ LT m ρ c (og c 1) fullShare.right ∗ semVal ((c : Thread nD τ), .dma (oSem 1)) 0 ∗ gP m ρ c 1 (8 * (og c 1) + 1)) -∗ ∀ r, Q r)
        -∗ WP c (k0_part19 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c (recip m ρ c) v480 v481 v482 c0_i32_425) Q) := by
  rw [k0_part19_eq_skeleton]; unfold k0_part19_skel
  simp only [Prog.lift, Prog.bind_op, Prog.bind_ret, Prog.pure_eq_ret]
  iintro ⟨#HR, H1, H3, H8, H11⟩ Hk
  iapply (lt_load m ρ c (o := (og c 1)) (j := 0) (by decide) (off28_eq c 0 0)) $$ [H1]
  · iexact H1
  iintro H2
  ihave H3 := (GF_open c 0) $$ H3
  icases H3 with ⟨H4, H5⟩
  iapply (load_gA c (t := 0) (k0_off16_eq 0)) $$ [H4]
  · iexact H4
  iintro %v H6
  iapply (store_g m ρ c (s := 0) (t := 8 * (og c 1) + 0) (k0_off16_eq 0) rfl) $$ [H6]
  · iexact H6
  iintro H7
  iapply (os_start m ρ c (o := (og c 1)) (k := 0) (e := 0) (s := 0) (og_lt c 1) (by decide) (by decide) rfl (off1_eq 0) (off18_eq 0) (off29_eq c 0 0)) $$ [H8 H7 H5]
  · isplitl [H8]; · iexact H8
    isplitl [H7]; · iexact H7
    iexact H5
  iintro H9
  iapply (lt_load m ρ c (o := (og c 1)) (j := 1) (by decide) (off28_eq c 0 1)) $$ [H2]
  · iexact H2
  iintro H10
  ihave H11 := (GF_open c 1) $$ H11
  icases H11 with ⟨H12, H13⟩
  iapply (load_gA c (t := 1) (k0_off16_eq 1)) $$ [H12]
  · iexact H12
  iintro %v H14
  iapply (store_g m ρ c (s := 1) (t := 8 * (og c 1) + 1) (k0_off16_eq 1) rfl) $$ [H14]
  · iexact H14
  iintro H15
  rw [WP_ret]; imodintro
  ihave Hk := Hk $$ [H9 H10 H13 H15]
  · isplitl [H9]; · iexact H9
    isplitl [H10]; · iexact H10
    isplitl [H13]; · iexact H13
    iexact H15
  iapply Hk

theorem run_part20 (c : Dev nD) (v5 : BitVec 32) (v480 : BitVec 32) (c1_i32_446 : BitVec 32) (c2_i32_447 : BitVec 32) {Q : (BitVec 32) → sProp 𝕄} :
    iprop(recs m ρ K ∗ OS m ρ c (og c 1) 0 1 ∗ gP m ρ c 1 (8 * (og c 1) + 1) ∗ semVal ((c : Thread nD τ), .dma (oSem 1)) 0 ∗ LT m ρ c (og c 1) fullShare.right ∗ Owes (F := F) c (owed c 11))
      ⊢ iprop((iprop(LT m ρ c (og c 1) fullShare.right ∗ GF (F := F) c 0 ∗ OS m ρ c (og c 1) 8 8 ∗ GF (F := F) c 1 ∗ Owes (F := F) c (owed c 11)) -∗ ∀ r, Q r)
        -∗ WP c (k0_part20 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 (recip m ρ c) v480 c1_i32_446 c2_i32_447) Q) := by
  rw [k0_part20_eq_skeleton]; unfold k0_part20_skel
  simp only [Prog.lift, Prog.bind_op, Prog.bind_ret, Prog.pure_eq_ret]
  iintro ⟨#HR, H1, H2, H3, H5, H6⟩ Hk
  iapply (os_start m ρ c (o := (og c 1)) (k := 0) (e := 1) (s := 1) (og_lt c 1) (by decide) (by decide) rfl (off1_eq 1) (off18_eq 1) (off29_eq c 0 1)) $$ [H1 H2 H3]
  · isplitl [H1]; · iexact H1
    isplitl [H2]; · iexact H2
    iexact H3
  iintro H4
  iapply (WP_for c k0_t3_loop k0_t3_ok _ _ (fun k _ => SI m ρ K c (og c 1) fullShare.right 11 k) (fun k _ => trip3 m ρ K c v5 v480 c1_i32_446 c2_i32_447 k ⟨⟩)) $$ [H5 H4 H6]
  · unfold SI
    isplitr; · iexact HR
    isplitl [H5]; · iexact H5
    isplitl [H4] <;> iassumption
  iintro %u HI
  rw [trips3]
  unfold SI
  icases HI with ⟨-, H7, H8, H9⟩
  iapply (os_wait m ρ K c (o := (og c 1)) (k := 6) (e := 8) (s := 0) (n := 11) (by decide) (by decide) rfl (off1_eq 6)) $$ [H8 H9]
  · isplitr; · iexact HR
    isplitl [H8]; · iexact H8
    iexact H9
  iintro ⟨H10, H11, H12⟩
  iapply (os_wait m ρ K c (o := (og c 1)) (k := 7) (e := 8) (s := 1) (n := 11) (by decide) (by decide) rfl (off1_eq 7)) $$ [H10 H12]
  · isplitr; · iexact HR
    isplitl [H10]; · iexact H10
    iexact H12
  iintro ⟨H13, H14, H15⟩
  rw [WP_ret]; imodintro
  ihave Hk := Hk $$ [H7 H11 H13 H14 H15]
  · isplitl [H7]; · iexact H7
    isplitl [H11]; · iexact H11
    isplitl [H13]; · iexact H13
    isplitl [H14]; · iexact H14
    iexact H15
  iapply Hk

end Cert.Softmax
-- ==== Proof.Hop1.lean ====
/-
# The second hop
-/
module

public import proofs.«01_k».proof.Proof.Stream1

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem run_part21 (c : Dev nD) (v2 : BitVec 32) (v8 : BitVec 32) (v30 : BitVec 32) (v546 : BitVec 32) {Q : (BitVec 32) → sProp 𝕄} :
    iprop(recs m ρ K ∗ Fly (F := F) c 7 ∗ Owes (F := F) c (owed c 11))
      ⊢ iprop((iprop(blkP m ρ c 7 (orgS c 7) fullShare.left ∗ Done (F := F) c 7 ∗ blkP m ρ c 7 (orgR c 7) fullShare ∗ Owes (F := F) c (owed c 11)) -∗ ∀ r, Q r)
        -∗ WP c (k0_part21 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v8 v30 v546) Q) := by
  rw [k0_part21_eq_skeleton]; unfold k0_part21_skel
  simp only [Prog.lift, Prog.bind_op, Prog.bind_ret, Prog.pure_eq_ret]
  iintro ⟨#HR, H1, H2⟩ Hk
  iapply (wait_s m ρ K c 7 (n := 11) _ (sem4_of 7 rfl (by decide)) (credit_two 7 rfl)) $$ [H1 H2]
  · isplitr; · iexact HR
    isplitl [H1]; · iexact H1
    iexact H2
  iintro ⟨H3, H4, H5⟩
  iapply (wait_r m ρ K c 7 (n := 11) (by decide) _ (sem5_of 7 rfl (by decide)) (credit_two 7 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part22 (c : Dev nD) (v2 : BitVec 32) (v5 : BitVec 32) (v8 : BitVec 32) (v30 : BitVec 32) (c2_i32_505 : BitVec 32) {Q : (Σ' (v602 : BitVec 32) (v603 : BitVec 32) (v604 : BitVec 1), BitVec 1) → sProp 𝕄} :
    iprop(recs m ρ K ∗ blkP m ρ c 7 (orgR c 7) fullShare ∗ Pend (F := F) c 11 ∗ Owes (F := F) c (owed c 11))
      ⊢ iprop((iprop(Fly (F := F) c 11 ∗ blkP m ρ c 11 (orgS c 11) fullShare.right ∗ Owes (F := F) c (owed c 12)) -∗ ∀ r, Q r)
        -∗ WP c (k0_part22 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 c2_i32_505) Q) := by
  rw [k0_part22_eq_skeleton]; unfold k0_part22_skel
  simp only [Prog.lift, Prog.bind_op, Prog.bind_ret, Prog.pure_eq_ret]
  iintro ⟨#HR, H1, H3, H4⟩ Hk
  ihave H2 := (Entails.of_eq (next_blk m ρ c 7 11 fullShare (by decide))) $$ H1
  iapply (fwd_chunk m ρ K c 11 rfl _ (dev11_eq c) (off27_eq c 2 0) _ _ (sem4_of 11 rfl (by decide)) (sem5_of 11 rfl (by decide))) $$ [H3 H2 H4]
  · isplitr; · iexact HR
    isplitl [H3]; · iexact H3
    isplitl [H2]; · iexact H2
    iexact H4
  iintro ⟨H5, H6, H7⟩
  rw [WP_ret]; imodintro
  ihave Hk := Hk $$ [H5 H6 H7]
  · isplitl [H5]; · iexact H5
    isplitl [H6]; · iexact H6
    iexact H7
  iapply Hk

theorem run_part23 (c : Dev nD) (v2 : BitVec 32) (v5 : BitVec 32) (v8 : BitVec 32) (v30 : BitVec 32) (v602 : BitVec 32) (v603 : BitVec 32) (v604 : BitVec 1) (v605 : BitVec 1) {Q : (Σ' (v630 : BitVec 32) (v631 : BitVec 32) (v632 : BitVec 1), BitVec 32) → sProp 𝕄} :
    iprop(recs m ρ K ∗ Fly (F := F) c 8 ∗ Owes (F := F) c (owed c 12))
      ⊢ iprop((iprop(blkP m ρ c 8 (orgS c 8) fullShare.left ∗ Done (F := F) c 8 ∗ blkP m ρ c 8 (orgR c 8) fullShare ∗ Owes (F := F) c (owed c 12)) -∗ ∀ r, Q r)
        -∗ WP c (k0_part23 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v602 v603 v604 v605) Q) := by
  rw [k0_part23_eq_skeleton]; unfold k0_part23_skel
  simp only [Prog.lift, Prog.bind_op, Prog.bind_ret, Prog.pure_eq_ret]
  iintro ⟨#HR, H1, H2⟩ Hk
  iapply (wait_s m ρ K c 8 (n := 12) _ (sem4_of 8 rfl (by decide)) (credit_two 8 rfl)) $$ [H1 H2]
  · isplitr; · iexact HR
    isplitl [H1]; · iexact H1
    iexact H2
  iintro ⟨H3, H4, H5⟩
  iapply (wait_r m ρ K c 8 (n := 12) (by decide) _ (sem5_of 8 rfl (by decide)) (credit_two 8 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part24 (c : Dev nD) (v2 : BitVec 32) (v5 : BitVec 32) (v8 : BitVec 32) (v30 : BitVec 32) (v630 : BitVec 32) (v631 : BitVec 32) (v632 : BitVec 1) (c0_i32_563 : BitVec 32) {Q : (BitVec 32) → sProp 𝕄} :
    iprop(recs m ρ K ∗ blkP m ρ c 8 (orgR c 8) fullShare ∗ Pend (F := F) c 12 ∗ Owes (F := F) c (owed c 12))
      ⊢ iprop((iprop(Fly (F := F) c 12 ∗ blkP m ρ c 12 (orgS c 12) fullShare.right ∗ Owes (F := F) c (owed c 13)) -∗ ∀ r, Q r)
        -∗ WP c (k0_part24 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v630 v631 v632 c0_i32_563) Q) := by
  rw [k0_part24_eq_skeleton]; unfold k0_part24_skel
  simp only [Prog.lift, Prog.bind_op, Prog.bind_ret, Prog.pure_eq_ret]
  iintro ⟨#HR, H1, H3, H4⟩ Hk
  ihave H2 := (Entails.of_eq (next_blk m ρ c 8 12 fullShare (by decide))) $$ H1
  iapply (fwd_chunk m ρ K c 12 rfl _ (dev12_eq c) (off27_eq c 2 1) _ _ (sem4_of 12 rfl (by decide)) (sem5_of 12 rfl (by decide))) $$ [H3 H2 H4]
  · isplitr; · iexact HR
    isplitl [H3]; · iexact H3
    isplitl [H2]; · iexact H2
    iexact H4
  iintro ⟨H5, H6, H7⟩
  rw [WP_ret]; imodintro
  ihave Hk := Hk $$ [H5 H6 H7]
  · isplitl [H5]; · iexact H5
    isplitl [H6]; · iexact H6
    iexact H7
  iapply Hk

theorem run_part25 (c : Dev nD) (v2 : BitVec 32) (v5 : BitVec 32) (v8 : BitVec 32) (v30 : BitVec 32) (v665 : BitVec 32) {Q : (Σ' (v693 : BitVec 32), BitVec 32) → sProp 𝕄} :
    iprop(recs m ρ K ∗ Fly (F := F) c 9 ∗ Owes (F := F) c (owed c 13))
      ⊢ iprop((iprop(blkP m ρ c 9 (orgS c 9) fullShare.left ∗ Done (F := F) c 9 ∗ blkP m ρ c 9 (orgR c 9) fullShare ∗ Owes (F := F) c (owed c 13)) -∗ ∀ r, Q r)
        -∗ WP c (k0_part25 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v665) Q) := by
  rw [k0_part25_eq_skeleton]; unfold k0_part25_skel
  simp only [Prog.lift, Prog.bind_op, Prog.bind_ret, Prog.pure_eq_ret]
  iintro ⟨#HR, H1, H2⟩ Hk
  iapply (wait_s m ρ K c 9 (n := 13) _ (sem4_of 9 rfl (by decide)) (credit_two 9 rfl)) $$ [H1 H2]
  · isplitr; · iexact HR
    isplitl [H1]; · iexact H1
    iexact H2
  iintro ⟨H3, H4, H5⟩
  iapply (wait_r m ρ K c 9 (n := 13) (by decide) _ (sem5_of 9 rfl (by decide)) (credit_two 9 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part26 (c : Dev nD) (v2 : BitVec 32) (v5 : BitVec 32) (v8 : BitVec 32) (v30 : BitVec 32) (v693 : BitVec 32) (c4_i32_619 : BitVec 32) {Q : (PUnit) → sProp 𝕄} :
    iprop(recs m ρ K ∗ blkP m ρ c 9 (orgR c 9) fullShare ∗ Pend (F := F) c 13 ∗ Owes (F := F) c (owed c 13))
      ⊢ iprop((iprop(Fly (F := F) c 13 ∗ blkP m ρ c 13 (orgS c 13) fullShare.right ∗ Owes (F := F) c (owed c 14)) -∗ ∀ r, Q r)
        -∗ WP c (k0_part26 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v693 c4_i32_619) Q) := by
  rw [k0_part26_eq_skeleton]; unfold k0_part26_skel
  simp only [Prog.lift, Prog.bind_op, Prog.bind_ret, Prog.pure_eq_ret]
  iintro ⟨#HR, H1, H3, H4⟩ Hk
  ihave H2 := (Entails.of_eq (next_blk m ρ c 9 13 fullShare (by decide))) $$ H1
  iapply (fwd_chunk m ρ K c 13 rfl _ (dev13_eq c) (off27_eq c 2 2) _ _ (sem4_of 13 rfl (by decide)) (sem5_of 13 rfl (by decide))) $$ [H3 H2 H4]
  · isplitr; · iexact HR
    isplitl [H3]; · iexact H3
    isplitl [H2]; · iexact H2
    iexact H4
  iintro ⟨H5, H6, H7⟩
  rw [WP_ret]; imodintro
  ihave Hk := Hk $$ [H5 H6 H7]
  · isplitl [H5]; · iexact H5
    isplitl [H6]; · iexact H6
    iexact H7
  iapply Hk

theorem run_part27 (c : Dev nD) (v2 : BitVec 32) (v5 : BitVec 32) (v8 : BitVec 32) (v30 : BitVec 32) {Q : (Σ' (v750 : BitVec 32), BitVec 32) → sProp 𝕄} :
    iprop(recs m ρ K ∗ Fly (F := F) c 10 ∗ Owes (F := F) c (owed c 14))
      ⊢ iprop((iprop(blkP m ρ c 10 (orgS c 10) fullShare.left ∗ Done (F := F) c 10 ∗ blkP m ρ c 10 (orgR c 10) fullShare ∗ Owes (F := F) c (owed c 14)) -∗ ∀ r, Q r)
        -∗ WP c (k0_part27 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30) Q) := by
  rw [k0_part27_eq_skeleton]; unfold k0_part27_skel
  simp only [Prog.lift, Prog.bind_op, Prog.bind_ret, Prog.pure_eq_ret]
  iintro ⟨#HR, H1, H2⟩ Hk
  iapply (wait_s m ρ K c 10 (n := 14) _ (sem4_of 10 rfl (by decide)) (credit_two 10 rfl)) $$ [H1 H2]
  · isplitr; · iexact HR
    isplitl [H1]; · iexact H1
    iexact H2
  iintro ⟨H3, H4, H5⟩
  iapply (wait_r m ρ K c 10 (n := 14) (by decide) _ (sem5_of 10 rfl (by decide)) (credit_two 10 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

end Cert.Softmax
-- ==== Proof.Stream2.lean ====
/-
# Writing the tiles of the second place received
-/
module

public import proofs.«01_k».proof.Proof.Hop1

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem trip4 (c : Dev nD) (v5 : BitVec 32) (v773 : BitVec 32) (k : Fin k0_t4_loop.trips) (u : Unit) :
    SI m ρ K c (og c 2) fullShare.right 15 k.val ⊢ WP c (k0_t4_body xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 (recip m ρ c) v773 k u) (fun _ => SI m ρ K c (og c 2) fullShare.right 15 (k.val + 1)) := by
  have hk : k.val < 6 := lt_of_lt_of_eq k.isLt trips4
  unfold k0_t4_body
  simp only [Prog.lift, Prog.bind_op, Prog.bind_ret, Prog.pure_eq_ret]
  unfold SI
  iintro ⟨#HR, HL, HS, HO⟩
  iapply (os_wait m ρ K c (o := (og c 2)) (k := k.val) (e := k.val + 2) (s := k.val % 2) (n := 15) (by omega) (by omega) rfl (k0_off38_eq k)) $$ [HS HO]
  · isplitr; · iexact HR
    isplitl [HS] <;> iassumption
  iintro ⟨HS, HG, HO⟩
  ihave HG := (GF_open c (k.val % 2)) $$ HG
  icases HG with ⟨HG, HV⟩
  iapply (lt_load m ρ c (o := (og c 2)) (j := k.val + 2) (by omega) (off41_eq c k)) $$ HL
  iintro HL
  iapply (load_gA c (t := k.val % 2) ((k0_off42_eq k).trans (by rw [Nat.add_mod_right]))) $$ HG
  iintro %v HG
  iapply (store_g m ρ c (s := k.val % 2) (t := 8 * (og c 2) + (k.val + 2)) ((k0_off42_eq k).trans (by rw [Nat.add_mod_right])) rfl) $$ HG
  iintro HG
  iapply (os_start m ρ c (o := (og c 2)) (k := k.val + 1) (e := k.val + 2) (s := k.val % 2) (og_lt c 2) (by omega) (by omega) (by omega)
    ((k0_off43_eq k).trans (by rw [Nat.add_mod_right])) ((k0_off45_eq k).trans (by rw [Nat.add_mod_right])) (off44_eq c k)) $$ [HS HG HV]
  · isplitl [HS]; · iexact HS
    isplitl [HG] <;> iassumption
  iintro HS
  rw [WP_ret]; imodintro
  isplitr; · iexact HR
  isplitl [HL]; · iexact HL
  isplitl [HS]; · iexact HS
  iexact HO

/-- Before the last block of the second hop leaves, the right halves of the others are here. -/
theorem lt_second (c : Dev nD) :
    iprop(blkP m ρ c 11 (orgS c 11) fullShare.right ∗ blkP m ρ c 12 (orgS c 12) fullShare.right ∗ blkP m ρ c 13 (orgS c 13) fullShare.right ∗ blkP m ρ c 14 (orgS c 14) fullShare.right)
      ⊢ LT m ρ c (og c 2) fullShare.right := by
  rw [orgS_eq, orgS_eq, orgS_eq, orgS_eq]
  exact (LT_blocks m ρ c (og c 2) fullShare.right 11 12 13 14 (by decide)).2

theorem run_part28 (c : Dev nD) (v5 : BitVec 32) (v8 : BitVec 32) (v30 : BitVec 32) (v750 : BitVec 32) (c0_i32_679 : BitVec 32) {Q : (Σ' (v773 : BitVec 32), FVec F S1x512x1024 .f32) → sProp 𝕄} :
    iprop(recs m ρ K ∗ blkP m ρ c 10 (orgR c 10) fullShare ∗ Pend (F := F) c 14 ∗ Owes (F := F) c (owed c 14) ∗ blkP m ρ c 11 (orgS c 11) fullShare.right ∗ blkP m ρ c 12 (orgS c 12) fullShare.right ∗ blkP m ρ c 13 (orgS c 13) fullShare.right ∗ GF (F := F) c 0)
      ⊢ iprop((iprop(Fly (F := F) c 14 ∗ Owes (F := F) c (owed c 15) ∗ LT m ρ c (og c 2) fullShare.right ∗ semVal ((c : Thread nD τ), .dma (oSem 0)) 0 ∗ gA (F := F) c 0) -∗ ∀ a, Q ⟨a, k0_pay16 (recip m ρ c) (lT m ρ c (8 * og c 2 + 0))⟩)
        -∗ WP c (k0_part28 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 v8 v30 (recip m ρ c) v750 c0_i32_679) Q) := by
  rw [k0_part28_eq_skeleton]; unfold k0_part28_skel
  simp only [Prog.lift, Prog.bind_op, Prog.bind_ret, Prog.pure_eq_ret]
  iintro ⟨#HR, H1, H3, H4, H8, H9, H10, H13⟩ Hk
  ihave H2 := (Entails.of_eq (next_blk m ρ c 10 14 fullShare (by decide))) $$ H1
  iapply (fwd_chunk m ρ K c 14 rfl _ (dev14_eq c) (off27_eq c 2 3) _ _ (sem4_of 14 rfl (by decide)) (sem5_of 14 rfl (by decide))) $$ [H3 H2 H4]
  · isplitr; · iexact HR
    isplitl [H3]; · iexact H3
    isplitl [H2]; · iexact H2
    iexact H4
  iintro ⟨H5, H6, H7⟩
  ihave H11 := (lt_second m ρ c) $$ [H8 H9 H10 H6]
  · isplitl [H8]; · iexact H8
    isplitl [H9]; · iexact H9
    isplitl [H10] <;> iassumption
  iapply (lt_load m ρ c (o := (og c 2)) (j := 0) (by decide) (off28_eq c 1 0)) $$ [H11]
  · iexact H11
  iintro H12
  ihave H13 := (GF_open c 0) $$ H13
  icases H13 with ⟨H14, H15⟩
  iapply (load_gA c (t := 0) (k0_off16_eq 0)) $$ [H14]
  · iexact H14
  iintro %v H16
  rw [WP_ret]; imodintro
  ihave Hk := Hk $$ [H5 H7 H12 H15 H16]
  · isplitl [H5]; · iexact H5
    isplitl [H7]; · iexact H7
    isplitl [H12]; · iexact H12
    isplitl [H15]; · iexact H15
    iexact H16
  iapply Hk

theorem run_part29 (c : Dev nD) (v773 : BitVec 32) {Q : (PUnit) → sProp 𝕄} :
    iprop(recs m ρ K ∗ gA (F := F) c 0 ∗ OS m ρ c (og c 2) 0 0 ∗ semVal ((c : Thread nD τ), .dma (oSem 0)) 0 ∗ LT m ρ c (og c 2) fullShare.right ∗ GF (F := F) c 1)
      ⊢ iprop((iprop(LT m ρ c (og c 2) fullShare.right ∗ OS m ρ c (og c 2) 0 2) -∗ ∀ r, Q r)
        -∗ WP c (k0_part29 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c (recip m ρ c) v773 (k0_pay16 (recip m ρ c) (lT m ρ c (8 * og c 2 + 0)))) Q) := by
  rw [k0_part29_eq_skeleton]; unfold k0_part29_skel
  simp only [Prog.lift, Prog.bind_op, Prog.bind_ret, Prog.pure_eq_ret]
  iintro ⟨#HR, H1, H3, H4, H6, H8⟩ Hk
  iapply (store_g m ρ c (s := 0) (t := 8 * (og c 2) + 0) (k0_off16_eq 0) rfl) $$ [H1]
  · iexact H1
  iintro H2
  iapply (os_start m ρ c (o := (og c 2)) (k := 0) (e := 0) (s := 0) (og_lt c 2) (by decide) (by decide) rfl (off1_eq 0) (off18_eq 0) (off29_eq c 1 0)) $$ [H3 H2 H4]
  · isplitl [H3]; · iexact H3
    isplitl [H2]; · iexact H2
    iexact H4
  iintro H5
  iapply (lt_load m ρ c (o := (og c 2)) (j := 1) (by decide) (off28_eq c 1 1)) $$ [H6]
  · iexact H6
  iintro H7
  ihave H8 := (GF_open c 1) $$ H8
  icases H8 with ⟨H9, H10⟩
  iapply (load_gA c (t := 1) (k0_off16_eq 1)) $$ [H9]
  · iexact H9
  iintro %v H11
  iapply (store_g m ρ c (s := 1) (t := 8 * (og c 2) + 1) (k0_off16_eq 1) rfl) $$ [H11]
  · iexact H11
  iintro H12
  iapply (os_start m ρ c (o := (og c 2)) (k := 0) (e := 1) (s := 1) (og_lt c 2) (by decide) (by decide) rfl (off1_eq 1) (off18_eq 1) (off29_eq c 1 1)) $$ [H5 H12 H10]
  · isplitl [H5]; · iexact H5
    isplitl [H12]; · iexact H12
    iexact H10
  iintro H13
  rw [WP_ret]; imodintro
  ihave Hk := Hk $$ [H7 H13]
  · isplitl [H7]; · iexact H7
    iexact H13
  iapply Hk

theorem run_part30 (c : Dev nD) (v5 : BitVec 32) (v773 : BitVec 32) {Q : (BitVec 32) → sProp 𝕄} :
    iprop(recs m ρ K ∗ LT m ρ c (og c 2) fullShare.right ∗ OS m ρ c (og c 2) 0 2 ∗ Owes (F := F) c (owed c 15))
      ⊢ iprop((iprop(LT m ρ c (og c 2) fullShare.right ∗ GF (F := F) c 0 ∗ OS m ρ c (og c 2) 8 8 ∗ GF (F := F) c 1 ∗ Owes (F := F) c (owed c 15)) -∗ ∀ r, Q r)
        -∗ WP c (k0_part30 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v5 (recip m ρ c) v773) Q) := by
  rw [k0_part30_eq_skeleton]; unfold k0_part30_skel
  simp only [Prog.lift, Prog.bind_op, Prog.bind_ret, Prog.pure_eq_ret]
  iintro ⟨#HR, H1, H2, H3⟩ Hk
  iapply (WP_for c k0_t4_loop k0_t4_ok _ _ (fun k _ => SI m ρ K c (og c 2) fullShare.right 15 k) (fun k _ => trip4 m ρ K c v5 v773 k ⟨⟩)) $$ [H1 H2 H3]
  · unfold SI
    isplitr; · iexact HR
    isplitl [H1]; · iexact H1
    isplitl [H2] <;> iassumption
  iintro %u HI
  rw [trips4]
  unfold SI
  icases HI with ⟨-, H4, H5, H6⟩
  iapply (os_wait m ρ K c (o := (og c 2)) (k := 6) (e := 8) (s := 0) (n := 15) (by decide) (by decide) rfl (off1_eq 6)) $$ [H5 H6]
  · isplitr; · iexact HR
    isplitl [H5]; · iexact H5
    iexact H6
  iintro ⟨H7, H8, H9⟩
  iapply (os_wait m ρ K c (o := (og c 2)) (k := 7) (e := 8) (s := 1) (n := 15) (by decide) (by decide) rfl (off1_eq 7)) $$ [H7 H9]
  · isplitr; · iexact HR
    isplitl [H7]; · iexact H7
    iexact H9
  iintro ⟨H10, H11, H12⟩
  rw [WP_ret]; imodintro
  ihave Hk := Hk $$ [H4 H8 H10 H11 H12]
  · isplitl [H4]; · iexact H4
    isplitl [H8]; · iexact H8
    isplitl [H10]; · iexact H10
    isplitl [H11]; · iexact H11
    iexact H12
  iapply Hk

end Cert.Softmax
-- ==== Proof.Hop2.lean ====
/-
# The third hop
-/
module

public import proofs.«01_k».proof.Proof.Stream2

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem run_part31 (c : Dev nD) (v2 : BitVec 32) (v5 : BitVec 32) (v8 : BitVec 32) (v30 : BitVec 32) (v849 : BitVec 32) {Q : (Σ' (v870 : BitVec 32) (v875 : BitVec 1), BitVec 32) → sProp 𝕄} :
    iprop(recs m ρ K ∗ Fly (F := F) c 11 ∗ Owes (F := F) c (owed c 15))
      ⊢ iprop((iprop(blkP m ρ c 11 (orgS c 11) fullShare.left ∗ Done (F := F) c 11 ∗ blkP m ρ c 11 (orgR c 11) fullShare ∗ Owes (F := F) c (owed c 15)) -∗ ∀ r, Q r)
        -∗ WP c (k0_part31 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v849) Q) := by
  rw [k0_part31_eq_skeleton]; unfold k0_part31_skel
  simp only [Prog.lift, Prog.bind_op, Prog.bind_ret, Prog.pure_eq_ret]
  iintro ⟨#HR, H1, H2⟩ Hk
  iapply (wait_s m ρ K c 11 (n := 15) _ (sem4_of 11 rfl (by decide)) (credit_two 11 rfl)) $$ [H1 H2]
  · isplitr; · iexact HR
    isplitl [H1]; · iexact H1
    iexact H2
  iintro ⟨H3, H4, H5⟩
  iapply (wait_r m ρ K c 11 (n := 15) (by decide) _ (sem5_of 11 rfl (by decide)) (credit_two 11 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part32 (c : Dev nD) (v2 : BitVec 32) (v5 : BitVec 32) (v8 : BitVec 32) (v30 : BitVec 32) (v870 : BitVec 32) (v875 : BitVec 1) (v876 : BitVec 32) {Q : (Σ' (v897 : BitVec 32) (v898 : BitVec 32), BitVec 1) → sProp 𝕄} :
    iprop(recs m ρ K ∗ Fly (F := F) c 12 ∗ Owes (F := F) c (owed c 15))
      ⊢ iprop((iprop(blkP m ρ c 12 (orgS c 12) fullShare.left ∗ Done (F := F) c 12 ∗ blkP m ρ c 12 (orgR c 12) fullShare ∗ Owes (F := F) c (owed c 15)) -∗ ∀ r, Q r)
        -∗ WP c (k0_part32 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v870 v875 v876) Q) := by
  rw [k0_part32_eq_skeleton]; unfold k0_part32_skel
  simp only [Prog.lift, Prog.bind_op, Prog.bind_ret, Prog.pure_eq_ret]
  iintro ⟨#HR, H1, H2⟩ Hk
  iapply (wait_s m ρ K c 12 (n := 15) _ (sem4_of 12 rfl (by decide)) (credit_two 12 rfl)) $$ [H1 H2]
  · isplitr; · iexact HR
    isplitl [H1]; · iexact H1
    iexact H2
  iintro ⟨H3, H4, H5⟩
  iapply (wait_r m ρ K c 12 (n := 15) (by decide) _ (sem5_of 12 rfl (by decide)) (credit_two 12 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part33 (c : Dev nD) (v2 : BitVec 32) (v5 : BitVec 32) (v8 : BitVec 32) (v30 : BitVec 32) (v897 : BitVec 32) (v898 : BitVec 32) (v903 : BitVec 1) {Q : (Σ' (v925 : BitVec 32) (v926 : BitVec 32) (v927 : BitVec 1), BitVec 1) → sProp 𝕄} :
    iprop(recs m ρ K ∗ Fly (F := F) c 13 ∗ Owes (F := F) c (owed c 15))
      ⊢ iprop((iprop(blkP m ρ c 13 (orgS c 13) fullShare.left ∗ Done (F := F) c 13 ∗ blkP m ρ c 13 (orgR c 13) fullShare ∗ Owes (F := F) c (owed c 15)) -∗ ∀ r, Q r)
        -∗ WP c (k0_part33 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v897 v898 v903) Q) := by
  rw [k0_part33_eq_skeleton]; unfold k0_part33_skel
  simp only [Prog.lift, Prog.bind_op, Prog.bind_ret, Prog.pure_eq_ret]
  iintro ⟨#HR, H1, H2⟩ Hk
  iapply (wait_s m ρ K c 13 (n := 15) _ (sem4_of 13 rfl (by decide)) (credit_two 13 rfl)) $$ [H1 H2]
  · isplitr; · iexact HR
    isplitl [H1]; · iexact H1
    iexact H2
  iintro ⟨H3, H4, H5⟩
  iapply (wait_r m ρ K c 13 (n := 15) (by decide) _ (sem5_of 13 rfl (by decide)) (credit_two 13 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

theorem run_part34 (c : Dev nD) (v2 : BitVec 32) (v5 : BitVec 32) (v8 : BitVec 32) (v30 : BitVec 32) (v925 : BitVec 32) (v926 : BitVec 32) (v927 : BitVec 1) (v930 : BitVec 1) {Q : (Σ' (v954 : BitVec 32) (v955 : BitVec 32) (v956 : BitVec 1), BitVec 1) → sProp 𝕄} :
    iprop(recs m ρ K ∗ Fly (F := F) c 14 ∗ Owes (F := F) c (owed c 15))
      ⊢ iprop((iprop(blkP m ρ c 14 (orgS c 14) fullShare.left ∗ Done (F := F) c 14 ∗ blkP m ρ c 14 (orgR c 14) fullShare ∗ Owes (F := F) c (owed c 15)) -∗ ∀ r, Q r)
        -∗ WP c (k0_part34 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c v2 v5 v8 v30 v925 v926 v927 v930) Q) := by
  rw [k0_part34_eq_skeleton]; unfold k0_part34_skel
  simp only [Prog.lift, Prog.bind_op, Prog.bind_ret, Prog.pure_eq_ret]
  iintro ⟨#HR, H1, H2⟩ Hk
  iapply (wait_s m ρ K c 14 (n := 15) _ (sem4_of 14 rfl (by decide)) (credit_two 14 rfl)) $$ [H1 H2]
  · isplitr; · iexact HR
    isplitl [H1]; · iexact H1
    iexact H2
  iintro ⟨H3, H4, H5⟩
  iapply (wait_r m ρ K c 14 (n := 15) (by decide) _ (sem5_of 14 rfl (by decide)) (credit_two 14 rfl)) $$ [H3 H5]
  · isplitr; · iexact HR
    isplitl [H3]; · iexact H3
    iexact H5
  iintro ⟨H6, H7, H8⟩
  rw [WP_ret]; imodintro
  ihave Hk := Hk $$ [H4 H6 H7 H8]
  · isplitl [H4]; · iexact H4
    isplitl [H6]; · iexact H6
    isplitl [H7]; · iexact H7
    iexact H8
  iapply Hk

end Cert.Softmax
-- ==== Proof.Stream3.lean ====
/-
# Writing the tiles of the last place received
-/
module

public import proofs.«01_k».proof.Proof.Hop2

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem trip5 (c : Dev nD) (v962 : BitVec 32) (v986 : BitVec 32) (v992 : FVec F S512x1024 .f32) (k : Fin k0_t5_loop.trips) (u : Unit) :
    SI m ρ K c (og c 3) fullShare 15 k.val ⊢ WP c (k0_t5_body xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c (recip m ρ c) v962 v986 v992 k u) (fun _ => SI m ρ K c (og c 3) fullShare 15 (k.val + 1)) := by
  have hk : k.val < 6 := lt_of_lt_of_eq k.isLt trips5
  unfold k0_t5_body
  simp only [Prog.lift, Prog.bind_op, Prog.bind_ret, Prog.pure_eq_ret]
  unfold SI
  iintro ⟨#HR, HL, HS, HO⟩
  iapply (os_wait m ρ K c (o := (og c 3)) (k := k.val) (e := k.val + 2) (s := k.val % 2) (n := 15) (by omega) (by omega) rfl (k0_off46_eq k)) $$ [HS HO]
  · isplitr; · iexact HR
    isplitl [HS] <;> iassumption
  iintro ⟨HS, HG, HO⟩
  ihave HG := (GF_open c (k.val % 2)) $$ HG
  icases HG with ⟨HG, HV⟩
  iapply (lt_load m ρ c (o := (og c 3)) (j := k.val + 2) (by omega) (off49_eq c k)) $$ HL
  iintro HL
  iapply (load_gA c (t := k.val % 2) ((k0_off50_eq k).trans (by rw [Nat.add_mod_right]))) $$ HG
  iintro %v HG
  iapply (store_g m ρ c (s := k.val % 2) (t := 8 * (og c 3) + (k.val + 2)) ((k0_off50_eq k).trans (by rw [Nat.add_mod_right])) rfl) $$ HG
  iintro HG
  iapply (os_start m ρ c (o := (og c 3)) (k := k.val + 1) (e := k.val + 2) (s := k.val % 2) (og_lt c 3) (by omega) (by omega) (by omega)
    ((k0_off51_eq k).trans (by rw [Nat.add_mod_right])) ((k0_off53_eq k).trans (by rw [Nat.add_mod_right])) (off52_eq c k)) $$ [HS HG HV]
  · isplitl [HS]; · iexact HS
    isplitl [HG] <;> iassumption
  iintro HS
  rw [WP_ret]; imodintro
  isplitr; · iexact HR
  isplitl [HL]; · iexact HL
  isplitl [HS]; · iexact HS
  iexact HO

theorem run_part35 (c : Dev nD) (v954 : BitVec 32) (v955 : BitVec 32) (v956 : BitVec 1) (v957 : BitVec 1) {Q : (Σ' (v962 : BitVec 32) (v986 : BitVec 32), FVec F S512x1024 .f32) → sProp 𝕄} :
    iprop(recs m ρ K ∗ LT m ρ c (og c 3) fullShare ∗ GF (F := F) c 0 ∗ OS m ρ c (og c 3) 0 0)
      ⊢ iprop((iprop(OS m ρ c (og c 3) 0 1 ∗ LT m ρ c (og c 3) fullShare) -∗ ∀ a b, Q ⟨a, b, k0_pay20 (lT m ρ c (8 * og c 3 + 1))⟩)
        -∗ WP c (k0_part35 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c (recip m ρ c) v954 v955 v956 v957) Q) := by
  rw [k0_part35_eq_skeleton]; unfold k0_part35_skel
  simp only [Prog.lift, Prog.bind_op, Prog.bind_ret, Prog.pure_eq_ret]
  iintro ⟨#HR, H1, H3, H8⟩ Hk
  iapply (lt_load m ρ c (o := (og c 3)) (j := 0) (by decide) (off28_eq c 2 0)) $$ [H1]
  · iexact H1
  iintro H2
  ihave H3 := (GF_open c 0) $$ H3
  icases H3 with ⟨H4, H5⟩
  iapply (load_gA c (t := 0) (k0_off16_eq 0)) $$ [H4]
  · iexact H4
  iintro %v H6
  iapply (store_g m ρ c (s := 0) (t := 8 * (og c 3) + 0) (k0_off16_eq 0) rfl) $$ [H6]
  · iexact H6
  iintro H7
  iapply (os_start m ρ c (o := (og c 3)) (k := 0) (e := 0) (s := 0) (og_lt c 3) (by decide) (by decide) rfl (off1_eq 0) (off18_eq 0) (off29_eq c 2 0)) $$ [H8 H7 H5]
  · isplitl [H8]; · iexact H8
    isplitl [H7]; · iexact H7
    iexact H5
  iintro H9
  iapply (lt_load m ρ c (o := (og c 3)) (j := 1) (by decide) (off28_eq c 2 1)) $$ [H2]
  · iexact H2
  iintro H10
  rw [WP_ret]; imodintro
  ihave Hk := Hk $$ [H9 H10]
  · isplitl [H9]; · iexact H9
    iexact H10
  iapply Hk

theorem run_part36 (c : Dev nD) (v962 : BitVec 32) (v986 : BitVec 32) {Q : (Σ' (v1021 : BitVec 32), BitVec 32) → sProp 𝕄} :
    iprop(recs m ρ K ∗ GF (F := F) c 1 ∗ OS m ρ c (og c 3) 0 1 ∗ LT m ρ c (og c 3) fullShare ∗ Owes (F := F) c (owed c 15))
      ⊢ iprop((iprop(LT m ρ c (og c 3) fullShare ∗ OS m ρ c (og c 3) 7 8 ∗ GF (F := F) c 0 ∗ Owes (F := F) c (owed c 15)) -∗ ∀ r, Q r)
        -∗ WP c (k0_part36 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9 c (recip m ρ c) v962 v986 (k0_pay20 (lT m ρ c (8 * og c 3 + 1)))) Q) := by
  rw [k0_part36_eq_skeleton]; unfold k0_part36_skel
  simp only [Prog.lift, Prog.bind_op, Prog.bind_ret, Prog.pure_eq_ret]
  iintro ⟨#HR, H1, H6, H8, H9⟩ Hk
  ihave H1 := (GF_open c 1) $$ H1
  icases H1 with ⟨H2, H3⟩
  iapply (load_gA c (t := 1) (k0_off16_eq 1)) $$ [H2]
  · iexact H2
  iintro %v H4
  iapply (store_g m ρ c (s := 1) (t := 8 * (og c 3) + 1) (k0_off16_eq 1) rfl) $$ [H4]
  · iexact H4
  iintro H5
  iapply (os_start m ρ c (o := (og c 3)) (k := 0) (e := 1) (s := 1) (og_lt c 3) (by decide) (by decide) rfl (off1_eq 1) (off18_eq 1) (off29_eq c 2 1)) $$ [H6 H5 H3]
  · isplitl [H6]; · iexact H6
    isplitl [H5]; · iexact H5
    iexact H3
  iintro H7
  iapply (WP_for c k0_t5_loop k0_t5_ok _ _ (fun k _ => SI m ρ K c (og c 3) fullShare 15 k) (fun k _ => trip5 m ρ K c v962 v986 (k0_pay20 (lT m ρ c (8 * og c 3 + 1))) k ⟨⟩)) $$ [H8 H7 H9]
  · unfold SI
    isplitr; · iexact HR
    isplitl [H8]; · iexact H8
    isplitl [H7] <;> iassumption
  iintro %u HI
  rw [trips5]
  unfold SI
  icases HI with ⟨-, H10, H11, H12⟩
  iapply (os_wait m ρ K c (o := (og c 3)) (k := 6) (e := 8) (s := 0) (n := 15) (by decide) (by decide) rfl (off1_eq 6)) $$ [H11 H12]
  · isplitr; · iexact HR
    isplitl [H11]; · iexact H11
    iexact H12
  iintro ⟨H13, H14, H15⟩
  rw [WP_ret]; imodintro
  ihave Hk := Hk $$ [H10 H13 H14 H15]
  · isplitl [H10]; · iexact H10
    isplitl [H13]; · iexact H13
    isplitl [H14]; · iexact H14
    iexact H15
  iapply Hk

end Cert.Softmax
-- ==== Proof.Body.lean ====
/-
# The whole kernel on one device
-/
module

public import proofs.«01_k».proof.Proof.Stream3

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

theorem WP_ret_intro {α : Type} (c : Dev nD) {a : α} {Q : α → sProp 𝕄} : Q a ⊢ WP c (.ret a) Q := by
  rw [WP_ret]; iintro H; imodintro; iexact H

/-- The barrier's counter. -/
abbrev barArr : Sems sig S_ := SemArray.scalar (sig.barrier 0 rfl)

theorem run_part3 (c : Dev nD) {Q : (Σ' (d0 : Dev nD) (v2 : BitVec 32) (v5 : BitVec 32) (v8 : BitVec 32) (v30 : BitVec 32) (v31 : Sems sig S_) (v33 : BitVec 32), BitVec 32) → sProp 𝕄} :
    iprop(∀ v2 v5 v8 v30 v33 v34, Q ⟨c, v2, v5, v8, v30, barArr, v33, v34⟩)
      ⊢ WP c (k0_part3 xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9) Q := by
  rw [k0_part3_eq_skeleton]; unfold k0_part3_skel
  simp only [Prog.lift, Prog.bind_op, Prog.bind_ret, Prog.pure_eq_ret, wp_deviceId]
  iintro H
  iapply (WP_ret_intro c)
  iapply H

/-- The blocks of a place received, joined to its eight tiles. -/
theorem lt_first (c : Dev nD) :
    iprop(blkP m ρ c 7 (orgS c 7) fullShare.right ∗ blkP m ρ c 8 (orgS c 8) fullShare.right ∗ blkP m ρ c 9 (orgS c 9) fullShare.right ∗ blkP m ρ c 10 (orgS c 10) fullShare.right) ⊢ LT m ρ c (og c 1) fullShare.right := by
  rw [orgS_eq, orgS_eq, orgS_eq, orgS_eq]
  exact (LT_blocks m ρ c (og c 1) fullShare.right 7 8 9 10 (by decide)).2

theorem lt_third (c : Dev nD) :
    iprop(blkP m ρ c 11 (orgR c 11) fullShare ∗ blkP m ρ c 12 (orgR c 12) fullShare ∗ blkP m ρ c 13 (orgR c 13) fullShare ∗ blkP m ρ c 14 (orgR c 14) fullShare) ⊢ LT m ρ c (og c 3) fullShare := by
  rw [orgR_eq, orgR_eq, orgR_eq, orgR_eq]
  exact (LT_blocks m ρ c (og c 3) fullShare 11 12 13 14 (by decide)).2

theorem lt_own_eq (c : Dev nD) : iprop(blkP m ρ c 0 (orgS c 0) fullShare.left ∗ blkP m ρ c 1 (orgS c 1) fullShare.left ∗ blkP m ρ c 2 (orgS c 2) fullShare.left ∗ blkP m ρ c 3 (orgS c 3) fullShare.left)
    = iprop(blkP m ρ c 0 (yOf c) fullShare.left ∗ blkP m ρ c 1 (yOf c) fullShare.left ∗ blkP m ρ c 2 (yOf c) fullShare.left ∗ blkP m ρ c 3 (yOf c) fullShare.left) := by
  rw [show orgS c 0 = yOf c from orgS_own c 0, show orgS c 1 = yOf c from orgS_own c 1, show orgS c 2 = yOf c from orgS_own c 2, show orgS c 3 = yOf c from orgS_own c 3]

theorem lt_own (c : Dev nD) :
    iprop(LT m ρ c (yOf c) fullShare.right ∗ blkP m ρ c 0 (orgS c 0) fullShare.left ∗ blkP m ρ c 1 (orgS c 1) fullShare.left ∗ blkP m ρ c 2 (orgS c 2) fullShare.left ∗ blkP m ρ c 3 (orgS c 3) fullShare.left) ⊢ LT m ρ c (yOf c) fullShare := by
  iintro ⟨Hr, H⟩
  iapply (LT_halves m ρ c (yOf c))
  isplitl [H]
  · iapply (LT_blocks m ρ c (yOf c) fullShare.left 0 1 2 3 (by decide)).2
    iapply (Entails.of_eq (lt_own_eq m ρ c)); iexact H
  iexact Hr

theorem lt_one_eq (c : Dev nD) : iprop(blkP m ρ c 7 (orgS c 7) fullShare.left ∗ blkP m ρ c 8 (orgS c 8) fullShare.left ∗ blkP m ρ c 9 (orgS c 9) fullShare.left ∗ blkP m ρ c 10 (orgS c 10) fullShare.left)
    = iprop(blkP m ρ c 7 (og c 1) fullShare.left ∗ blkP m ρ c 8 (og c 1) fullShare.left ∗ blkP m ρ c 9 (og c 1) fullShare.left ∗ blkP m ρ c 10 (og c 1) fullShare.left) := by
  rw [orgS_eq, orgS_eq, orgS_eq, orgS_eq]; rfl

theorem lt_one (c : Dev nD) :
    iprop(LT m ρ c (og c 1) fullShare.right ∗ blkP m ρ c 7 (orgS c 7) fullShare.left ∗ blkP m ρ c 8 (orgS c 8) fullShare.left ∗ blkP m ρ c 9 (orgS c 9) fullShare.left ∗ blkP m ρ c 10 (orgS c 10) fullShare.left) ⊢ LT m ρ c (og c 1) fullShare := by
  iintro ⟨Hr, H⟩
  iapply (LT_halves m ρ c (og c 1))
  isplitl [H]
  · iapply (LT_blocks m ρ c (og c 1) fullShare.left 7 8 9 10 (by decide)).2
    iapply (Entails.of_eq (lt_one_eq m ρ c)); iexact H
  iexact Hr

theorem lt_two_eq (c : Dev nD) : iprop(blkP m ρ c 11 (orgS c 11) fullShare.left ∗ blkP m ρ c 12 (orgS c 12) fullShare.left ∗ blkP m ρ c 13 (orgS c 13) fullShare.left ∗ blkP m ρ c 14 (orgS c 14) fullShare.left)
    = iprop(blkP m ρ c 11 (og c 2) fullShare.left ∗ blkP m ρ c 12 (og c 2) fullShare.left ∗ blkP m ρ c 13 (og c 2) fullShare.left ∗ blkP m ρ c 14 (og c 2) fullShare.left) := by
  rw [orgS_eq, orgS_eq, orgS_eq, orgS_eq]; rfl

theorem lt_two (c : Dev nD) :
    iprop(LT m ρ c (og c 2) fullShare.right ∗ blkP m ρ c 11 (orgS c 11) fullShare.left ∗ blkP m ρ c 12 (orgS c 12) fullShare.left ∗ blkP m ρ c 13 (orgS c 13) fullShare.left ∗ blkP m ρ c 14 (orgS c 14) fullShare.left) ⊢ LT m ρ c (og c 2) fullShare := by
  iintro ⟨Hr, H⟩
  iapply (LT_halves m ρ c (og c 2))
  isplitl [H]
  · iapply (LT_blocks m ρ c (og c 2) fullShare.left 11 12 13 14 (by decide)).2
    iapply (Entails.of_eq (lt_two_eq m ρ c)); iexact H
  iexact Hr

/-- What a device holds when it starts, -/
def Pre (c : Dev nD) : sProp 𝕄 :=
  iprop(Tok c ∗ xP m ρ c ∗ WS m c 0 0 ∗ (BF (F := F) c 0 ∗ BF (F := F) c 1)
    ∗ bigSep Finset.univ (fun i : Fin 15 => blkA (F := F) c i (orgR c i))
    ∗ bigSep Finset.univ (fun b : Fin 4 => iprop(lA (F := F) c (8 * yOf c + 2 * b.val) ∗ lA c (8 * yOf c + 2 * b.val + 1)))
    ∗ sA c (yOf c) ∗ (GF (F := F) c 0 ∗ GF (F := F) c 1) ∗ (OS m ρ c (yOf c) 0 0 ∗ OS m ρ c (og c 1) 0 0 ∗ OS m ρ c (og c 2) 0 0 ∗ OS m ρ c (og c 3) 0 0))

/-- and when it is done: every tile of the result written, every counter back at zero. -/
def Post (c : Dev nD) : sProp 𝕄 :=
  iprop(semVal (barCell c) 0 ∗ xP m ρ c ∗ WS m c 8 8 ∗ (BF (F := F) c 0 ∗ BF (F := F) c 1) ∗ Owes (F := F) c (owed c 15)
      ∗ (LT m ρ c (yOf c) fullShare ∗ LT m ρ c (og c 1) fullShare ∗ LT m ρ c (og c 2) fullShare ∗ LT m ρ c (og c 3) fullShare)
      ∗ (OS m ρ c (yOf c) 8 8 ∗ OS m ρ c (og c 1) 8 8 ∗ OS m ρ c (og c 2) 8 8 ∗ OS m ρ c (og c 3) 8 8)
      ∗ (GF (F := F) c 0 ∗ GF (F := F) c 1)
      ∗ (sP m ρ c 0 fullShare ∗ sP m ρ c 1 fullShare ∗ sP m ρ c 2 fullShare ∗ sP m ρ c 3 fullShare)
      ∗ Done (F := F) c 0 ∗ Done (F := F) c 1 ∗ Done (F := F) c 2 ∗ Done (F := F) c 3 ∗ Done (F := F) c 4 ∗ Done (F := F) c 5 ∗ Done (F := F) c 6 ∗ Done (F := F) c 7 ∗ Done (F := F) c 8 ∗ Done (F := F) c 9 ∗ Done (F := F) c 10 ∗ Done (F := F) c 11 ∗ Done (F := F) c 12 ∗ Done (F := F) c 13 ∗ Done (F := F) c 14)

set_option maxHeartbeats 2000000 in
theorem run_body (c : Dev nD) {Q : PUnit → sProp 𝕄} :
    iprop(recs m ρ K ∗ Pre m ρ c) ⊢ iprop((Post m ρ c -∗ Q ⟨⟩) -∗ WP c (cc0_body xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9) Q) := by
  rw [cc0_body_eq_skeleton]; unfold cc0_body_skel Pre Post
  iintro ⟨#HR, HT, Hx, HW, HB, Hg, Hl, Hs, ⟨B1, B2⟩, B3, B4, B5, B6⟩ Hk
  rw [WP_bind]
  iapply (run_part3 c)
  iintro %v2 %v5 %v8 %v30 %v33 %v34
  rw [WP_bind]
  iapply (run_part4 m ρ K c v2 v5 v8 v30 _ rfl v33 v34) $$ [HT Hx HW HB Hg Hl Hs]
  · isplitr; · iexact HR
    isplitl [HT]; · iexact HT
    isplitl [Hx]; · iexact Hx
    isplitl [HW]; · iexact HW
    isplitl [HB]; · iexact HB
    isplitl [Hg]; · iexact Hg
    isplitl [Hl]; · iexact Hl
    iexact Hs
  iintro ⟨B7, B8, B9, B10, B11, B12, ⟨B13, B14, B15, B16⟩, B17, ⟨B18, B19, B20⟩, ⟨B21, B22, B23, B24⟩, ⟨B25, B26, B27, B28⟩⟩
  rw [WP_bind]
  iapply (run_part5 m ρ K c _ _ _ _) $$ [B17 B18 B11]
  · isplitr; · iexact HR
    isplitl [B17]; · iexact B17
    isplitl [B18]; · iexact B18
    iexact B11
  iintro ⟨B29, B30, B31⟩ %r5
  rw [WP_bind]
  iapply (run_part6 m ρ K c _ _ _ _ _ _) $$ [B29 B30 B19]
  · isplitr; · iexact HR
    isplitl [B29]; · iexact B29
    isplitl [B30]; · iexact B30
    iexact B19
  iintro ⟨B32, B33, B34, B35⟩ %r6
  rw [WP_bind]
  iapply (run_part7 m ρ K c _ _ _ _) $$ [B33 B35 B34]
  · isplitr; · iexact HR
    isplitl [B33]; · iexact B33
    isplitl [B35]; · iexact B35
    iexact B34
  iintro ⟨B36, B37, B38, B39⟩ %r7
  rw [WP_bind]
  iapply (run_part8 m ρ K c _ _ _) $$ [B37 B20 B38 B31 B39]
  · isplitr; · iexact HR
    isplitl [B37]; · iexact B37
    isplitl [B20]; · iexact B20
    isplitl [B38]; · iexact B38
    isplitl [B31]; · iexact B31
    iexact B39
  iintro ⟨B40, B41, B42, B43, B44, B45⟩
  rw [WP_bind]
  iapply (run_part9 m ρ K c _) $$ [B42 B12 B1 B3]
  · isplitr; · iexact HR
    isplitl [B42]; · iexact B42
    isplitl [B12]; · iexact B12
    isplitl [B1]; · iexact B1
    iexact B3
  iintro ⟨B46, B47, B48⟩ %a9
  rw [WP_bind]
  iapply (run_part10 m ρ K c _ _) $$ [B47 B2 B48 B41]
  · isplitr; · iexact HR
    isplitl [B47]; · iexact B47
    isplitl [B2]; · iexact B2
    isplitl [B48]; · iexact B48
    iexact B41
  iintro ⟨B49, B50, B51, B52⟩ %r10
  rw [WP_bind]
  iapply (run_part11 m ρ K c _ _ _) $$ [B50 B52 B13]
  · isplitr; · iexact HR
    isplitl [B50]; · iexact B50
    isplitl [B52]; · iexact B52
    iexact B13
  iintro ⟨B53, B54, B55, B56, B57⟩ %r11
  rw [WP_bind]
  iapply (run_part12 m ρ K c _ _ _ _ _) $$ [B55 B57]
  · isplitr; · iexact HR
    isplitl [B55]; · iexact B55
    iexact B57
  iintro ⟨B58, B59, B60⟩ %r12
  rw [WP_bind]
  iapply (run_part13 m ρ K c _ _ _ _) $$ [B59 B21 B60 B14]
  · isplitr; · iexact HR
    isplitl [B59]; · iexact B59
    isplitl [B21]; · iexact B21
    isplitl [B60]; · iexact B60
    iexact B14
  iintro ⟨B61, B62, B63, B64, B65⟩ %r13
  rw [WP_bind]
  iapply (run_part14 m ρ K c _ _ _ _) $$ [B63 B65 B22]
  · isplitr; · iexact HR
    isplitl [B63]; · iexact B63
    isplitl [B65]; · iexact B65
    iexact B22
  iintro ⟨B66, B67, B68, B69⟩ %r14
  rw [WP_bind]
  iapply (run_part15 m ρ K c _ _ _ _ _ _ _ _) $$ [B15 B69]
  · isplitr; · iexact HR
    isplitl [B15]; · iexact B15
    iexact B69
  iintro ⟨B70, B71, B72, B73⟩ %r15
  rw [WP_bind]
  iapply (run_part16 m ρ K c _ _ _ _ _ _ _) $$ [B72 B23 B73]
  · isplitr; · iexact HR
    isplitl [B72]; · iexact B72
    isplitl [B23]; · iexact B23
    iexact B73
  iintro ⟨B74, B75, B76⟩ %r16
  rw [WP_bind]
  iapply (run_part17 m ρ K c _ _ _ _ _ _ _) $$ [B16 B76]
  · isplitr; · iexact HR
    isplitl [B16]; · iexact B16
    iexact B76
  iintro ⟨B77, B78, B79, B80⟩ %r17
  rw [WP_bind]
  iapply (run_part18 m ρ K c _ _ _ _ _ _ _ _) $$ [B79 B24 B80]
  · isplitr; · iexact HR
    isplitl [B79]; · iexact B79
    isplitl [B24]; · iexact B24
    iexact B80
  iintro ⟨B81, B82, B83⟩ %r18
  ihave B84 := (lt_first m ρ c) $$ [B62 B68 B75 B82]
  · isplitl [B62]; · iexact B62
    isplitl [B68]; · iexact B68
    isplitl [B75]; · iexact B75
    iexact B82
  rw [WP_bind]
  iapply (run_part19 m ρ K c _ _ _ _) $$ [B84 B51 B4 B54]
  · isplitr; · iexact HR
    isplitl [B84]; · iexact B84
    isplitl [B51]; · iexact B51
    isplitl [B4]; · iexact B4
    iexact B54
  iintro ⟨B85, B86, B87, B88⟩ %r19
  rw [WP_bind]
  iapply (run_part20 m ρ K c _ _ _ _) $$ [B85 B88 B87 B86 B83]
  · isplitr; · iexact HR
    isplitl [B85]; · iexact B85
    isplitl [B88]; · iexact B88
    isplitl [B87]; · iexact B87
    isplitl [B86]; · iexact B86
    iexact B83
  iintro ⟨B89, B90, B91, B92, B93⟩ %r20
  rw [WP_bind]
  iapply (run_part21 m ρ K c _ _ _ _) $$ [B61 B93]
  · isplitr; · iexact HR
    isplitl [B61]; · iexact B61
    iexact B93
  iintro ⟨B94, B95, B96, B97⟩ %r21
  rw [WP_bind]
  iapply (run_part22 m ρ K c _ _ _ _ _) $$ [B96 B25 B97]
  · isplitr; · iexact HR
    isplitl [B96]; · iexact B96
    isplitl [B25]; · iexact B25
    iexact B97
  iintro ⟨B98, B99, B100⟩ %r22
  rw [WP_bind]
  iapply (run_part23 m ρ K c _ _ _ _ _ _ _ _) $$ [B67 B100]
  · isplitr; · iexact HR
    isplitl [B67]; · iexact B67
    iexact B100
  iintro ⟨B101, B102, B103, B104⟩ %r23
  rw [WP_bind]
  iapply (run_part24 m ρ K c _ _ _ _ _ _ _ _) $$ [B103 B26 B104]
  · isplitr; · iexact HR
    isplitl [B103]; · iexact B103
    isplitl [B26]; · iexact B26
    iexact B104
  iintro ⟨B105, B106, B107⟩ %r24
  rw [WP_bind]
  iapply (run_part25 m ρ K c _ _ _ _ _) $$ [B74 B107]
  · isplitr; · iexact HR
    isplitl [B74]; · iexact B74
    iexact B107
  iintro ⟨B108, B109, B110, B111⟩ %r25
  rw [WP_bind]
  iapply (run_part26 m ρ K c _ _ _ _ _ _) $$ [B110 B27 B111]
  · isplitr; · iexact HR
    isplitl [B110]; · iexact B110
    isplitl [B27]; · iexact B27
    iexact B111
  iintro ⟨B112, B113, B114⟩ %r26
  rw [WP_bind]
  iapply (run_part27 m ρ K c _ _ _ _) $$ [B81 B114]
  · isplitr; · iexact HR
    isplitl [B81]; · iexact B81
    iexact B114
  iintro ⟨B115, B116, B117, B118⟩ %r27
  rw [WP_bind]
  iapply (run_part28 m ρ K c _ _ _ _ _) $$ [B117 B28 B118 B99 B106 B113 B90]
  · isplitr; · iexact HR
    isplitl [B117]; · iexact B117
    isplitl [B28]; · iexact B28
    isplitl [B118]; · iexact B118
    isplitl [B99]; · iexact B99
    isplitl [B106]; · iexact B106
    isplitl [B113]; · iexact B113
    iexact B90
  iintro ⟨B119, B120, B121, B122, B123⟩ %a28
  rw [WP_bind]
  iapply (run_part29 m ρ K c _) $$ [B123 B5 B122 B121 B92]
  · isplitr; · iexact HR
    isplitl [B123]; · iexact B123
    isplitl [B5]; · iexact B5
    isplitl [B122]; · iexact B122
    isplitl [B121]; · iexact B121
    iexact B92
  iintro ⟨B124, B125⟩ %r29
  rw [WP_bind]
  iapply (run_part30 m ρ K c _ _) $$ [B124 B125 B120]
  · isplitr; · iexact HR
    isplitl [B124]; · iexact B124
    isplitl [B125]; · iexact B125
    iexact B120
  iintro ⟨B126, B127, B128, B129, B130⟩ %r30
  rw [WP_bind]
  iapply (run_part31 m ρ K c _ _ _ _ _) $$ [B98 B130]
  · isplitr; · iexact HR
    isplitl [B98]; · iexact B98
    iexact B130
  iintro ⟨B131, B132, B133, B134⟩ %r31
  rw [WP_bind]
  iapply (run_part32 m ρ K c _ _ _ _ _ _ _) $$ [B105 B134]
  · isplitr; · iexact HR
    isplitl [B105]; · iexact B105
    iexact B134
  iintro ⟨B135, B136, B137, B138⟩ %r32
  rw [WP_bind]
  iapply (run_part33 m ρ K c _ _ _ _ _ _ _) $$ [B112 B138]
  · isplitr; · iexact HR
    isplitl [B112]; · iexact B112
    iexact B138
  iintro ⟨B139, B140, B141, B142⟩ %r33
  rw [WP_bind]
  iapply (run_part34 m ρ K c _ _ _ _ _ _ _ _) $$ [B119 B142]
  · isplitr; · iexact HR
    isplitl [B119]; · iexact B119
    iexact B142
  iintro ⟨B143, B144, B145, B146⟩ %r34
  ihave B147 := (lt_third m ρ c) $$ [B133 B137 B141 B145]
  · isplitl [B133]; · iexact B133
    isplitl [B137]; · iexact B137
    isplitl [B141]; · iexact B141
    iexact B145
  rw [WP_bind]
  iapply (run_part35 m ρ K c _ _ _ _) $$ [B147 B127 B6]
  · isplitr; · iexact HR
    isplitl [B147]; · iexact B147
    isplitl [B127]; · iexact B127
    iexact B6
  iintro ⟨B148, B149⟩ %a35 %b35
  rw [WP_bind]
  iapply (run_part36 m ρ K c _ _) $$ [B129 B148 B149 B146]
  · isplitr; · iexact HR
    isplitl [B129]; · iexact B129
    isplitl [B148]; · iexact B148
    isplitl [B149]; · iexact B149
    iexact B146
  iintro ⟨B150, B151, B152, B153⟩ %r36
  simp only [Prog.lift, Prog.bind_op, Prog.bind_ret, Prog.pure_eq_ret]
  iapply (os_wait m ρ K c (o := (og c 3)) (k := 7) (e := 8) (s := 1) (n := 15) (by decide) (by decide) rfl (off1_eq 7)) $$ [B151 B153]
  · isplitr; · iexact HR
    isplitl [B151] <;> iassumption
  iintro ⟨B154, B155, B156⟩
  rw [WP_ret]; imodintro
  ihave B157 := (lt_own m ρ c) $$ [B49 B56 B64 B70 B77]
  · isplitl [B49]; · iexact B49
    isplitl [B56]; · iexact B56
    isplitl [B64]; · iexact B64
    isplitl [B70]; · iexact B70
    iexact B77
  ihave B158 := (lt_one m ρ c) $$ [B89 B94 B101 B108 B115]
  · isplitl [B89]; · iexact B89
    isplitl [B94]; · iexact B94
    isplitl [B101]; · iexact B101
    isplitl [B108]; · iexact B108
    iexact B115
  ihave B159 := (lt_two m ρ c) $$ [B126 B131 B135 B139 B143]
  · isplitl [B126]; · iexact B126
    isplitl [B131]; · iexact B131
    isplitl [B135]; · iexact B135
    isplitl [B139]; · iexact B139
    iexact B143
  iapply Hk
  isplitl [B7]; · iexact B7
  isplitl [B8]; · iexact B8
  isplitl [B9]; · iexact B9
  isplitl [B10]; · iexact B10
  isplitl [B156]; · iexact B156
  isplitl [B157 B158 B159 B150]
  · isplitl [B157]; · iexact B157
    isplitl [B158]; · iexact B158
    isplitl [B159]; · iexact B159
    iexact B150
  isplitl [B53 B91 B128 B154]
  · isplitl [B53]; · iexact B53
    isplitl [B91]; · iexact B91
    isplitl [B128]; · iexact B128
    iexact B154
  isplitl [B152 B155]
  · isplitl [B152]; · iexact B152
    iexact B155
  isplitl [B43 B44 B45 B46]
  · isplitl [B43]; · iexact B43
    isplitl [B44]; · iexact B44
    isplitl [B45]; · iexact B45
    iexact B46
  isplitl [B58]; · iexact B58
  isplitl [B66]; · iexact B66
  isplitl [B71]; · iexact B71
  isplitl [B78]; · iexact B78
  isplitl [B32]; · iexact B32
  isplitl [B36]; · iexact B36
  isplitl [B40]; · iexact B40
  isplitl [B95]; · iexact B95
  isplitl [B102]; · iexact B102
  isplitl [B109]; · iexact B109
  isplitl [B116]; · iexact B116
  isplitl [B132]; · iexact B132
  isplitl [B136]; · iexact B136
  isplitl [B140]; · iexact B140
  iexact B144

end Cert.Softmax
-- ==== Proof.Tiles.lean ====
/-
# Whole buffers and their tiles

A device's buffers are held whole at the start and at the end; in between they are held tile by tile.
-/
module

public import proofs.«01_k».proof.Proof.Body
public import Idealize.ShloMosaic.Lib.Ring

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The tilings -/

theorem split_tiles {ℓ : Loc nD τ sig} {n : ℕ} (I : Fin n → Finset (Idx ℓ)) (hd : ∀ a b, a ≠ b → Disjoint (I a) (I b))
    (hc : ∀ i, ∃ a, i ∈ I a) (f : Buf (Elt F) ℓ) : (ℓ ↦{fullShare} f : sProp 𝕄) = bigSep Finset.univ fun a => ℓ ↦[I a]{fullShare} f :=
  Ring.pointsTo_blocks I hd (Finset.eq_univ_iff_forall.mpr fun i => by
    obtain ⟨a, ha⟩ := hc i; exact Finset.mem_biUnion.mpr ⟨a, Finset.mem_univ _, ha⟩) f

theorem row3_cover {a b d : ℕ} (i : (⟨3, ![a, b, d]⟩ : Shape).Idx) : ∃ t : Fin a, i ∈ row3 a b d t.val :=
  ⟨⟨(i 0).val, (i 0).isLt⟩, mem_row3.mpr rfl⟩
theorem col2_cover {a b n : ℕ} (h : b = 1024 * n) (i : (⟨2, ![a, b]⟩ : Shape).Idx) : ∃ t : Fin n, i ∈ col2 a b t.val := by
  have hi : (i 1).val < b := (i 1).isLt
  exact ⟨⟨(i 1).val / 1024, by omega⟩, mem_col2.mpr rfl⟩

/-- Thirty-two tiles are four places of eight. -/
def place : Fin 4 × Fin 8 ≃ Fin 32 where
  toFun p := ⟨8 * p.1.val + p.2.val, by omega⟩
  invFun t := (⟨t.val / 8, by omega⟩, ⟨t.val % 8, by omega⟩)
  left_inv p := Prod.ext (Fin.ext (by show (8 * p.1.val + p.2.val) / 8 = _; omega)) (Fin.ext (by show (8 * p.1.val + p.2.val) % 8 = _; omega))
  right_inv t := Fin.ext (by show 8 * (t.val / 8) + t.val % 8 = _; omega)

theorem by_place (Φ : ℕ → sProp 𝕄) : bigSep (Finset.univ : Finset (Fin 32)) (fun t => Φ t.val)
    = bigSep (Finset.univ : Finset (Fin 4)) fun o => bigSep (Finset.univ : Finset (Fin 8)) fun j => Φ (8 * o.val + j.val) := by
  rw [bigSep_univ_equiv place, bigSep_univ_prod]; rfl

/-! ## The exponentials and the row sums -/

/-- A place's eight tiles at any contents. -/
def LA (c : Dev nD) (o : ℕ) : sProp 𝕄 := bigSep Finset.univ fun j : Fin 8 => lA (F := F) c (8 * o + j.val)

theorem l_tiles (c : Dev nD) (f : Buf (Elt F) ((c : Thread nD τ).loc cc0_scratch0)) : ((c : Thread nD τ).loc cc0_scratch0 ↦{fullShare} f : sProp 𝕄)
    = bigSep Finset.univ fun t : Fin 32 => (c : Thread nD τ).loc cc0_scratch0 ↦[row3 32 512 1024 t.val]{fullShare} f :=
  split_tiles (ℓ := (c : Thread nD τ).loc cc0_scratch0) (fun t : Fin 32 => row3 32 512 1024 t.val) (fun a b h => row3_disjoint fun h' => h (Fin.ext h')) row3_cover f
theorem l_split (c : Dev nD) (f : Buf (Elt F) ((c : Thread nD τ).loc cc0_scratch0)) : ((c : Thread nD τ).loc cc0_scratch0 ↦{fullShare} f : sProp 𝕄)
    ⊢ iprop(LA (F := F) c (yOf c) ∗ LA c (og c 1) ∗ LA c (og c 2) ∗ LA c (og c 3)) := by
  have h : (bigSep Finset.univ fun t : Fin 32 => (c : Thread nD τ).loc cc0_scratch0 ↦[row3 32 512 1024 t.val]{fullShare} f : sProp 𝕄)
      ⊢ bigSep Finset.univ fun t : Fin 32 => lA (F := F) c t.val := bigSep_imp fun t => by unfold lA; iintro H; iexists f; iexact H
  rw [l_tiles]
  refine h.trans ?_
  rw [by_place (fun t => lA (F := F) c t)]
  exact (ring_four c (fun o => LA (F := F) c o)).1
theorem l_join (c : Dev nD) : iprop(LT m ρ c (yOf c) fullShare ∗ LT m ρ c (og c 1) fullShare ∗ LT m ρ c (og c 2) fullShare ∗ LT m ρ c (og c 3) fullShare)
    ⊢ iprop(∃ f : Buf (Elt F) ((c : Thread nD τ).loc cc0_scratch0), (c : Thread nD τ).loc cc0_scratch0 ↦{fullShare} f) := by
  refine (ring_four c (fun o => LT m ρ c o fullShare)).2.trans ?_
  have h : bigSep (Finset.univ : Finset (Fin 4)) (fun o => LT m ρ c o.val fullShare) = ((c : Thread nD τ).loc cc0_scratch0 ↦{fullShare} LG m ρ c : sProp 𝕄) := by
    rw [l_tiles]; exact (by_place (fun t => lP m ρ c t fullShare)).symm
  rw [h]
  iintro H; iexists _; iexact H

theorem s_tiles (c : Dev nD) (f : Buf (Elt F) ((c : Thread nD τ).loc cc0_scratch3)) : ((c : Thread nD τ).loc cc0_scratch3 ↦{fullShare} f : sProp 𝕄)
    = bigSep Finset.univ fun t : Fin 4 => (c : Thread nD τ).loc cc0_scratch3 ↦[row3 4 512 1 t.val]{fullShare} f :=
  split_tiles (ℓ := (c : Thread nD τ).loc cc0_scratch3) (fun t : Fin 4 => row3 4 512 1 t.val) (fun a b h => row3_disjoint fun h' => h (Fin.ext h')) row3_cover f
theorem s_split (c : Dev nD) (f : Buf (Elt F) ((c : Thread nD τ).loc cc0_scratch3)) : ((c : Thread nD τ).loc cc0_scratch3 ↦{fullShare} f : sProp 𝕄)
    ⊢ iprop(sA (F := F) c (yOf c) ∗ sA c (og c 1) ∗ sA c (og c 2) ∗ sA c (og c 3)) := by
  have h : (bigSep Finset.univ fun t : Fin 4 => (c : Thread nD τ).loc cc0_scratch3 ↦[row3 4 512 1 t.val]{fullShare} f : sProp 𝕄)
      ⊢ bigSep Finset.univ fun t : Fin 4 => sA (F := F) c t.val := bigSep_imp fun t => by unfold sA; iintro H; iexists f; iexact H
  rw [s_tiles]
  exact h.trans (ring_four c (fun o => sA (F := F) c o)).1
theorem s_join (c : Dev nD) : iprop(sP m ρ c 0 fullShare ∗ sP m ρ c 1 fullShare ∗ sP m ρ c 2 fullShare ∗ sP m ρ c 3 fullShare)
    ⊢ iprop(∃ f : Buf (Elt F) ((c : Thread nD τ).loc cc0_scratch3), (c : Thread nD τ).loc cc0_scratch3 ↦{fullShare} f) := by
  have h : iprop(sP m ρ c 0 fullShare ∗ sP m ρ c 1 fullShare ∗ sP m ρ c 2 fullShare ∗ sP m ρ c 3 fullShare)
      = ((c : Thread nD τ).loc cc0_scratch3 ↦{fullShare} ST m ρ c : sProp 𝕄) := by
    rw [s_tiles, bigSep_four]; rfl
  rw [h]
  iintro H; iexists _; iexact H

/-! ## The two double buffers -/

theorem b_split (c : Dev nD) (f : Buf (Elt F) ((c : Thread nD τ).loc cc0_scratch1)) : ((c : Thread nD τ).loc cc0_scratch1 ↦{fullShare} f : sProp 𝕄)
    ⊢ iprop(bA (F := F) c 0 ∗ bA c 1) := by
  rw [split_tiles (ℓ := (c : Thread nD τ).loc cc0_scratch1) (fun t : Fin 2 => row3 2 1024 1024 t.val) (fun a b h => row3_disjoint fun h' => h (Fin.ext h')) row3_cover f,
    bigSep_univ_eq_bigSepL [0, 1] (by decide) (by decide)]
  show iprop(((c : Thread nD τ).loc cc0_scratch1 ↦[row3 2 1024 1024 0]{fullShare} f) ∗ ((c : Thread nD τ).loc cc0_scratch1 ↦[row3 2 1024 1024 1]{fullShare} f)) ⊢ _
  unfold bA
  iintro ⟨H1, H2⟩
  isplitl [H1]
  · iexists f; iexact H1
  iexists f; iexact H2
theorem b_join (c : Dev nD) : iprop(bA (F := F) c 0 ∗ bA c 1)
    ⊢ iprop(∃ f : Buf (Elt F) ((c : Thread nD τ).loc cc0_scratch1), (c : Thread nD τ).loc cc0_scratch1 ↦{fullShare} f) := by
  have hu : Finset.univ.biUnion (fun t : Fin 2 => row3 2 1024 1024 t.val) = Finset.univ := Finset.eq_univ_iff_forall.mpr fun i => by
    obtain ⟨a, ha⟩ := row3_cover i; exact Finset.mem_biUnion.mpr ⟨a, Finset.mem_univ _, ha⟩
  unfold bA
  iintro ⟨⟨%f, H1⟩, ⟨%g, H2⟩⟩
  have h := Ring.pointsTo_blocks_join_exists (Ix := Unit) (Name := ℕ) (U := UU) (Lvl := ℕ) (ℓ := (c : Thread nD τ).loc cc0_scratch1) (fun t : Fin 2 => row3 2 1024 1024 t.val)
    (fun a b h => row3_disjoint fun h' => h (Fin.ext h')) hu (q := fullShare) f
  rw [bigSep_univ_eq_bigSepL [0, 1] (by decide) (by decide)] at h
  iapply (show iprop((∃ f : Buf (Elt F) ((c : Thread nD τ).loc cc0_scratch1), (c : Thread nD τ).loc cc0_scratch1 ↦[row3 2 1024 1024 0]{fullShare} f)
    ∗ (∃ f : Buf (Elt F) ((c : Thread nD τ).loc cc0_scratch1), (c : Thread nD τ).loc cc0_scratch1 ↦[row3 2 1024 1024 1]{fullShare} f))
    ⊢ iprop(∃ f : Buf (Elt F) ((c : Thread nD τ).loc cc0_scratch1), (c : Thread nD τ).loc cc0_scratch1 ↦{fullShare} f) from h)
  isplitl [H1]
  · iexists f; iexact H1
  iexists g; iexact H2

theorem g_split (c : Dev nD) (f : Buf (Elt F) ((c : Thread nD τ).loc cc0_scratch2)) : ((c : Thread nD τ).loc cc0_scratch2 ↦{fullShare} f : sProp 𝕄)
    ⊢ iprop(gA (F := F) c 0 ∗ gA c 1) := by
  rw [split_tiles (ℓ := (c : Thread nD τ).loc cc0_scratch2) (fun t : Fin 2 => row3 2 512 1024 t.val) (fun a b h => row3_disjoint fun h' => h (Fin.ext h')) row3_cover f,
    bigSep_univ_eq_bigSepL [0, 1] (by decide) (by decide)]
  show iprop(((c : Thread nD τ).loc cc0_scratch2 ↦[row3 2 512 1024 0]{fullShare} f) ∗ ((c : Thread nD τ).loc cc0_scratch2 ↦[row3 2 512 1024 1]{fullShare} f)) ⊢ _
  unfold gA
  iintro ⟨H1, H2⟩
  isplitl [H1]
  · iexists f; iexact H1
  iexists f; iexact H2
theorem g_join (c : Dev nD) : iprop(gA (F := F) c 0 ∗ gA c 1)
    ⊢ iprop(∃ f : Buf (Elt F) ((c : Thread nD τ).loc cc0_scratch2), (c : Thread nD τ).loc cc0_scratch2 ↦{fullShare} f) := by
  have hu : Finset.univ.biUnion (fun t : Fin 2 => row3 2 512 1024 t.val) = Finset.univ := Finset.eq_univ_iff_forall.mpr fun i => by
    obtain ⟨a, ha⟩ := row3_cover i; exact Finset.mem_biUnion.mpr ⟨a, Finset.mem_univ _, ha⟩
  unfold gA
  iintro ⟨⟨%f, H1⟩, ⟨%g, H2⟩⟩
  have h := Ring.pointsTo_blocks_join_exists (Ix := Unit) (Name := ℕ) (U := UU) (Lvl := ℕ) (ℓ := (c : Thread nD τ).loc cc0_scratch2) (fun t : Fin 2 => row3 2 512 1024 t.val)
    (fun a b h => row3_disjoint fun h' => h (Fin.ext h')) hu (q := fullShare) f
  rw [bigSep_univ_eq_bigSepL [0, 1] (by decide) (by decide)] at h
  iapply (show iprop((∃ f : Buf (Elt F) ((c : Thread nD τ).loc cc0_scratch2), (c : Thread nD τ).loc cc0_scratch2 ↦[row3 2 512 1024 0]{fullShare} f)
    ∗ (∃ f : Buf (Elt F) ((c : Thread nD τ).loc cc0_scratch2), (c : Thread nD τ).loc cc0_scratch2 ↦[row3 2 512 1024 1]{fullShare} f))
    ⊢ iprop(∃ f : Buf (Elt F) ((c : Thread nD τ).loc cc0_scratch2), (c : Thread nD τ).loc cc0_scratch2 ↦{fullShare} f) from h)
  isplitl [H1]
  · iexists f; iexact H1
  iexists g; iexact H2

/-! ## `W` and the result -/

theorem w_tiles (c : Dev nD) : ((c : Thread nD τ).loc main_arg1 ↦{fullShare} wv m c : sProp 𝕄) = bigSep Finset.univ fun t : Fin 8 => wP m c t.val :=
  split_tiles (ℓ := (c : Thread nD τ).loc main_arg1) (fun t : Fin 8 => col2 1024 8192 t.val) (fun a b h => col2_disjoint fun h' => h (Fin.ext h')) (col2_cover rfl) (wv m c)
theorem w_split (c : Dev nD) : ((c : Thread nD τ).loc main_arg1 ↦{fullShare} wv m c : sProp 𝕄) ⊢ WS m c 0 0 := by
  rw [w_tiles]; unfold WS; simp only [Nat.not_lt_zero, if_false]; exact .rfl
theorem w_join (c : Dev nD) : WS m c 8 8 ⊢ ((c : Thread nD τ).loc main_arg1 ↦{fullShare} wv m c : sProp 𝕄) := by
  rw [w_tiles]; unfold WS; simp only [Fin.is_lt, if_true]; exact .rfl

theorem o_tiles (c : Dev nD) (f : Buf (Elt F) ((c : Thread nD τ).loc main_v1)) : ((c : Thread nD τ).loc main_v1 ↦{fullShare} f : sProp 𝕄)
    = bigSep Finset.univ fun t : Fin 32 => (c : Thread nD τ).loc main_v1 ↦[col2 512 32768 t.val]{fullShare} f :=
  split_tiles (ℓ := (c : Thread nD τ).loc main_v1) (fun t : Fin 32 => col2 512 32768 t.val) (fun a b h => col2_disjoint fun h' => h (Fin.ext h')) (col2_cover rfl) f
theorem o_split (c : Dev nD) (f : Buf (Elt F) ((c : Thread nD τ).loc main_v1)) : ((c : Thread nD τ).loc main_v1 ↦{fullShare} f : sProp 𝕄)
    ⊢ iprop(OS m ρ c (yOf c) 0 0 ∗ OS m ρ c (og c 1) 0 0 ∗ OS m ρ c (og c 2) 0 0 ∗ OS m ρ c (og c 3) 0 0) := by
  have h : (bigSep Finset.univ fun t : Fin 32 => (c : Thread nD τ).loc main_v1 ↦[col2 512 32768 t.val]{fullShare} f : sProp 𝕄)
      ⊢ bigSep Finset.univ fun t : Fin 32 => oA (F := F) c t.val := bigSep_imp fun t => by unfold oA; iintro H; iexists f; iexact H
  have h0 (o : ℕ) : OS m ρ c o 0 0 = bigSep Finset.univ fun j : Fin 8 => oA (F := F) c (8 * o + j.val) := by
    unfold OS; simp only [Nat.not_lt_zero, if_false]
  rw [o_tiles]
  refine h.trans ?_
  rw [by_place (fun t => oA (F := F) c t), h0, h0, h0, h0]
  exact (ring_four c (fun o => bigSep Finset.univ fun j : Fin 8 => oA (F := F) c (8 * o + j.val))).1
theorem o_join (c : Dev nD) : iprop(OS m ρ c (yOf c) 8 8 ∗ OS m ρ c (og c 1) 8 8 ∗ OS m ρ c (og c 2) 8 8 ∗ OS m ρ c (og c 3) 8 8)
    ⊢ ((c : Thread nD τ).loc main_v1 ↦{fullShare} OUT m ρ c : sProp 𝕄) := by
  have h8 (o : ℕ) : OS m ρ c o 8 8 = bigSep Finset.univ fun j : Fin 8 => oP m ρ c (8 * o + j.val) := by
    unfold OS; simp only [Fin.is_lt, if_true]
  rw [o_tiles, h8, h8, h8, h8]
  refine (ring_four c (fun o => bigSep Finset.univ fun j : Fin 8 => oP m ρ c (8 * o + j.val))).2.trans ?_
  rw [← by_place (fun t => oP m ρ c t)]
  exact .rfl

/-! ## What the device itself writes, and what arrives -/

theorem own_pairs (c : Dev nD) : LA (F := F) c (yOf c) ⊢ bigSep Finset.univ (fun b : Fin 4 => iprop(lA (F := F) c (8 * yOf c + 2 * b.val) ∗ lA c (8 * yOf c + 2 * b.val + 1))) := by
  unfold LA
  rw [bigSep_eight, bigSep_four]
  show iprop(lA (F := F) c (8 * yOf c + 0) ∗ lA c (8 * yOf c + 1) ∗ lA c (8 * yOf c + 2) ∗ lA c (8 * yOf c + 3)
      ∗ lA c (8 * yOf c + 4) ∗ lA c (8 * yOf c + 5) ∗ lA c (8 * yOf c + 6) ∗ lA c (8 * yOf c + 7))
    ⊢ iprop((lA c (8 * yOf c + 0) ∗ lA c (8 * yOf c + 1)) ∗ (lA c (8 * yOf c + 2) ∗ lA c (8 * yOf c + 3))
      ∗ (lA c (8 * yOf c + 4) ∗ lA c (8 * yOf c + 5)) ∗ (lA c (8 * yOf c + 6) ∗ lA c (8 * yOf c + 7)))
  iintro ⟨H0, H1, H2, H3, H4, H5, H6, H7⟩
  isplitl [H0 H1]; · isplitl [H0] <;> iassumption
  isplitl [H2 H3]; · isplitl [H2] <;> iassumption
  isplitl [H4 H5]; · isplitl [H4] <;> iassumption
  isplitl [H6] <;> iassumption

theorem LA_blocks (c : Dev nD) (o : ℕ) (i0 i1 i2 i3 : Fin 15)
    (h : (isSt i0 = false ∧ blkN i0 = 0) ∧ (isSt i1 = false ∧ blkN i1 = 1) ∧ (isSt i2 = false ∧ blkN i2 = 2) ∧ (isSt i3 = false ∧ blkN i3 = 3)) :
    LA (F := F) c o ⊢ iprop(blkA c i0 o ∗ blkA c i1 o ∗ blkA c i2 o ∗ blkA c i3 o) := by
  obtain ⟨⟨h0, b0⟩, ⟨h1, b1⟩, ⟨h2, b2⟩, ⟨h3, b3⟩⟩ := h
  unfold LA
  rw [bigSep_eight, blkA_chunk c h0, blkA_chunk c h1, blkA_chunk c h2, blkA_chunk c h3, b0, b1, b2, b3]
  show iprop(lA (F := F) c (8 * o + 0) ∗ lA c (8 * o + 1) ∗ lA c (8 * o + 2) ∗ lA c (8 * o + 3) ∗ lA c (8 * o + 4)
    ∗ lA c (8 * o + 5) ∗ lA c (8 * o + 6) ∗ lA c (8 * o + 7)) ⊢
    iprop((lA c (8 * o + 0) ∗ lA c (8 * o + 1)) ∗ (lA c (8 * o + 2) ∗ lA c (8 * o + 3))
    ∗ (lA c (8 * o + 4) ∗ lA c (8 * o + 5)) ∗ (lA c (8 * o + 6) ∗ lA c (8 * o + 7)))
  iintro ⟨H0, H1, H2, H3, H4, H5, H6, H7⟩
  isplitl [H0 H1]; · isplitl [H0] <;> iassumption
  isplitl [H2 H3]; · isplitl [H2] <;> iassumption
  isplitl [H4 H5]; · isplitl [H4] <;> iassumption
  isplitl [H6] <;> iassumption

theorem arrivals (c : Dev nD) : iprop((LA (F := F) c (og c 1) ∗ LA c (og c 2) ∗ LA c (og c 3)) ∗ sA c (og c 1) ∗ sA c (og c 2) ∗ sA c (og c 3))
    ⊢ bigSep Finset.univ (fun i : Fin 15 => blkA (F := F) c i (orgR c i)) := by
  rw [bigSep_fifteen]
  show _ ⊢ iprop(blkA c 0 (og c 1) ∗ blkA c 1 (og c 1) ∗ blkA c 2 (og c 1) ∗ blkA c 3 (og c 1) ∗ blkA c 4 (og c 1) ∗ blkA c 5 (og c 2) ∗ blkA c 6 (og c 3)
    ∗ blkA c 7 (og c 2) ∗ blkA c 8 (og c 2) ∗ blkA c 9 (og c 2) ∗ blkA c 10 (og c 2) ∗ blkA c 11 (og c 3) ∗ blkA c 12 (og c 3) ∗ blkA c 13 (og c 3) ∗ blkA c 14 (og c 3))
  iintro ⟨⟨H1, H2, H3⟩, S1, S2, S3⟩
  ihave H1 := (LA_blocks (F := F) c (og c 1) 0 1 2 3 (by decide)) $$ H1
  ihave H2 := (LA_blocks (F := F) c (og c 2) 7 8 9 10 (by decide)) $$ H2
  ihave H3 := (LA_blocks (F := F) c (og c 3) 11 12 13 14 (by decide)) $$ H3
  icases H1 with ⟨A0, A1, A2, A3⟩
  icases H2 with ⟨B0, B1, B2, B3⟩
  icases H3 with ⟨C0, C1, C2, C3⟩
  isplitl [A0]; · iexact A0
  isplitl [A1]; · iexact A1
  isplitl [A2]; · iexact A2
  isplitl [A3]; · iexact A3
  isplitl [S1]; · iapply (Entails.of_eq (blkA_stat (F := F) c (i := 4) (by decide) _).symm); iexact S1
  isplitl [S2]; · iapply (Entails.of_eq (blkA_stat (F := F) c (i := 5) (by decide) _).symm); iexact S2
  isplitl [S3]; · iapply (Entails.of_eq (blkA_stat (F := F) c (i := 6) (by decide) _).symm); iexact S3
  isplitl [B0]; · iexact B0
  isplitl [B1]; · iexact B1
  isplitl [B2]; · iexact B2
  isplitl [B3]; · iexact B3
  isplitl [C0]; · iexact C0
  isplitl [C1]; · iexact C1
  isplitl [C2]; · iexact C2
  iexact C3

end Cert.Softmax
-- ==== Proof.Deal.lean ====
/-
# Dealing the ring's tokens at launch

The duties' tokens, positions and counters as they are made, and as they are dealt to the devices.
-/
module

public import proofs.«01_k».proof.Proof.Tiles
public import Idealize.ShloMosaic.Lib.Pipeline.Launch
public import Idealize.ShloMosaic.Lib.Pipeline.Kit

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
open Idealize.ShloMosaic.Pipeline (Dat Cfg Window BodyObligation cellOf)

/-! ## The kernel's own semaphores -/

/-- The thirty ring semaphores, and the two pairs of the local copies. -/
abbrev CO : Type := (Fin 15 ⊕ Fin 15) ⊕ (Fin 2 ⊕ Fin 2)
def osem (k : CO) : SemLoc sig := match k with
  | .inl (.inl i) => .dma (sS i)
  | .inl (.inr i) => .dma (rS i)
  | .inr (.inl s) => .dma (wSem s.val)
  | .inr (.inr s) => .dma (oSem s.val)

theorem ownSemFacts : Pipeline.OwnSemFacts cfg0.spec osem := by decide +kernel

theorem two_sums {α β : Type} [Fintype α] [Fintype β] (Φ : α ⊕ β → sProp 𝕄) :
    bigSep Finset.univ Φ = iprop(bigSep Finset.univ (fun a => Φ (.inl a)) ∗ bigSep Finset.univ (fun b => Φ (.inr b))) := bigSep_univ_sum Φ
theorem bigSep_two (Φ : Fin 2 → sProp 𝕄) : bigSep Finset.univ Φ = iprop(Φ 0 ∗ Φ 1) := bigSep_univ_eq_bigSepL [0, 1] (by decide) (by decide) Φ

/-- The counters of the local copies. -/
def sems4 (c : Dev nD) : sProp 𝕄 :=
  iprop((semVal ((c : Thread nD τ), .dma (wSem 0)) 0 ∗ semVal ((c : Thread nD τ), .dma (wSem 1)) 0)
    ∗ (semVal ((c : Thread nD τ), .dma (oSem 0)) 0 ∗ semVal ((c : Thread nD τ), .dma (oSem 1)) 0))

theorem ownSems0_eq (c : Dev nD) : (Pipeline.ownSems0 (Ix := Unit) (Name := ℕ) (U := UU) (Lvl := ℕ) (Val := Elt F) (τ := τ) osem c : sProp 𝕄)
    = iprop((bigSep Finset.univ (fun i : Fin 15 => semVal (sCell c i) 0) ∗ bigSep Finset.univ (fun i : Fin 15 => semVal (rCell c i) 0)) ∗ sems4 c) := by
  unfold Pipeline.ownSems0
  rw [two_sums, two_sums, two_sums, bigSep_two, bigSep_two]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells. -/
theorem by_kind (Φ : CK → sProp 𝕄) : bigSep Finset.univ Φ
    = iprop(Φ (.inl 0) ∗ bigSep Finset.univ (fun i : Fin 15 => Φ (.inr (.inl i))) ∗ bigSep Finset.univ (fun i : Fin 15 => Φ (.inr (.inr i)))) := by
  rw [two_sums, two_sums, bigSep_univ_eq_bigSepL [(0 : Fin 1)] (by decide) (by decide)]; rfl

/-! ## The launch element -/

theorem csem_injective : Function.Injective csem := by decide +kernel
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's duties: two at its barrier cell, one at every other cell. -/
abbrev CT : Type := Bool ⊕ (Fin 15 ⊕ Fin 15)
def tokSem (k : CT) : SemLoc sig × Bool := match k with
  | .inl b => (.reg barS, b)
  | .inr (.inl i) => (.dma (sS i), false)
  | .inr (.inr i) => (.dma (rS i), false)
theorem tokSem_injective : Function.Injective tokSem := by decide +kernel
abbrev tokOf (cj : Dev nD × CT) : GSem nD τ sig × ℕ × Bool := (((cj.1 : Thread nD τ), (tokSem cj.2).1), 0, (tokSem cj.2).2)
theorem tokOf_injective : Function.Injective (tokOf : Dev nD × CT → GSem nD τ sig × ℕ × Bool) := by
  rintro ⟨c, j⟩ ⟨c', j'⟩ h
  have h1 : c = c' := congrArg (fun x : GSem nD τ sig × ℕ × Bool => x.1.1.1) h
  have h2 : j = j' := tokSem_injective (congrArg (fun x : GSem nD τ sig × ℕ × Bool => (x.1.2, x.2.2)) h)
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The tokens of the duties at device `c`'s own cells. -/
def toks (c : Dev nD) : sProp 𝕄 :=
  iprop((dutyTok ER (barCell c) 0 false ∗ dutyTok ER (barCell c) 0 true)
    ∗ bigSep Finset.univ (fun i : Fin 15 => dutyTok ER (sCell c i) 0 false) ∗ bigSep Finset.univ (fun i : Fin 15 => dutyTok ER (rCell c i) 0 false))
/-- The tokens of the duties device `c` pays. -/
def payToks (c : Dev nD) : sProp 𝕄 :=
  iprop((dutyTok ER (barCell (lt c)) 0 true ∗ dutyTok ER (barCell (rt c)) 0 false)
    ∗ bigSep Finset.univ (fun i : Fin 15 => dutyTok ER (sCell c i) 0 false) ∗ bigSep Finset.univ (fun i : Fin 15 => dutyTok ER (rCell (rt c) i) 0 false))

/-- What the launch element deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [two_sums, two_sums, bigSep_univ_eq_bigSepL [false, true] (by decide) (by decide)]
    rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants, and the tokens dealt around the ring -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ (toks c ∗ sems4 c)) := by
  have hinv : iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) := by
    rw [← bigSep_sep']
    exact (bigSep_mono fun k _ => (Rounds.body_intro ER (ringRd m ρ) (kcell (c, k))).trans inv_alloc).trans (bigSep_fupd _ _)
  have hs : iprop(semVal (barCell c) 0 ∗ bigSep Finset.univ (fun i : Fin 15 => semVal (sCell c i) 0) ∗ bigSep Finset.univ (fun i : Fin 15 => semVal (rCell c i) 0))
      ⊢ (bigSep Finset.univ fun k : CK => semVal (kcell (c, k)) 0 : sProp 𝕄) := Entails.of_eq (by_kind (fun k : CK => (semVal (kcell (c, k)) 0 : sProp 𝕄))).symm
  rw [ownSems0_eq, unscopedSems0_eq]
  unfold G
  iintro ⟨⟨⟨Hs, Hr⟩, H4⟩, Hb, Hst, Hat, Htok⟩
  ihave Hv := hs $$ [Hs Hr Hb]
  · isplitl [Hb]; · iexact Hb
    isplitl [Hs] <;> iassumption
  imod hinv $$ [Hv Hst] with Hinv
  · isplitl [Hv] <;> iassumption
  imodintro
  isplitl [Hinv]; · iexact Hinv
  isplitl [Hat]; · iexact Hat
  isplitl [Htok] <;> iassumption

/-- The ring's records under the names `K`. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)
instance records_persistent (K : Dev nD × CK → ℕ) : BI.Persistent (records m ρ K) := by unfold records; infer_instance

/-- What stays with device `c`: its positions, the tokens it pays with, its local counters. -/
def linear (c : Dev nD) : sProp 𝕄 :=
  iprop((bigSep Finset.univ fun k : CK => atPos ER (kcell (c, k)) 0 ∅ 0) ∗ (payToks c ∗ sems4 c))
/-- What the global step makes of a device's share. -/
def G' (c : Dev nD) : sProp 𝕄 := iprop(∃ K, records m ρ K ∗ linear c)

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ (fun i : Fin 15 => dutyTok ER (rCell c i) 0 false) : sProp 𝕄))]
  iintro ⟨⟨H1, H2⟩, H3, H4⟩
  isplitl [H1 H2]
  · isplitl [H2]; · iexact H2
    iexact H1
  isplitl [H3]; · iexact H3
  iexact H4

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ (toks c ∗ sems4 c)) : sProp 𝕄)
      ⊢ bigSep Finset.univ (G' m ρ) := by
  have hl : iprop((bigSep Finset.univ fun c : Dev nD => bigSep Finset.univ fun k : CK => (atPos ER (kcell (c, k)) 0 ∅ 0 : sProp 𝕄))
      ∗ (bigSep Finset.univ fun c : Dev nD => payToks c) ∗ (bigSep Finset.univ fun c : Dev nD => sems4 c)) = bigSep Finset.univ fun c : Dev nD => (linear c : sProp 𝕄) := by
    unfold linear; rw [bigSep_sep', bigSep_sep']
  have hg (K : Dev nD × CK → ℕ) : iprop(records m ρ K ∗ bigSep Finset.univ fun c : Dev nD => (linear c : sProp 𝕄)) ⊢ bigSep Finset.univ (G' m ρ) :=
    with_persistent (R := records m ρ K) fun c _ => by unfold G'; iintro H; iexists K; iexact H
  rw [bigSep_sep', bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, H4⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (hg K)
  isplitr
  · unfold records; isplitl; · iexact HI
    iexact HR
  iapply (Entails.of_eq hl)
  isplitl [Hat]; · iexact Hat
  isplitl [Htk] <;> iassumption

/-- Every device's counters and dealt share make the ring's invariants and each device's tokens. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem bar_eq_iff {a b : Dev nD} : barCell a = barCell b ↔ a = b :=
  ⟨fun h => congrArg (fun g : GSem nD τ sig => g.1.1) h, fun h => h ▸ rfl⟩
theorem rS_injective : Function.Injective rS := by decide +kernel
theorem r_eq_iff {a b : Dev nD} {i j : Fin 15} : rCell a i = rCell b j ↔ a = b ∧ i = j :=
  ⟨fun h => ⟨congrArg (fun g : GSem nD τ sig => g.1.1) h, rS_injective (SemLoc.dma.inj (congrArg Prod.snd h))⟩, fun ⟨h, h'⟩ => by rw [h, h']⟩
theorem r_ne_bar {a b : Dev nD} {i : Fin 15} : rCell a i ≠ barCell b := fun h => by cases congrArg Prod.snd h

theorem rt_eq_iff {a b : Dev nD} : a = rt b ↔ b = lt a := ⟨fun h => by rw [h, lt_rt], fun h => by rw [h, rt_lt]⟩
theorem lt_eq_iff {a b : Dev nD} : a = lt b ↔ b = rt a := ⟨fun h => by rw [h, rt_lt], fun h => by rw [h, lt_rt]⟩

theorem owed_bar0 (d c : Dev nD) : owed d 0 (barCell c) () = 0 := by
  by_contra h
  obtain ⟨i, -, hi⟩ := owed_pos (Nat.pos_of_ne_zero h)
  exact r_ne_bar hi.symm
theorem owed_r0 (d c : Dev nD) (i : Fin 15) : owed d 0 (rCell c i) () = if d = lt c then NR i else 0 := by
  unfold owed
  rw [Finset.sum_apply, Finsupp.finset_sum_apply]
  split
  · rename_i h
    subst h
    rw [Finset.sum_eq_single i, tallyAt_apply, rt_lt, if_pos ⟨rfl, rfl⟩]
    · intro j _ hj
      rw [tallyAt_apply, if_neg fun h' => hj (r_eq_iff.mp h'.1).2.symm]
    · intro h; exact absurd (by simp) h
  · rename_i h
    refine Finset.sum_eq_zero fun j _ => ?_
    rw [tallyAt_apply, if_neg fun h' => h (rt_eq_iff.mp (r_eq_iff.mp h'.1).1)]

theorem owed_bar (d c : Dev nD) : owed0 d (barCell c) () = (if d = lt c then 1 else 0) + (if d = rt c then 1 else 0) := by
  unfold owed0 owed1
  rw [Pi.add_apply, Finsupp.add_apply, Pi.add_apply, Finsupp.add_apply, owed_bar0, tallyAt_apply, tallyAt_apply, Nat.zero_add]
  congr 1
  · exact if_congr ⟨fun h => rt_eq_iff.mp (bar_eq_iff.mp h.1), fun h => ⟨bar_eq_iff.mpr (rt_eq_iff.mpr h), rfl⟩⟩ rfl rfl
  · exact if_congr ⟨fun h => lt_eq_iff.mp (bar_eq_iff.mp h.1), fun h => ⟨bar_eq_iff.mpr (lt_eq_iff.mpr h), rfl⟩⟩ rfl rfl
theorem owed_r (d c : Dev nD) (i : Fin 15) : owed0 d (rCell c i) () = if d = lt c then NR i else 0 := by
  unfold owed0 owed1
  rw [Pi.add_apply, Finsupp.add_apply, Pi.add_apply, Finsupp.add_apply, owed_r0, tallyAt_ne_cell r_ne_bar, tallyAt_ne_cell r_ne_bar, Finsupp.zero_apply,
    Nat.add_zero, Nat.add_zero]

theorem launch_bar (c : Dev nD) :
    tallyOn (barCell c) (launchCredit (Pipeline.owing owed0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lt c) fun _ => 1, Finset.sum_ite_eq' Finset.univ (rt c) fun _ => 1, if_pos (Finset.mem_univ _), if_pos (Finset.mem_univ _)]
theorem launch_r (c : Dev nD) (i : Fin 15) :
    tallyOn (rCell c i) (launchCredit (Pipeline.owing owed0) 0 (rCell c i)) = (tallyAt (rCell c i) () (NR i) : CellTallies nD τ sig Unit) := by
  unfold tallyAt; refine congrArg _ (Finsupp.ext fun u => ?_); cases u
  rw [Pipeline.launchCredit_owing, Finsupp.single_eq_same, Finset.sum_congr rfl fun d _ => owed_r d c i, Finset.sum_ite_eq' Finset.univ (lt c) fun _ => NR i,
    if_pos (Finset.mem_univ _)]

theorem creds (c : Dev nD) :
    (Pipeline.launchCred owed0 c : sProp 𝕄) ⊢ iprop(cred (tallyAt (barCell c) () 2) ∗ bigSep Finset.univ (fun i : Fin 15 => cred (tallyAt (rCell c i) () (NR i)))) := by
  have hi : Function.Injective (fun i : Fin 15 => (SemLoc.dma (rS i) : SemLoc sig)) := fun i j h => rS_injective (SemLoc.dma.inj h)
  have hs : (Finset.univ.map ⟨_, hi⟩ : Finset (SemLoc sig)) ⊆ Finset.univ.erase (SemLoc.reg barS) := fun x hx => by
    obtain ⟨i, -, rfl⟩ := Finset.mem_map.mp hx
    exact Finset.mem_erase.mpr ⟨fun h => (by cases h), Finset.mem_univ _⟩
  unfold Pipeline.launchCred
  rw [bigSep_univ_at _ (SemLoc.reg barS), launch_bar]
  refine sep_mono_right ((bigSep_subset hs).trans ?_)
  rw [bigSep_map]
  exact bigSep_mono fun i _ => Entails.of_eq (congrArg cred (launch_r c i))

end Cert.Softmax
-- ==== Proof.Launch.lean ====
/-
# The run of the thirty-two devices

The kernel's proof data, its body on one device from what the launch deals it, and the whole run: it ends, the results
hold the final contents, the arguments are unchanged and every semaphore counter is back at zero.
-/
module

public import proofs.«01_k».proof.Proof.Deal
public import proofs.«01_k».proof.Proof.Gen.KernelIdeal.Points
public import Idealize.ShloMosaic.Lib.Pipeline.CollectiveSegs
public import Idealize.ShloMosaic.Lib.Tactic

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
open Idealize.ShloMosaic.Pipeline (Dat Cfg Window BodyObligation cellOf)

/-! ## What a device starts from and ends with -/

/-- The kernel's own buffers, each whole at any contents. -/
def scr (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f))

/-- The tokens, positions and credits of device `c`. -/
def tok0 (c : Dev nD) : sProp 𝕄 :=
  iprop((bigSep Finset.univ fun k : CK => atPos ER (kcell (c, k)) 0 ∅ 0) ∗ payToks c
    ∗ cred (tallyAt (barCell c) () 2) ∗ bigSep Finset.univ (fun i : Fin 15 => cred (tallyAt (rCell c i) () (NR i))))

theorem tok_intro (c : Dev nD) : iprop(tok0 (F := F) c ∗ Owes c (owed0 c)) ⊢ Tok (F := F) c := by
  have hp : iprop((bigSep Finset.univ (fun i : Fin 15 => dutyTok ER (sCell c i) 0 false) ∗ bigSep Finset.univ (fun i : Fin 15 => dutyTok ER (rCell (rt c) i) 0 false))
      ∗ bigSep Finset.univ (fun i : Fin 15 => atPos ER (sCell c i) 0 ∅ 0)
      ∗ bigSep Finset.univ (fun i : Fin 15 => atPos ER (rCell c i) 0 ∅ 0) ∗ bigSep Finset.univ (fun i : Fin 15 => cred (tallyAt (rCell c i) () (NR i))))
      ⊢ (bigSep Finset.univ (fun i : Fin 15 => Pend0 c i) : sProp 𝕄) := by
    unfold Pend0
    rw [bigSep_sep', bigSep_sep', bigSep_sep', bigSep_sep']
  unfold tok0 payToks Tok
  rw [by_kind]
  iintro ⟨⟨⟨P, Ps, Pr⟩, ⟨Tb, Ts, Tr⟩, Cb, Cr⟩, Ho⟩
  isplitl [Tb]; · iexact Tb
  isplitl [Cb P]
  · isplitl [Cb]; · iexact Cb
    iexact P
  isplitl [Ho]; · iexact Ho
  iapply hp
  isplitl [Ts Tr]
  · isplitl [Ts] <;> iassumption
  isplitl [Ps]; · iexact Ps
  isplitl [Pr]; · iexact Pr
  iexact Cr

def start (c : Dev nD) : sProp 𝕄 :=
  iprop((∃ K, recs m ρ K) ∗ tok0 c ∗ sems4 c ∗ ((c : Thread nD τ).loc main_arg1 ↦{fullShare} wv m c)
    ∗ ((c : Thread nD τ).loc main_v1 ↦{fullShare} m ((c : Thread nD τ).loc main_v1)))
/-- The barrier's counter, and the two arrays the pipeline does not stage, at the end. -/
def fin1 (c : Dev nD) : sProp 𝕄 :=
  iprop(unscopedSems0 c ∗ ((c : Thread nD τ).loc main_arg1 ↦{fullShare} wv m c) ∗ ((c : Thread nD τ).loc main_v1 ↦{fullShare} OUT m ρ c))

def Φ₀ (c : Dev nD) : sProp 𝕄 := iprop(start m ρ c ∗ scr c)
def Φ₁ (c : Dev nD) : sProp 𝕄 := iprop(fin1 m ρ c ∗ Pipeline.ownSems0 osem c ∗ scr c)

theorem pre_intro (c : Dev nD) :
    iprop((tok0 (F := F) c ∗ sems4 c ∗ ((c : Thread nD τ).loc main_arg1 ↦{fullShare} wv m c)
        ∗ ((c : Thread nD τ).loc main_v1 ↦{fullShare} m ((c : Thread nD τ).loc main_v1))) ∗ scr c ∗ Owes c (owed0 c) ∗ xP m ρ c) ⊢ Pre m ρ c := by
  unfold scr sems4 Pre BF GF
  iintro ⟨⟨Ht, ⟨⟨Sw0, Sw1⟩, So0, So1⟩, Hw, Hv⟩, ⟨⟨%f0, H0⟩, ⟨%f1, H1⟩, ⟨%f2, H2⟩, ⟨%f3, H3⟩⟩, Ho, Hx⟩
  ihave H0 := (l_split (F := F) c f0) $$ H0
  ihave H1 := (b_split (F := F) c f1) $$ H1
  ihave H2 := (g_split (F := F) c f2) $$ H2
  ihave H3 := (s_split (F := F) c f3) $$ H3
  icases H0 with ⟨L0, L1, L2, L3⟩
  icases H1 with ⟨B0, B1⟩
  icases H2 with ⟨G0, G1⟩
  icases H3 with ⟨S0, S1, S2, S3⟩
  isplitl [Ht Ho]
  · iapply (tok_intro (F := F) c); isplitl [Ht] <;> iassumption
  isplitl [Hx]; · iexact Hx
  isplitl [Hw]; · iapply (w_split m c); iexact Hw
  isplitl [B0 B1 Sw0 Sw1]
  · isplitl [B0 Sw0]
    · isplitl [B0] <;> iassumption
    isplitl [B1] <;> iassumption
  isplitl [L1 L2 L3 S1 S2 S3]
  · iapply (arrivals (F := F) c)
    isplitl [L1 L2 L3]
    · isplitl [L1]; · iexact L1
      isplitl [L2] <;> iassumption
    isplitl [S1]; · iexact S1
    isplitl [S2] <;> iassumption
  isplitl [L0]; · iapply (own_pairs (F := F) c); iexact L0
  isplitl [S0]; · iexact S0
  isplitl [G0 G1 So0 So1]
  · isplitl [G0 So0]
    · isplitl [G0] <;> iassumption
    isplitl [G1] <;> iassumption
  iapply (o_split m ρ c (m ((c : Thread nD τ).loc main_v1)))
  iexact Hv

theorem done_join (c : Dev nD) : (bigSep Finset.univ (fun i : Fin 15 => Done (F := F) c i)) ⊢
    iprop(bigSep Finset.univ (fun i : Fin 15 => semVal (sCell c i) 0) ∗ bigSep Finset.univ (fun i : Fin 15 => semVal (rCell c i) 0)) := by
  unfold Done; rw [bigSep_sep']

theorem post_elim (c : Dev nD) : Post m ρ c ⊢ iprop(Φ₁ m ρ c ∗ Owes (F := F) c (owed c 15) ∗ xP m ρ c) := by
  have hd := done_join (F := F) c
  rw [bigSep_fifteen] at hd
  unfold Post Φ₁ fin1 scr BF GF
  rw [ownSems0_eq, unscopedSems0_eq]
  unfold sems4
  iintro ⟨Hb, Hx, Hw, ⟨⟨B0, Sw0⟩, B1, Sw1⟩, Ho, HL, HO, ⟨⟨G0, So0⟩, G1, So1⟩, HS, HD⟩
  ihave HD := hd $$ HD
  isplitr [Ho Hx]
  · isplitl [Hb Hw HO]
    · isplitl [Hb]; · iexact Hb
      isplitl [Hw]; · iapply (w_join m c); iexact Hw
      iapply (o_join m ρ c); iexact HO
    isplitl [HD Sw0 Sw1 So0 So1]
    · isplitl [HD]; · iexact HD
      isplitl [Sw0 Sw1]
      · isplitl [Sw0] <;> iassumption
      isplitl [So0] <;> iassumption
    isplitl [HL]; · iapply (l_join m ρ c); iexact HL
    isplitl [B0 B1]
    · iapply (b_join (F := F) c); isplitl [B0] <;> iassumption
    isplitl [G0 G1]
    · iapply (g_join (F := F) c); isplitl [G0] <;> iassumption
    iapply (s_join m ρ c); iexact HS
  isplitl [Ho] <;> iassumption

/-! ## The proof data and the body's obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
  Φ t := match t with
    | ⟨0, _⟩ => Φ₀ m ρ c
    | ⟨_ + 1, _⟩ => Φ₁ m ρ c
  q _ := fullShare
  owed t := match t with
    | ⟨0, _⟩ => owed0 c
    | ⟨_ + 1, _⟩ => 0

theorem stg_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- A staging buffer held at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m ρ c ∗ (dats m ρ 0 c).owesAt () t0_0.succ ∗ stg c cc0_stg0_0 (xv m ρ c))

theorem bodyPre_open (c : Dev nD) : bodyPre m ρ c ⊢ iprop((∃ K, recs m ρ K) ∗ Pre m ρ c) := by
  unfold bodyPre Φ₀ start Dat.owesAt Pipeline.owesWithin
  iintro ⟨⟨⟨HK, Hs⟩, Hscr⟩, ⟨%W, %hW, HO⟩, ⟨%d0, %g0, %hg0, Hx⟩⟩
  have hx : g0 = xv m ρ c := by rw [hg0]; unfold Dat.before; rw [if_pos (fetch0_0 t0_0)]; rfl
  subst hx
  isplitl [HK]; · iexact HK
  iapply (pre_intro m ρ c)
  isplitl [Hs]; · iexact Hs
  isplitl [Hscr]; · iexact Hscr
  isplitl [HO]
  · unfold Owes; iexists W; iexact HO
  unfold xP; iexact Hx

theorem bodyPost_close (c : Dev nD) : Post m ρ c ⊢ bodyPost m ρ c := by
  refine (post_elim m ρ c).trans ?_
  unfold bodyPost Dat.owesAt Pipeline.owesWithin Owes xP
  rw [show (dats m ρ 0 c).owed t0_0.succ = 0 from rfl, owed_last]
  iintro ⟨H, ⟨%W, HO⟩, Hx⟩
  isplitl [H]; · iexact H
  isplitl [HO]
  · iexists W
    isplitr; · ipureintro; exact fun _ _ => Or.inl trivial
    iexact HO
  iexists _; isplitr; · (ipureintro; rfl)
  iexact Hx

set_option maxRecDepth 4000 in
/-- The kernel's body, from what it is handed at the grid's one point. -/
theorem body_obligation (c : Dev nD) : BodyObligation (dats (F := F) m ρ 0 c) (defs₀ (F := F)) 𝒱₀ () Set.univ := fun t => by
  rw [fin_N0 t]
  rw [bigSep_W0, bigSep_W0]
  simp only [stg_eq]
  show bodyPre m ρ c ⊢ WP c (cc0_body xM (Memref.isWhole_whole _) wM (Memref.isWhole_whole _) oM (Memref.isWhole_whole _) lM (Memref.isWhole_whole _) bM (Memref.isWhole_whole _) gM (Memref.isWhole_whole _) sM (Memref.isWhole_whole _) cc0_scratch4 cc0_scratch5 cc0_scratch6 cc0_scratch7 cc0_scratch8 cc0_scratch9)
    (fun _ => bodyPost m ρ c)
  refine (bodyPre_open m ρ c).trans ?_
  iintro ⟨⟨%K, HR⟩, HP⟩
  iapply (run_body m ρ K c) $$ [HR HP]
  · isplitl [HR] <;> iassumption
  iintro H
  iapply (bodyPost_close m ρ c)
  iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m ρ c)
      ⊢ |={Set.univ}=> iprop(start m ρ c ∗ emp) := by
  rw [Pipeline.unscopedRestP_none, unscopedRest0_eq]
  unfold G' start tok0 linear
  iintro ⟨⟨Hw, Hv⟩, Hlev, Hcr, -, ⟨%K, Hrec, Hat, Htok, H4⟩⟩
  ihave Hc := (creds (F := F) c) $$ Hcr
  icases Hc with ⟨C1, C2⟩
  imodintro
  isplitl
  · isplitl [Hrec Hlev]
    · iexists K
      unfold recs records
      icases Hrec with ⟨R1, R2⟩
      isplitl [R1]; · iexact R1
      isplitl [R2] <;> iassumption
    isplitl [Hat Htok C1 C2]
    · isplitl [Hat]; · iexact Hat
      isplitl [Htok]; · iexact Htok
      isplitl [C1] <;> iassumption
    isplitl [H4]; · iexact H4
    isplitl [Hw]; · iexact Hw
    iexact Hv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(fin1 m ρ c ∗ Pipeline.ownSems0 osem c ∗ Pipeline.scopedRest cfg0.spec c) := by
  rw [show (dats m ρ 0 c).Φ (Fin.last cfg0.N) = Φ₁ m ρ c from rfl, scopedRest0_eq]
  unfold Φ₁ scr
  exact .rfl

theorem waits (c : Dev nD) : (levAts L lv : sProp 𝕄) ⊢ Pipeline.cellsWaits cfgs (dats m ρ) () 0 c :=
  Pipeline.cellsWaits_intro cfgs (dats m ρ) () 0 c fun w s t => by
    have hl : lvOf (.dma ((cfg0.win w).sem s)) = 0 := by fin_cases w <;> fin_cases s <;> rfl
    rcases t with ⟨_ | _, ht⟩
    · exact mayWait_start c _ hl
    · have h := mayWait_owed (F := F) c (.dma ((cfg0.win w).sem s)) 15 (by rw [hl]; decide)
      rw [owed_last] at h
      exact h

theorem ring_half : (BI.own ((embR : Emb (UB × Counters) 𝕄) (initOf ringCells ringToks, 1)) : sProp 𝕄)
    ⊢ iprop(BI.own ((ER : Emb UB 𝕄) (initOf ringCells ringToks)) ∗ BI.own (((Emb.inr : Emb Counters (UB × Counters)).trans (embR : Emb (UB × Counters) 𝕄)) 1)) := by
  unfold ER
  exact BI.own_op_elim ((embR : Emb (UB × Counters) 𝕄).op_of_mem (Prod.mk_mem_op (URA.mem_op_one _) (URA.mem_one_op _)))

/-- The memory after the run: every device's result, and its arguments as they were. -/
def Good (r : MemSt nD τ sig (Elt F)) : Prop := ∀ c : Dev nD,
  r.mem ((c : Thread nD τ).loc main_v1) = OUT m ρ c
  ∧ r.mem ((c : Thread nD τ).loc main_arg0) = m ((c : Thread nD τ).loc main_arg0)
  ∧ r.mem ((c : Thread nD τ).loc main_arg1) = m ((c : Thread nD τ).loc main_arg1)

theorem read_end (c : Dev nD) (s' : Phys nD τ sig (Elt F)) : iprop(fin1 m ρ c ∗ emp ∗ Idealize.ShloMosaic.SI s')
    ⊢ |={Set.univ}=> (iprop(⌜(∀ sm : SemLoc sig, sm.isScoped .tc = false → s'.mem.sem ((c.tc : Thread nD τ), sm) = 0)
        ∧ s'.mem.mem ((c : Thread nD τ).loc main_v1) = OUT m ρ c ∧ s'.mem.mem ((c : Thread nD τ).loc main_arg1) = m ((c : Thread nD τ).loc main_arg1)⌝ ∗ Idealize.ShloMosaic.SI s') : sProp 𝕄) := by
  unfold fin1
  iintro ⟨⟨Hu, Hw, Hv⟩, -, HSI⟩
  icombine HSI Hw gives %hw
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hv, Buf.eq_of_forall_mem_univ hw⟩
  iexact HSI

set_option maxRecDepth 8000 in
/-- From any memory with zero counters, for any float values: every weakly fair execution of the thirty-two devices ends,
    with every device's result at its final contents, the arguments unchanged and every counter at zero. -/
theorem run_main : θ_run defs (onTc (τ := τ) (main (F := F))) (s₀ m ρ) (fun r => Good m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w; exact Nat.succ_pos _) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (ring_half (F := F)) $$ HX
      icases HX with ⟨HX, -⟩
      imod (fund_ring m ρ) $$ HX with HG
      imodintro
      isplitl [HP] <;> iassumption)
    (hglob := glob m ρ)
    (hA := fun _ _ => rfl) (hpf := fun _ k => k.elim0)
    (X := start m ρ) (Y := fin1 m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_v1) = OUT m ρ c ∧ s.mem ((c : Thread nD τ).loc main_arg1) = m ((c : Thread nD τ).loc main_arg1))
    (hY := read_end m ρ)
    (hQ := fun _ h hs => ⟨fun c => ⟨(h c).2.2.2.1, ((h c).1 0).trans ((dats (F := F) m ρ 0 c).arrAt_in (0 : Fin 1) rfl _), (h c).2.2.2.2⟩,
      sem_eq_zero hs fun c => (h c).2.2.1⟩)

end Cert.Softmax
-- ==== Proof.Frames.lean ====
/-
# The kernel's frames

The run of the thirty-two devices, read at the argument arrays and the semaphore counters: once at the machine's float
values, once at the ideal ones.
-/
module

public import proofs.«01_k».proof.Defs
public import proofs.«01_k».proof.Proof.Gen.Kernel
public import proofs.«01_k».proof.Proof.Launch

@[expose] public section

set_option maxRecDepth 100000

noncomputable section

namespace Cert.Softmax

open Idealize.ShloMosaic Idealize.ShloMosaic.TcCoe
open Idealize.SL Idealize.SL.Sem

/-- After the run each device's arguments hold what they held, and every counter is zero, at any float values. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main (F := F) m g)

/-- The two printings of the kernel have the same body table: the one label runs the same function. -/
theorem same_defs₀ {F : FTy → Type} [FloatOps F] : Cert.Kernel.defs₀ (F := F) = Cert.KernelIdeal.defs₀ (F := F) := by
  unfold Cert.Kernel.defs₀ Cert.KernelIdeal.defs₀
  refine congrArg (Defs.onTc (nD := 32) (τ := Topo.v7x) (sig := Cert.KernelIdeal.sig) (Λ := Cert.KernelIdeal.Λ₀)) ?_
  funext l a
  match l, a with
  | 0, (t, s) => rfl

/-- The same with the launch's labels added. -/
theorem same_defs {F : FTy → Type} [FloatOps F] : Cert.Kernel.defs (F := F) = Cert.KernelIdeal.defs (F := F) :=
  congrArg (Pipeline.defs (Cert.KernelIdeal.pcfgs (F := F))) same_defs₀

/-- The kernel ends, keeps its arguments and leaves every counter at zero, at the machine's float values. -/
theorem frame_kernel : Cert.quiescent_Kernel := by
  intro m g _
  have h := frame_any (F := Bits) m g
  rw [← same_defs] at h
  exact h

/-- The same at the ideal values. -/
theorem frame_kernelIdeal : Cert.quiescent_KernelIdeal := fun m g _ => frame_any (F := Ideal) m g

end Cert.Softmax

end
-- ==== Proof.RealSoftmax.lean ====
/-
# Softmax of finite numbers

The mathematics of the value claim, away from any program: sums of finite numbers are finite, a sum over columns may be
taken block by block, and a softmax does not change when one number is taken from every logit first.
-/
module

public import Idealize.ShloMosaic.PureOps.Ideal.Laws

@[expose] public section

noncomputable section

namespace Cert.Softmax

open Idealize.ShloMosaic

/-- A sum of finite extended reals is the sum of the reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of finite extended reals. -/
theorem coe_dot {n : ℕ} (f g : Fin n → ℝ) :
    ∑ k : Fin n, (f k : EReal) * (g k : EReal) = ((∑ k : Fin n, f k * g k : ℝ) : EReal) := by
  rw [← coe_sum]
  exact Finset.sum_congr rfl fun k _ => (EReal.coe_mul _ _).symm

/-- A sum over `a` blocks of `b` is the sum over `a * b`. -/
theorem sum_by_blocks (h : ℕ → ℝ) (a b : ℕ) :
    ∑ i ∈ Finset.range a, ∑ q ∈ Finset.range b, h (b * i + q) = ∑ j ∈ Finset.range (a * b), h j := by
  induction a with
  | zero => simp
  | succ a ih => rw [Finset.sum_range_succ, ih, Nat.succ_mul, Finset.sum_range_add, Nat.mul_comm b a]

/-- The largest of finitely many, at least one, finite numbers is finite. -/
theorem fold_max_finite {n : ℕ} (hn : 0 < n) (f : Fin n → ℝ) :
    ∃ M : ℝ, (Finset.univ : Finset (Fin n)).fold max (⊥ : EReal) (fun k => (f k : EReal)) = (M : EReal) := by
  set v := (Finset.univ : Finset (Fin n)).fold max (⊥ : EReal) (fun k => (f k : EReal)) with hv
  have h1 : v ≠ ⊤ := ne_of_lt ((Finset.fold_max_lt _).mpr ⟨bot_lt_top, fun x _ => EReal.coe_lt_top _⟩)
  have h2 : v ≠ ⊥ := (ne_of_lt ((Finset.lt_fold_max (⊥ : EReal)).mpr (Or.inr ⟨(⟨0, hn⟩ : Fin n), Finset.mem_univ _, EReal.bot_lt_coe _⟩))).symm
  exact ⟨v.toReal, (EReal.coe_toReal h1 h2).symm⟩

/-- The softmax of the `n` numbers `g 0, g 1, …` at `j`. -/
def soft (n : ℕ) (g : ℕ → ℝ) (j : ℕ) : ℝ := Real.exp (g j) / ∑ i ∈ Finset.range n, Real.exp (g i)

/-- The sum of the exponentials, each number lowered by `a`. -/
def total (n : ℕ) (g : ℕ → ℝ) (a : ℝ) : ℝ := ∑ i ∈ Finset.range n, Real.exp (g i - a)

theorem total_pos {n : ℕ} (hn : 0 < n) (g : ℕ → ℝ) (a : ℝ) : 0 < total n g a :=
  Finset.sum_pos (fun _ _ => Real.exp_pos _) ⟨0, Finset.mem_range.mpr hn⟩

/-- Lowering every number by `a` does not change the softmax. -/
theorem soft_shift (n : ℕ) (g : ℕ → ℝ) (a : ℝ) (j : ℕ) : Real.exp (g j - a) / total n g a = soft n g j := by
  unfold total soft
  simp only [Real.exp_sub]
  rw [← Finset.sum_div, div_div_div_cancel_right₀ (Real.exp_ne_zero a)]

/-- The softmax as a division of extended reals. -/
theorem soft_div {n : ℕ} (hn : 0 < n) (g : ℕ → ℝ) (a : ℝ) (j : ℕ) :
    Ideal.div ((Real.exp (g j - a) : ℝ) : EReal) ((total n g a : ℝ) : EReal) = ((soft n g j : ℝ) : EReal) := by
  rw [Ideal.div_coe (total_pos hn g a).ne', ← EReal.coe_mul, ← soft_shift n g a j, mul_one_div]

/-- The softmax as a product with one over the sum. -/
theorem soft_mul {n : ℕ} (hn : 0 < n) (g : ℕ → ℝ) (a : ℝ) (j : ℕ) :
    ((Real.exp (g j - a) : ℝ) : EReal) * Ideal.div 1 ((total n g a : ℝ) : EReal) = ((soft n g j : ℝ) : EReal) := by
  rw [Ideal.div_coe (total_pos hn g a).ne', one_mul, ← EReal.coe_mul, ← soft_shift n g a j, mul_one_div]

end Cert.Softmax

end
-- ==== Proof.Payloads.lean ====
/-
# The kernel's arithmetic at the ideal values

Each value the kernel computes, read at one index over the extended reals: a tile of exponentials, its row sums, the
reciprocal of the ring's row sums and a tile of the result.
-/
module

public import proofs.«01_k».proof.Proof.Setup
public import proofs.«01_k».proof.Proof.RealSoftmax
public import Idealize.ShloMosaic.Lib.ValueIdx
public import Idealize.ShloMosaic.Lib.ValueLayout
public import Idealize.ShloMosaic.Lib.IdealHost

@[expose] public section

noncomputable section

namespace Cert.Softmax

open Cert.KernelIdeal Cert.KernelIdeal.Gen
open Idealize.ShloMosaic

/-- The two spellings of an index. -/
theorem ix2_eq {a b : ℕ} (i : Fin a) (j : Fin b) : ix2 i j = ValueIdx.ix2 i j := by
  funext q; match q with | 0 => rfl | 1 => rfl
theorem ix3_eq {a b d : ℕ} (i : Fin a) (j : Fin b) (k : Fin d) : ix3 i j k = ValueIdx.ix3 i j k := by
  funext q; match q with | 0 => rfl | 1 => rfl | 2 => rfl

/-- The constant the kernel takes from every logit is four. -/
theorem four : Ideal.ofBits .f32 0x40800000#32 = ((4 : ℝ) : EReal) := by
  simp [Ideal.ofBits, Ideal.ieee, -EReal.coe_mul]; norm_num

/-- The kernel's product of `x` with a tile of `W`: the sum over the 1024 inner positions. -/
theorem dot_apply (x : FVec Ideal S512x1024 .bf16) (w : FVec Ideal S1024x1024 .bf16) (p : Fin 512) (q : Fin 1024) :
    matmul dot_S512x1024_S1024x1024_S512x1024_1_0_0_1_n_n none x w (constant S512x1024 .f32 0x00000000#32) (ValueIdx.ix2 p q)
      = ∑ k : Fin 1024, x (ValueIdx.ix2 p k) * w (ValueIdx.ix2 k q) := by
  simp only [matmul]
  rw [Ideal.matmul_constant_zero_apply,
    ← Equiv.sum_comp (ValueIdx.contrEquiv1 dot_S512x1024_S1024x1024_S512x1024_1_0_0_1_n_n 1024 rfl rfl).symm]
  refine Finset.sum_congr rfl fun k _ => ?_
  refine congrArg₂ (· * ·) (congrArg x ?_) (congrArg w ?_)
  · funext a; match a with | ⟨0, _⟩ => rfl | ⟨1, _⟩ => rfl
  · funext a; match a with | ⟨0, _⟩ => rfl | ⟨1, _⟩ => rfl

/-- A tile of exponentials. -/
theorem pay1_apply (x : Vec Ideal S512x1024 .bf16) (w : Vec Ideal S1x1024x1024 .bf16) (p : Fin 512) (q : Fin 1024) :
    k0_pay1 x w (ValueIdx.ix2 p q)
      = Ideal.exp ((∑ k : Fin 1024, x (ValueIdx.ix2 p k) * w (ValueIdx.ix3 0 k q)) - ((4 : ℝ) : EReal)) := by
  unfold k0_pay1
  show Ideal.exp (_ - Ideal.ofBits .f32 0x40800000#32) = _
  rw [four, dot_apply]
  refine congrArg (fun s => Ideal.exp (s - _)) (Finset.sum_congr rfl fun k _ => ?_)
  rw [ValueIdx.shapeCast_1ab_ab_apply, shapeCast_apply _ _ _ (ValueIdx.ix2 p k) rfl]

/-- The tile as stored. -/
theorem pay2_apply (x : Vec Ideal S512x1024 .bf16) (w : Vec Ideal S1x1024x1024 .bf16) (p : Fin 512) (q : Fin 1024) :
    k0_pay2 x w (ValueIdx.ix3 0 p q) = k0_pay1 x w (ValueIdx.ix2 p q) := by
  unfold k0_pay2
  rw [shapeCast_apply _ _ _ (ValueIdx.ix3 0 p q) rfl, ValueIdx.shapeCast_ab_1ab_apply]
  rfl

/-- The running row sum: what it was and the tile's row. -/
theorem pay3_apply (s : FVec Ideal S512x1 .f32) (x : Vec Ideal S512x1024 .bf16) (w : Vec Ideal S1x1024x1024 .bf16)
    (p : Fin 512) :
    k0_pay3 s x w (ValueIdx.ix2 p 0) = s (ValueIdx.ix2 p 0) + ∑ q : Fin 1024, k0_pay1 x w (ValueIdx.ix2 p q) := by
  unfold k0_pay3
  show s _ + _ = _
  rw [shapeCast_apply _ _ _ (ValueIdx.ix1 p) (by
    rw [Shape.rowMajor_val_one, Shape.rowMajor_val_two]; show p.val = p.val * 1 + 0; omega)]
  refine congrArg (s _ + ·) ((Ideal.multiReduction_add_single (k0_pay1 x w) _ reduces_S512x1024_S512 (.inl rfl) rfl _).trans
    (Finset.sum_congr rfl fun q _ => congrArg _ ?_))
  funext a; match a with | ⟨0, _⟩ => rfl | ⟨1, _⟩ => rfl

/-- It starts at zero. -/
theorem pay4_apply (p : Fin 512) : (k0_pay4 (F := Ideal)) (ValueIdx.ix2 p 0) = 0 := Ideal.ofBits_zero_f32

/-- The row sums as stored. -/
theorem pay65_apply (s : FVec Ideal S512x1 .f32) (p : Fin 512) :
    k0_pay6 (k0_pay5 s) (ValueIdx.ix3 0 p 0) = s (ValueIdx.ix2 p 0) := by
  unfold k0_pay6 k0_pay5
  rw [shapeCast_apply _ _ _ (ValueIdx.ix3 0 p 0) rfl, ValueIdx.shapeCast_ab_1ab_apply]

/-- One over the sum of the four row sums. -/
theorem pay9_apply (a b d e : Vec Ideal S1x512x1 .f32) (p : Fin 512) :
    k0_pay9 (k0_pay7 a b) (k0_pay8 d) e (ValueIdx.ix2 p 0)
      = Ideal.div 1 (a (ValueIdx.ix3 0 p 0) + b (ValueIdx.ix3 0 p 0) + d (ValueIdx.ix3 0 p 0) + e (ValueIdx.ix3 0 p 0)) := by
  unfold k0_pay9 k0_pay8 k0_pay7
  show Ideal.div (Ideal.ofBits .f32 0x3F800000#32)
    (shapeCast S512x1 a shapeCasts_S1x512x1_S512x1 (ValueIdx.ix2 p 0) + shapeCast S512x1 b shapeCasts_S1x512x1_S512x1 (ValueIdx.ix2 p 0)
      + shapeCast S512x1 d shapeCasts_S1x512x1_S512x1 (ValueIdx.ix2 p 0) + shapeCast S512x1 e shapeCasts_S1x512x1_S512x1 (ValueIdx.ix2 p 0)) = _
  rw [Ideal.ofBits_one_f32, ValueIdx.shapeCast_1ab_ab_apply, ValueIdx.shapeCast_1ab_ab_apply,
    ValueIdx.shapeCast_1ab_ab_apply, ValueIdx.shapeCast_1ab_ab_apply]

/-- A tile of the result: the tile of exponentials, each row times its factor. -/
theorem pay12_apply (r : FVec Ideal S512x1 .f32) (e : Vec Ideal S1x512x1024 .bf16) (p : Fin 512) (q : Fin 1024) :
    k0_pay12 r e (ValueIdx.ix3 0 p q) = e (ValueIdx.ix3 0 p q) * r (ValueIdx.ix2 p 0) := by
  unfold k0_pay12
  rw [shapeCast_apply _ _ _ (ValueIdx.ix3 0 p q) rfl, ValueIdx.shapeCast_ab_1ab_apply]
  show shapeCast _ e _ (ValueIdx.ix2 p q) * broadcastTo _ r _ (ValueIdx.ix2 p q) = _
  rw [ValueIdx.shapeCast_1ab_ab_apply, broadcastTo_apply r _ _ (ValueIdx.ix2 p 0) (fun a => by
    match a with | ⟨0, _⟩ => rfl | ⟨1, _⟩ => rfl)]

end Cert.Softmax

end
-- ==== Proof.KernelValue.lean ====
/-
# What the kernel computes

If `x` and `W` hold finite numbers, every device's result is the softmax of the rows of `x @ W`.
-/
module

public import proofs.«01_k».proof.Proof.Payloads

@[expose] public section

noncomputable section

namespace Cert.Softmax

open Cert.KernelIdeal Cert.KernelIdeal.Gen
open Idealize.ShloMosaic Idealize.ShloMosaic.TcCoe

variable (m : (ℓ : Loc nD τ sig) → Buf (Elt Ideal) ℓ) (ρ : Dev nD → PrngReg)
variable (X : Fin 512 → Fin 1024 → ℝ) (W : Fin 1024 → ℕ → ℝ)

/-- Row `p`, column `j` of the product of `X` and `W`. -/
def logit (p : Fin 512) (j : ℕ) : ℝ := ∑ k : Fin 1024, X p k * W k j

/-- Every device's arguments are finite: the whole of `X`, and the block of `W`'s columns of its place in the ring. -/
structure Holds : Prop where
  x (c : Dev nD) (p : Fin 512) (k : Fin 1024) : xv m ρ c (ValueIdx.ix2 p k) = (X p k : EReal)
  w (c : Dev nD) (k : Fin 1024) (q : Fin 8192) : wv m c (ValueIdx.ix2 k q) = (W k (8192 * yOf c + q.val) : EReal)

variable {m ρ X W}

/-- An entry of tile `t` of a device's exponentials. -/
theorem exp_value (H : Holds m ρ X W) (c : Dev nD) {t : ℕ} (ht : t < 8) (p : Fin 512) (q : Fin 1024) :
    k0_pay1 (xv m ρ c) (wT m c t) (ValueIdx.ix2 p q)
      = ((Real.exp (logit X W p (8192 * yOf c + (1024 * t + q.val)) - 4) : ℝ) : EReal) := by
  rw [pay1_apply, Finset.sum_congr rfl (g := fun k => (X p k : EReal) * (W k (8192 * yOf c + (1024 * t + q.val)) : EReal))
    (fun k _ => ?_), coe_dot, ← EReal.coe_sub, Ideal.exp_coe]
  · rfl
  · rw [H.x c p k]
    refine congrArg _ ?_
    show wv m c (ix2 k ⟨1024 * (t % 8) + q.val, _⟩) = _
    rw [ix2_eq, H.w]
    show (W k (8192 * yOf c + (1024 * (t % 8) + q.val)) : EReal) = _
    rw [Nat.mod_eq_of_lt ht]

/-- A device's row sum over its first `n` tiles. -/
theorem rowSum_value (H : Holds m ρ X W) (c : Dev nD) (p : Fin 512) {n : ℕ} (hn : n ≤ 8) :
    rowSum m ρ c n (ValueIdx.ix2 p 0) = ((∑ t ∈ Finset.range n, ∑ q ∈ Finset.range 1024,
      Real.exp (logit X W p (8192 * yOf c + (1024 * t + q)) - 4) : ℝ) : EReal) := by
  induction n with
  | zero => rw [Finset.sum_range_zero, EReal.coe_zero]; exact pay4_apply p
  | succ n ih =>
    show k0_pay3 (rowSum m ρ c n) (xv m ρ c) (wT m c n) (ValueIdx.ix2 p 0) = _
    rw [pay3_apply, ih (by omega), Finset.sum_range_succ, EReal.coe_add]
    refine congrArg _ ?_
    rw [Finset.sum_congr rfl fun q _ => exp_value H c (show n < 8 by omega) p q, coe_sum, Finset.sum_range]

/-- A device's row sum over its whole block. -/
theorem stat_value (H : Holds m ρ X W) (c : Dev nD) (p : Fin 512) :
    stat m ρ c (ValueIdx.ix3 0 p 0)
      = ((∑ j ∈ Finset.range 8192, Real.exp (logit X W p (8192 * yOf c + j) - 4) : ℝ) : EReal) := by
  unfold stat
  rw [pay65_apply, rowSum_value H c p le_rfl, sum_by_blocks (fun j => Real.exp (logit X W p (8192 * yOf c + j) - 4))]

/-- One over the row sum over all columns. -/
theorem recip_value (H : Holds m ρ X W) (c : Dev nD) (p : Fin 512) :
    recip m ρ c (ValueIdx.ix2 p 0) = Ideal.div 1 ((total 32768 (logit X W p) 4 : ℝ) : EReal) := by
  unfold recip
  rw [pay9_apply, stat_value H, stat_value H, stat_value H, stat_value H, ← EReal.coe_add, ← EReal.coe_add, ← EReal.coe_add]
  simp only [yOf_devAt]
  refine congrArg (fun s : ℝ => Ideal.div 1 (s : EReal)) ?_
  have h := sum_by_blocks (fun j => Real.exp (logit X W p j - 4)) 4 8192
  rw [Finset.sum_range_succ, Finset.sum_range_succ, Finset.sum_range_succ, Finset.sum_range_succ, Finset.sum_range_zero, zero_add] at h
  exact h

/-- Every device's result is the softmax of the product's rows. -/
theorem out_value (H : Holds m ρ X W) (c : Dev nD) (p : Fin 512) (j : Fin 32768) :
    OUT m ρ c (ValueIdx.ix2 p j) = ((soft 32768 (logit X W p) j.val : ℝ) : EReal) := by
  have hj := j.isLt
  show k0_pay12 (recip m ρ c) (lT m ρ c (j.val / 1024)) (ix3 0 p ⟨j.val % 1024, _⟩) = _
  rw [ix3_eq, pay12_apply, recip_value H, ← soft_mul (by decide) (logit X W p) 4]
  refine congrArg (· * _) ?_
  show k0_pay2 (xv m ρ (devAt c (j.val / 1024 / 8))) (wT m (devAt c (j.val / 1024 / 8)) (j.val / 1024 % 8)) (ValueIdx.ix3 0 p _) = _
  rw [pay2_apply, exp_value H _ (Nat.mod_lt _ (by decide)), yOf_devAt]
  show ((Real.exp (logit X W p (8192 * (j.val / 1024 / 8 % 4) + (1024 * (j.val / 1024 % 8) + j.val % 1024)) - 4) : ℝ) : EReal) = _
  rw [show 8192 * (j.val / 1024 / 8 % 4) + (1024 * (j.val / 1024 % 8) + j.val % 1024) = j.val by omega]

end Cert.Softmax

end
-- ==== Proof.ReferenceValue.lean ====
/-
# What the reference computes

If `x` and `W` hold finite numbers, the reference's result is the softmax of the rows of `x @ W`: each row's largest
logit is finite, and taking it from every logit changes nothing.
-/
module

public import proofs.«01_k».proof.Proof.RealSoftmax
public import proofs.«01_k».proof.Proof.Gen.ReferenceIdeal
public import Idealize.ShloMosaic.Lib.ValueIdx
public import Idealize.ShloMosaic.Lib.IdealHost
public import Idealize.ShloMosaic.Lib.Pipeline.Value

@[expose] public section

noncomputable section

namespace Cert.Softmax.Ref

open Cert.ReferenceIdeal Cert.ReferenceIdeal.Gen
open Idealize.ShloMosaic

variable (x : FVec Ideal S512x1024 .bf16) (w : FVec Ideal S1024x32768 .bf16)

/-- The logits. -/
def logits : FVec Ideal S512x32768 .f32 :=
  Host.dotGeneral dot_S512x1024_S1024x32768_S512x32768_1_0_0_1_n_n none (extf .f32 x bitsLt_bf16_f32) (extf .f32 w bitsLt_bf16_f32)
/-- A value for each row, given to every column. -/
def wide (v : FVec Ideal S512 .f32) : FVec Ideal S512x32768 .f32 :=
  broadcastInDim S512x32768 ![0, 1] bcast_S512x1_S512x32768_0_1 (broadcastInDim S512x1 ![0] bcast_S512_S512x1_0 v)
/-- Each row's largest logit. -/
def largest : FVec Ideal S512 .f32 :=
  Host.reduce FloatOps.maximumf (logits x w) (constant S_ .f32 0xFF800000#32) reducesTo_S512x32768_S512_d1 h_S_
/-- The exponentials of the lowered logits. -/
def exps : FVec Ideal S512x32768 .f32 := Host.exp (subf (logits x w) (wide (largest x w)))
/-- The result. -/
def result : FVec Ideal S512x32768 .f32 :=
  Host.divf (exps x w)
    (wide (Host.reduceAdd (exps x w) (constant S_ .f32 0x00000000#32) reducesTo_S512x32768_S512_d1 h_S_))

/-- The pattern of minus infinity. -/
theorem minus_infinity : Ideal.ofBits .f32 0xFF800000#32 = ⊥ := by
  simp [Ideal.ofBits, Ideal.ieee]

/-- The shape fact that names the column of a row. -/
theorem reduces_columns : S512x32768.Reduces [1] S512 := by decide

/-- Inserting the column `j` in the row index `p`. -/
theorem lift_columns (p : Fin 512) (j : Fin 32768) : reduces_columns.lift (ValueIdx.ix1 p) j = ValueIdx.ix2 p j := by
  funext a; match a with | ⟨0, _⟩ => rfl | ⟨1, _⟩ => rfl

/-- A row's value at any column. -/
theorem wide_apply (v : FVec Ideal S512 .f32) (p : Fin 512) (j : Fin 32768) : wide v (ValueIdx.ix2 p j) = v (ValueIdx.ix1 p) := by
  unfold wide
  rw [broadcastInDim_apply _ _ _ _ (ValueIdx.ix2 p 0) (fun a => by match a with | ⟨0, _⟩ => rfl | ⟨1, _⟩ => rfl),
    broadcastInDim_apply _ _ _ _ (ValueIdx.ix1 p) (fun a => by match a with | ⟨0, _⟩ => rfl)]

/-- A logit: the sum over the 1024 inner positions. -/
theorem logits_apply (p : Fin 512) (j : Fin 32768) :
    logits x w (ValueIdx.ix2 p j) = ∑ k : Fin 1024, x (ValueIdx.ix2 p k) * w (ValueIdx.ix2 k j) := by
  unfold logits
  simp only [Host.dotGeneral]
  rw [Ideal.dotGeneral_apply,
    ← Equiv.sum_comp (ValueIdx.contrEquiv1 dot_S512x1024_S1024x32768_S512x32768_1_0_0_1_n_n 1024 rfl rfl).symm]
  refine Finset.sum_congr rfl fun k _ => ?_
  refine congrArg₂ (· * ·) (congrArg x ?_) (congrArg w ?_)
  · funext a; match a with | ⟨0, _⟩ => rfl | ⟨1, _⟩ => rfl
  · funext a; match a with | ⟨0, _⟩ => rfl | ⟨1, _⟩ => rfl

variable {x w}

/-- With finite logits the reference's result is their rows' softmax. -/
theorem result_value (g : Fin 512 → ℕ → ℝ) (hg : ∀ p (j : Fin 32768), logits x w (ValueIdx.ix2 p j) = (g p j.val : EReal))
    (p : Fin 512) (j : Fin 32768) : result x w (ValueIdx.ix2 p j) = ((soft 32768 (g p) j.val : ℝ) : EReal) := by
  obtain ⟨M, hM⟩ := fold_max_finite (n := 32768) (by decide) (fun j => g p j.val)
  have hl : largest x w (ValueIdx.ix1 p) = (M : EReal) := by
    unfold largest
    rw [Host.reduce_eq_fold_single _ _ _ _ reduces_columns, ← hM]
    show Finset.fold max (Ideal.ofBits .f32 0xFF800000#32) _ _ = _
    rw [minus_infinity]
    refine congrArg (fun f => Finset.fold max (⊥ : EReal) f (Finset.univ : Finset (Fin 32768))) (funext fun k => ?_)
    exact (congrArg (logits x w) (lift_columns p k)).trans (hg p k)
  have he : ∀ k : Fin 32768, exps x w (ValueIdx.ix2 p k) = ((Real.exp (g p k.val - M) : ℝ) : EReal) := fun k => by
    show Ideal.exp (logits x w (ValueIdx.ix2 p k) - wide (largest x w) (ValueIdx.ix2 p k)) = _
    rw [hg, wide_apply, hl, ← EReal.coe_sub, Ideal.exp_coe]
  unfold result
  rw [ValueIdx.hostDivf_apply, wide_apply, ValueIdx.hostReduceAdd_apply, Ideal.hostReduceAdd_single _ reduces_columns, he, ← soft_div (by decide) (g p) M]
  refine congrArg (Ideal.div _) ?_
  show Ideal.ofBits .f32 0x00000000#32 + _ = _
  rw [Ideal.ofBits_zero_f32, zero_add]
  unfold total
  rw [Finset.sum_range, ← coe_sum]
  exact Finset.sum_congr rfl fun k _ => (congrArg _ (lift_columns p k)).trans (he k)

end Cert.Softmax.Ref

end
-- ==== Proof.Algebraic.lean ====
/-
# The kernel against the reference

Given finite `x` and `W`, every device of the kernel ends with the reference's result: both are the softmax of the rows
of `x @ W`.
-/
module

public import proofs.«01_k».proof.Defs
public import proofs.«01_k».proof.Proof.KernelValue
public import proofs.«01_k».proof.Proof.ReferenceValue
public import proofs.«01_k».proof.Proof.Launch
public import proofs.«01_k».proof.Proof.Gen.ReferenceIdeal.Run

@[expose] public section

set_option maxRecDepth 100000

noncomputable section

namespace Cert.Softmax

open Idealize.ShloMosaic Idealize.ShloMosaic.TcCoe
open Idealize.SL Idealize.SL.Sem
open Cert.KernelIdeal (nD τ sig main_arg0 main_arg1 main_v1 win0_0)

/-! ## What the precondition says -/

/-- The pattern of infinity. -/
theorem infinity_pattern : Ideal.ofBits .bf16 0x7F80#16 = ⊤ := by
  simp [Ideal.ofBits, Ideal.ieee]

/-- A value whose magnitude is below infinity is a real number. -/
theorem real_of_test {x : EReal} (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  refine (EReal.coe_toReal (fun ht => ?_) (fun hb => ?_)).symm
  · rw [ht] at hlt; exact absurd (lt_of_le_of_lt (le_max_left _ _) hlt) (lt_irrefl _)
  · rw [hb, EReal.neg_bot] at hlt; exact absurd (lt_of_le_of_lt (le_max_right _ _) hlt) (lt_irrefl _)

section
variable [Cert.Pre_finite_KernelIdeal.Facts] (a : FVec Ideal Cert.Pre_finite_KernelIdeal.S512x1024 .bf16)
  (b : FVec Ideal Cert.Pre_finite_KernelIdeal.S1024x8192 .bf16)

/-- The precondition's first result, at one entry. -/
theorem real_left (h : (Cert.Pre_finite_KernelIdeal.fn (F := Ideal) a b).1 = fun _ => 1#1) (i) :
    a i = (((a i).toReal : ℝ) : EReal) := by
  refine real_of_test ?_
  rw [← infinity_pattern]
  exact congrFun h i

/-- The precondition's second result, at one entry. -/
theorem real_right (h : (Cert.Pre_finite_KernelIdeal.fn (F := Ideal) a b).2 = fun _ => 1#1) (i) :
    b i = (((b i).toReal : ℝ) : EReal) := by
  refine real_of_test ?_
  rw [← infinity_pattern]
  exact congrFun h i
end

/-! ## The blocks of `W` -/

/-- Device `c`'s block of `W` starts at column `8192 * yOf c`. -/
theorem block_apply {α : Type} (c : Dev nD) (v : (⟨2, ![1024, 32768]⟩ : Shape).Idx → α) (k : Fin 1024) (q : Fin 8192)
    (hq : 8192 * yOf c + q.val < 32768) :
    (Layout.blockN ⟨2, ![1024, 8192]⟩ ⟨2, ![1024, 32768]⟩ (Layout.meshBlock [2, 4, 4] ![[], [1]] c) v) (ValueIdx.ix2 k q)
      = v (ValueIdx.ix2 k ⟨8192 * yOf c + q.val, hq⟩) := by
  rw [Layout.blockN_apply]
  refine congrArg v ?_
  funext ax
  refine Fin.ext ?_
  rw [Layout.TilesN.idx_val]
  match ax with
  | ⟨0, _⟩ => show 0 * 1024 + k.val = k.val; omega
  | ⟨1, _⟩ => show (c.val / 4 % 4 * 1 + 0) * 8192 + q.val = 8192 * (c.val / 4 % 4) + q.val; omega

/-- What a device computes with of `x` is its whole copy. -/
theorem xv_eq (m : (ℓ : Loc nD τ sig) → Buf (Elt Ideal) ℓ) (ρ : Dev nD → PrngReg) (c : Dev nD) :
    xv m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-! ## The arguments as real numbers -/

section
variable (x : (⟨2, ![512, 1024]⟩ : Shape).Idx → EReal) (w : (⟨2, ![1024, 32768]⟩ : Shape).Idx → EReal)

/-- The real numbers of `x`. -/
def realX (p : Fin 512) (k : Fin 1024) : ℝ := (x (ValueIdx.ix2 p k)).toReal
/-- The real numbers of `W`, at a column given modulo their number. -/
def realW (k : Fin 1024) (j : ℕ) : ℝ := (w (ValueIdx.ix2 k ⟨j % 32768, Nat.mod_lt _ (by decide)⟩)).toReal

theorem realW_lt (k : Fin 1024) {j : ℕ} (hj : j < 32768) : realW w k j = (w (ValueIdx.ix2 k ⟨j, hj⟩)).toReal :=
  congrArg (fun n => (w (ValueIdx.ix2 k n)).toReal) (Fin.ext (Nat.mod_eq_of_lt hj))
end

section
variable [Cert.Pre_finite_KernelIdeal.Facts] {m : (ℓ : Loc nD τ sig) → Buf (Elt Ideal) ℓ} (ρ : Dev nD → PrngReg)
  {x : (⟨2, ![512, 1024]⟩ : Shape).Idx → EReal} {w : (⟨2, ![1024, 32768]⟩ : Shape).Idx → EReal}
  (hpre : Cert.Pre_KernelIdeal_finite_KernelIdeal m)
  (hx : ∀ c : Dev nD, m ((c : Thread nD τ).loc main_arg0) = x)
  (hw : ∀ c : Dev nD, m ((c : Thread nD τ).loc main_arg1)
    = Layout.blockN ⟨2, ![1024, 8192]⟩ ⟨2, ![1024, 32768]⟩ (Layout.meshBlock [2, 4, 4] ![[], [1]] c) w)

include hpre hx in
/-- `x` is finite. -/
theorem x_real (p : Fin 512) (k : Fin 1024) : x (ValueIdx.ix2 p k) = (realX x p k : EReal) := by
  have h := real_left _ _ (hpre 0).1 (ValueIdx.ix2 p k)
  rw [hx 0] at h
  exact h

include hpre hw in
/-- A device's columns of `W` are finite. -/
theorem w_real_at (c : Dev nD) (k : Fin 1024) (q : Fin 8192) (hq : 8192 * yOf c + q.val < 32768) :
    w (ValueIdx.ix2 k ⟨8192 * yOf c + q.val, hq⟩) = (realW w k (8192 * yOf c + q.val) : EReal) := by
  have h := real_right _ _ (hpre c).2 (ValueIdx.ix2 k q)
  rw [hw c, block_apply c w k q hq] at h
  rw [realW_lt w k hq]
  exact h

include hpre hw in
/-- `W` is finite: each column is in some device's block. -/
theorem w_real (k : Fin 1024) (j : Fin 32768) : w (ValueIdx.ix2 k j) = (realW w k j.val : EReal) := by
  have hj := j.isLt
  have hy : yOf (devAt 0 (j.val / 8192)) = j.val / 8192 := by
    show (0 / 16 * 16 + j.val / 8192 % 4 * 4 + 0 % 4) / 4 % 4 = _
    omega
  have he : 8192 * yOf (devAt 0 (j.val / 8192)) + j.val % 8192 = j.val := by rw [hy]; omega
  have h := w_real_at hpre hw (devAt 0 (j.val / 8192)) k ⟨j.val % 8192, Nat.mod_lt _ (by decide)⟩
    (by show 8192 * yOf (devAt 0 (j.val / 8192)) + j.val % 8192 < 32768; omega)
  have hfin : (⟨8192 * yOf (devAt 0 (j.val / 8192)) + j.val % 8192, by omega⟩ : Fin 32768) = j := Fin.ext he
  have h1 : w (ValueIdx.ix2 k j)
      = w (ValueIdx.ix2 k ⟨8192 * yOf (devAt 0 (j.val / 8192)) + j.val % 8192, by omega⟩) :=
    congrArg (fun n => w (ValueIdx.ix2 k n)) hfin.symm
  exact h1.trans (h.trans (congrArg (fun n => ((realW w k n : ℝ) : EReal)) he))

include hpre hx hw in
/-- Every device holds `x` and its block of `W`, real numbers. -/
theorem holds : Holds m ρ (realX x) (realW w) where
  x c p k := by rw [xv_eq, hx c]; exact x_real hpre hx p k
  w c k q := by
    have hy := yOf_lt c
    have hq : 8192 * yOf c + q.val < 32768 := by have := q.isLt; omega
    show m ((c : Thread nD τ).loc main_arg1) (ValueIdx.ix2 k q) = _
    rw [hw c, block_apply c w k q hq]
    exact w_real_at hpre hw c k q hq

include hpre hx hw in
/-- The reference's logits are the product's entries. -/
theorem logits_real (p : Fin 512) (j : Fin 32768) :
    Ref.logits x w (ValueIdx.ix2 p j) = (logit (realX x) (realW w) p j.val : EReal) := by
  rw [Ref.logits_apply, Finset.sum_congr rfl (g := fun k => (realX x p k : EReal) * (realW w k j.val : EReal))
    (fun k _ => by rw [x_real hpre hx, w_real hpre hw]), coe_dot]
  rfl

include hpre hx hw in
/-- Every device's result is the reference's. -/
theorem out_eq_reference (c : Dev nD) : OUT m ρ c = Ref.result x w := by
  funext i
  rw [ValueIdx.eq_ix2 i]
  exact (out_value (holds ρ hpre hx hw) c (i 0) (i 1)).trans
    (Ref.result_value (logit (realX x) (realW w)) (logits_real hpre hx hw) (i 0) (i 1)).symm
end

/-- The kernel and the reference, run on the same finite arrays, end with the same result, on every device. -/
theorem algebraic [hP : Cert.Pre_finite_KernelIdeal.Facts] :
    Cert.algebraic_KernelIdeal_ReferenceIdeal_pre_finite_KernelIdeal := by
  intro m g m' g' hpre hargs
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (out_eq_reference g hpre (fun c => (hargs c).1) (fun c => (hargs c).2) c), (h.1 c).2⟩)
      (run_main (F := Ideal) m g)
  · exact (θ_run Cert.ReferenceIdeal.defs _ _).mono (fun _ h => h 0) (Cert.ReferenceIdeal.Value.run (F := Ideal) m' g')

end Cert.Softmax

end
-- ==== Proof.lean ====
/-
# The certificate

The proofs of the claims, put together.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

/-- The reference ends, keeps its arguments and has no counter. -/
theorem frame_referenceIdeal : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem claim : Cert.Claim :=
  haveI hK : Cert.Pre_finite_KernelIdeal.Facts := ⟨by decide, by decide⟩
  haveI hR : Cert.Pre_finite_ReferenceIdeal.Facts := ⟨by decide, by decide⟩
  ⟨Cert.Kernel.Gen.facts, Cert.KernelIdeal.Gen.facts, Cert.ReferenceIdeal.Gen.facts, hK, hR,
    Cert.Softmax.frame_kernel, Cert.Softmax.frame_kernelIdeal, fun m g _ => Cert.Softmax.frame_any (F := Ideal) m g,
    frame_referenceIdeal, fun m g _ => frame_referenceIdeal m g trivial, trivial, Cert.Softmax.algebraic⟩

end Cert.Proof

end
